-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S1024x200 : Shape := ⟨2, ![1024, 200]⟩
abbrev S20000x64 : Shape := ⟨2, ![20000, 64]⟩
abbrev S64x512 : Shape := ⟨2, ![64, 512]⟩
abbrev S128x512 : Shape := ⟨2, ![128, 512]⟩
abbrev S512 : Shape := ⟨1, ![512]⟩
abbrev S512x128 : Shape := ⟨2, ![512, 128]⟩
abbrev S128x2 : Shape := ⟨2, ![128, 2]⟩
abbrev S2 : Shape := ⟨1, ![2]⟩
abbrev S_ : Shape := ⟨0, ![]⟩

class Facts : Prop where
  bcast_S_S1024x200 : S_.BroadcastsInDim S1024x200 (![] : Fin 0 → Fin S1024x200.rank)
  reducesTo_S1024x200_S_d0_1 : S1024x200.ReducesTo [0, 1] S_
  h_S_ : 0 < S_.numel

variable [Facts]

def fn {F : FTy → Type} [FloatOps F] (main_arg0 : IVec S1024x200 32) (main_arg1 : FVec F S20000x64 .f32) (main_arg2 : FVec F S64x512 .f32) (main_arg3 : FVec F S128x512 .f32) (main_arg4 : FVec F S512 .f32) (main_arg5 : FVec F S64x512 .f32) (main_arg6 : FVec F S128x512 .f32) (main_arg7 : FVec F S512 .f32) (main_arg8 : FVec F S512x128 .f32) (main_arg9 : FVec F S128x2 .f32) (main_arg10 : FVec F S2 .f32) : IVec S_ 1 :=
  let main_c : IVec S_ 32 := constantI S_ 32 0#32
  let main_v0 : IVec S1024x200 32 := broadcastInDim S1024x200 ![] bcast_S_S1024x200 main_c
  let main_v1 : IVec S1024x200 1 := cmpi .sge main_arg0 main_v0
  let main_c_0 : IVec S_ 32 := constantI S_ 32 20000#32
  let main_v2 : IVec S1024x200 32 := broadcastInDim S1024x200 ![] bcast_S_S1024x200 main_c_0
  let main_v3 : IVec S1024x200 1 := cmpi .slt main_arg0 main_v2
  let main_v4 : IVec S1024x200 1 := andi main_v1 main_v3
  let main_c_1 : IVec S_ 1 := constantI S_ 1 1#1
  let main_v5 : IVec S_ 1 := (fun x v => Host.reduce IntOp.andi x v reducesTo_S1024x200_S_d0_1 h_S_) main_v4 main_c_1
  main_v5
-- ==== Kernel.lean ====
abbrev S1024x200 : Shape := ⟨2, ![1024, 200]⟩
abbrev S20000x64 : Shape := ⟨2, ![20000, 64]⟩
abbrev S64x512 : Shape := ⟨2, ![64, 512]⟩
abbrev S128x512 : Shape := ⟨2, ![128, 512]⟩
abbrev S512 : Shape := ⟨1, ![512]⟩
abbrev S512x128 : Shape := ⟨2, ![512, 128]⟩
abbrev S128x2 : Shape := ⟨2, ![128, 2]⟩
abbrev S2 : Shape := ⟨1, ![2]⟩
abbrev S200x1024 : Shape := ⟨2, ![200, 1024]⟩
abbrev S204800 : Shape := ⟨1, ![204800]⟩
abbrev S_ : Shape := ⟨0, ![]⟩
abbrev S20000x128 : Shape := ⟨2, ![20000, 128]⟩
abbrev S204800x128 : Shape := ⟨2, ![204800, 128]⟩
abbrev S6400 : Shape := ⟨1, ![6400]⟩
abbrev S400x128 : Shape := ⟨2, ![400, 128]⟩
abbrev S400 : Shape := ⟨1, ![400]⟩
abbrev S200x1024x128 : Shape := ⟨3, ![200, 1024, 128]⟩
abbrev S1x512 : Shape := ⟨2, ![1, 512]⟩
abbrev S1024x256 : Shape := ⟨2, ![1024, 256]⟩
abbrev S1x1024x128 : Shape := ⟨3, ![1, 1024, 128]⟩
abbrev S1024x128 : Shape := ⟨2, ![1024, 128]⟩
abbrev S1024x512 : Shape := ⟨2, ![1024, 512]⟩
abbrev S1x2 : Shape := ⟨2, ![1, 2]⟩
abbrev S1024x2 : Shape := ⟨2, ![1024, 2]⟩
abbrev S1024x1 : Shape := ⟨2, ![1024, 1]⟩
abbrev S1024 : Shape := ⟨1, ![1024]⟩
abbrev S128x128 : Shape := ⟨2, ![128, 128]⟩

abbrev nBuf : Table → Nat
  | .hbm => 31
  | .local .tc .vmem => 32
  | .local .scVector .vmem => 3
  | _ => 0

abbrev bufTy : (tb : Table) → Fin (nBuf tb) → BufTy
  | .hbm, ⟨0, _⟩ => ⟨S1024x200, .i32⟩
  | .hbm, ⟨1, _⟩ => ⟨S20000x64, .f32⟩
  | .hbm, ⟨2, _⟩ => ⟨S64x512, .f32⟩
  | .hbm, ⟨3, _⟩ => ⟨S128x512, .f32⟩
  | .hbm, ⟨4, _⟩ => ⟨S512, .f32⟩
  | .hbm, ⟨5, _⟩ => ⟨S64x512, .f32⟩
  | .hbm, ⟨6, _⟩ => ⟨S128x512, .f32⟩
  | .hbm, ⟨7, _⟩ => ⟨S512, .f32⟩
  | .hbm, ⟨8, _⟩ => ⟨S512x128, .f32⟩
  | .hbm, ⟨9, _⟩ => ⟨S128x2, .f32⟩
  | .hbm, ⟨10, _⟩ => ⟨S2, .f32⟩
  | .hbm, ⟨11, _⟩ => ⟨S200x1024, .i32⟩
  | .hbm, ⟨12, _⟩ => ⟨S204800, .i32⟩
  | .hbm, ⟨13, _⟩ => ⟨S_, .i32⟩
  | .hbm, ⟨14, _⟩ => ⟨S_, .f32⟩
  | .hbm, ⟨15, _⟩ => ⟨S20000x128, .f32⟩
  | .hbm, ⟨16, _⟩ => ⟨S_, .i32⟩
  | .hbm, ⟨17, _⟩ => ⟨S_, .f32⟩
  | .hbm, ⟨18, _⟩ => ⟨S128x512, .f32⟩
  | .hbm, ⟨19, _⟩ => ⟨S_, .i32⟩
  | .hbm, ⟨20, _⟩ => ⟨S_, .f32⟩
  | .hbm, ⟨21, _⟩ => ⟨S128x512, .f32⟩
  | .hbm, ⟨22, _⟩ => ⟨S204800x128, .f32⟩
  | .hbm, ⟨23, _⟩ => ⟨S200x1024x128, .f32⟩
  | .hbm, ⟨24, _⟩ => ⟨S1x512, .f32⟩
  | .hbm, ⟨25, _⟩ => ⟨S1x512, .f32⟩
  | .hbm, ⟨26, _⟩ => ⟨S200x1024x128, .f32⟩
  | .hbm, ⟨27, _⟩ => ⟨S200x1024x128, .f32⟩
  | .hbm, ⟨28, _⟩ => ⟨S1024x256, .f32⟩
  | .hbm, ⟨29, _⟩ => ⟨S1x2, .f32⟩
  | .hbm, ⟨30, _⟩ => ⟨S1024x2, .f32⟩
  | .local .tc .vmem, ⟨0, _⟩ => ⟨S1x1024x128, .f32⟩
  | .local .tc .vmem, ⟨1, _⟩ => ⟨S1x1024x128, .f32⟩
  | .local .tc .vmem, ⟨2, _⟩ => ⟨S1x1024x128, .f32⟩
  | .local .tc .vmem, ⟨3, _⟩ => ⟨S1x1024x128, .f32⟩
  | .local .tc .vmem, ⟨4, _⟩ => ⟨S128x512, .f32⟩
  | .local .tc .vmem, ⟨5, _⟩ => ⟨S128x512, .f32⟩
  | .local .tc .vmem, ⟨6, _⟩ => ⟨S1x512, .f32⟩
  | .local .tc .vmem, ⟨7, _⟩ => ⟨S128x512, .f32⟩
  | .local .tc .vmem, ⟨8, _⟩ => ⟨S128x512, .f32⟩
  | .local .tc .vmem, ⟨9, _⟩ => ⟨S1x512, .f32⟩
  | .local .tc .vmem, ⟨10, _⟩ => ⟨S1x1024x128, .f32⟩
  | .local .tc .vmem, ⟨11, _⟩ => ⟨S1x1024x128, .f32⟩
  | .local .tc .vmem, ⟨12, _⟩ => ⟨S1x1024x128, .f32⟩
  | .local .tc .vmem, ⟨13, _⟩ => ⟨S1x1024x128, .f32⟩
  | .local .tc .vmem, ⟨14, _⟩ => ⟨S1024x256, .f32⟩
  | .local .tc .vmem, ⟨15, _⟩ => ⟨S1024x128, .f32⟩
  | .local .tc .vmem, ⟨16, _⟩ => ⟨S1024x128, .f32⟩
  | .local .tc .vmem, ⟨17, _⟩ => ⟨S1024x128, .f32⟩
  | .local .tc .vmem, ⟨18, _⟩ => ⟨S1024x128, .f32⟩
  | .local .tc .vmem, ⟨19, _⟩ => ⟨S1x1024x128, .f32⟩
  | .local .tc .vmem, ⟨20, _⟩ => ⟨S1x1024x128, .f32⟩
  | .local .tc .vmem, ⟨21, _⟩ => ⟨S1x1024x128, .f32⟩
  | .local .tc .vmem, ⟨22, _⟩ => ⟨S1x1024x128, .f32⟩
  | .local .tc .vmem, ⟨23, _⟩ => ⟨S1024x256, .f32⟩
  | .local .tc .vmem, ⟨24, _⟩ => ⟨S512x128, .f32⟩
  | .local .tc .vmem, ⟨25, _⟩ => ⟨S128x2, .f32⟩
  | .local .tc .vmem, ⟨26, _⟩ => ⟨S1x2, .f32⟩
  | .local .tc .vmem, ⟨27, _⟩ => ⟨S1024x2, .f32⟩
  | .local .tc .vmem, ⟨28, _⟩ => ⟨S1024x1, .f32⟩
  | .local .tc .vmem, ⟨29, _⟩ => ⟨S1024x1, .f32⟩
  | .local .tc .vmem, ⟨30, _⟩ => ⟨S1024x128, .f32⟩
  | .local .tc .vmem, ⟨31, _⟩ => ⟨S1024x128, .f32⟩
  | .local .scVector .vmem, ⟨0, _⟩ => ⟨S6400, .i32⟩
  | .local .scVector .vmem, ⟨1, _⟩ => ⟨S400x128, .f32⟩
  | .local .scVector .vmem, ⟨2, _⟩ => ⟨S400x128, .f32⟩
  | _, _ => ⟨S1024x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 43 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTables nBuf rfl bufTy 4 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_call0_v0 : Ref sig .tc := ⟨.hbm, 14, rfl⟩
abbrev main_v2 : Ref sig .tc := ⟨.hbm, 15, rfl⟩
abbrev main_c_0 : Ref sig .tc := ⟨.hbm, 16, rfl⟩
abbrev main_call1_v0 : Ref sig .tc := ⟨.hbm, 17, rfl⟩
abbrev main_v3 : Ref sig .tc := ⟨.hbm, 18, rfl⟩
abbrev main_c_1 : Ref sig .tc := ⟨.hbm, 19, rfl⟩
abbrev main_call2_v0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9_0 : Ref sig .tc := ⟨.hbm, 26, rfl⟩
abbrev main_v9_1 : Ref sig .tc := ⟨.hbm, 27, rfl⟩
abbrev main_v9_2 : Ref sig .tc := ⟨.hbm, 28, rfl⟩
abbrev main_v10 : Ref sig .tc := ⟨.hbm, 29, rfl⟩
abbrev main_v11 : Ref sig .tc := ⟨.hbm, 30, rfl⟩
abbrev main_v2_scv : Ref sig .scVector := ⟨.hbm, 15, rfl⟩
abbrev main_v1_scv : Ref sig .scVector := ⟨.hbm, 12, rfl⟩
abbrev main_v5_scv : Ref sig .scVector := ⟨.hbm, 22, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg6_0 : Ref sig .tc := ⟨.vmem, 8, rfl⟩
abbrev cc1_stg7_0 : Ref sig .tc := ⟨.vmem, 9, rfl⟩
abbrev cc1_stg8_0 : Ref sig .tc := ⟨.vmem, 10, rfl⟩
abbrev cc1_stg8_1 : Ref sig .tc := ⟨.vmem, 11, rfl⟩
abbrev cc1_stg9_0 : Ref sig .tc := ⟨.vmem, 12, rfl⟩
abbrev cc1_stg9_1 : Ref sig .tc := ⟨.vmem, 13, rfl⟩
abbrev cc1_stg10_0 : Ref sig .tc := ⟨.vmem, 14, rfl⟩
abbrev cc1_scratch0 : Ref sig .tc := ⟨.vmem, 15, rfl⟩
abbrev cc1_scratch1 : Ref sig .tc := ⟨.vmem, 16, rfl⟩
abbrev cc1_scratch2 : Ref sig .tc := ⟨.vmem, 17, rfl⟩
abbrev cc1_scratch3 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_scratch0 : Ref sig .tc := ⟨.vmem, 28, rfl⟩
abbrev cc2_scratch1 : Ref sig .tc := ⟨.vmem, 29, rfl⟩
abbrev cc2_scratch2 : Ref sig .tc := ⟨.vmem, 30, rfl⟩
abbrev cc2_scratch3 : Ref sig .tc := ⟨.vmem, 31, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem3_0 : DmaSem sig := 24
abbrev cc1_sem4_0 : DmaSem sig := 25
abbrev cc1_sem5_0 : DmaSem sig := 26
abbrev cc1_sem6_0 : DmaSem sig := 27
abbrev cc1_sem7_0 : DmaSem sig := 28
abbrev cc1_sem8_0 : DmaSem sig := 29
abbrev cc1_sem8_1 : DmaSem sig := 30
abbrev cc1_sem9_0 : DmaSem sig := 31
abbrev cc1_sem9_1 : DmaSem sig := 32
abbrev cc1_sem10_0 : DmaSem sig := 33
abbrev cc2_sem0_0 : DmaSem sig := 34
abbrev cc2_sem0_1 : DmaSem sig := 35
abbrev cc2_sem1_0 : DmaSem sig := 36
abbrev cc2_sem1_1 : DmaSem sig := 37
abbrev cc2_sem2_0 : DmaSem sig := 38
abbrev cc2_sem3_0 : DmaSem sig := 39
abbrev cc2_sem4_0 : DmaSem sig := 40
abbrev cc2_sem5_0 : DmaSem sig := 41
abbrev cc2_sem6_0 : DmaSem sig := 42
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  ![v2.toNat]
def k0_off2 (i : grid0.Coords) (c0_i32_7 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let v9 : BitVec 32 := Scalar.addi v2 c0_i32_7
  let c0_i32_96_r1 : BitVec 32 := 0#32
  ![v9.toNat, 0]
abbrev grid1 : Pipeline.Grid := ⟨1, ![200], ![false]⟩

def k1_cond2 (i : grid1.Coords) : BitVec 1 :=
  let arg0 : BitVec 32 := BitVec.ofNat 32 (i 0).val
  let c0_i32_43 : BitVec 32 := 0#32
  let v75 : BitVec 1 := Scalar.cmpi .eq arg0 c0_i32_43
  let v76 : BitVec 32 := Scalar.extui v75
  let c0_i32_44 : BitVec 32 := 0#32
  let v77 : BitVec 1 := Scalar.cmpi .ne v76 c0_i32_44
  v77

def k1_cond3 (i : grid1.Coords) : BitVec 1 :=
  let arg0 : BitVec 32 := BitVec.ofNat 32 (i 0).val
  let c0_i32_45 : BitVec 32 := 0#32
  let v78 : BitVec 1 := Scalar.cmpi .sgt arg0 c0_i32_45
  let v79 : BitVec 32 := Scalar.extui v78
  let c0_i32_46 : BitVec 32 := 0#32
  let v80 : BitVec 1 := Scalar.cmpi .ne v79 c0_i32_46
  v80

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c199_i32 : BitVec 32 := 199#32
  let v0 : BitVec 32 := Scalar.subi c199_i32 arg0
  let c0_i32 : BitVec 32 := 0#32
  let c0_i32_0 : BitVec 32 := 0#32
  let c0_i32_1 : BitVec 32 := 0#32
  ![v0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let c199_i32 : BitVec 32 := 199#32
  let v0 : BitVec 32 := Scalar.subi c199_i32 arg0
  let c0_i32 : BitVec 32 := 0#32
  let c0_i32_0 : BitVec 32 := 0#32
  let c0_i32_1 : BitVec 32 := 0#32
  ![v0.toNat, c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S1x1024x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x1024x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S1024x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev grid2 : Pipeline.Grid := ⟨1, ![200], ![false]⟩

def k2_cond3 (i : grid2.Coords) : BitVec 1 :=
  let arg0 : BitVec 32 := BitVec.ofNat 32 (i 0).val
  let c199_i32 : BitVec 32 := 199#32
  let v21 : BitVec 1 := Scalar.cmpi .eq arg0 c199_i32
  let v22 : BitVec 32 := Scalar.extui v21
  let c0_i32_12 : BitVec 32 := 0#32
  let v23 : BitVec 1 := Scalar.cmpi .ne v22 c0_i32_12
  v23

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1x1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1024x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1024x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x2 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x2 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1024x2 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x200 : Shape := ⟨2, ![1024, 200]⟩
abbrev S20000x64 : Shape := ⟨2, ![20000, 64]⟩
abbrev S64x512 : Shape := ⟨2, ![64, 512]⟩
abbrev S128x512 : Shape := ⟨2, ![128, 512]⟩
abbrev S512 : Shape := ⟨1, ![512]⟩
abbrev S512x128 : Shape := ⟨2, ![512, 128]⟩
abbrev S128x2 : Shape := ⟨2, ![128, 2]⟩
abbrev S2 : Shape := ⟨1, ![2]⟩
abbrev S_ : Shape := ⟨0, ![]⟩
abbrev S1024x200x1 : Shape := ⟨3, ![1024, 200, 1]⟩
abbrev S1 : Shape := ⟨1, ![1]⟩
abbrev S1x1x1 : Shape := ⟨3, ![1, 1, 1]⟩
abbrev S1024x200x64 : Shape := ⟨3, ![1024, 200, 64]⟩
abbrev S200x1024x64 : Shape := ⟨3, ![200, 1024, 64]⟩
abbrev S1024x128 : Shape := ⟨2, ![1024, 128]⟩
abbrev S200x1024x128 : Shape := ⟨3, ![200, 1024, 128]⟩
abbrev S1x1024x64 : Shape := ⟨3, ![1, 1024, 64]⟩
abbrev S1024x64 : Shape := ⟨2, ![1024, 64]⟩
abbrev S1024x512 : Shape := ⟨2, ![1024, 512]⟩
abbrev S1x512 : Shape := ⟨2, ![1, 512]⟩
abbrev S1x1024x128 : Shape := ⟨3, ![1, 1024, 128]⟩
abbrev S200x1024x256 : Shape := ⟨3, ![200, 1024, 256]⟩
abbrev S1024x200x256 : Shape := ⟨3, ![1024, 200, 256]⟩
abbrev S1024x256 : Shape := ⟨2, ![1024, 256]⟩
abbrev S1024 : Shape := ⟨1, ![1024]⟩
abbrev S1024x1 : Shape := ⟨2, ![1024, 1]⟩
abbrev S1024x2 : Shape := ⟨2, ![1024, 2]⟩
abbrev S1x2 : Shape := ⟨2, ![1, 2]⟩

abbrev nBuf : Space → Nat
  | .hbm => 208
  | .vmem => 0
  | .smem => 0
  | _ => 0

abbrev hbmTy0_0 (i : Nat) : BufTy := match i % 128 with
  | 0 => ⟨S1024x200, .i32⟩
  | 1 => ⟨S20000x64, .f32⟩
  | 2 => ⟨S64x512, .f32⟩
  | 3 => ⟨S128x512, .f32⟩
  | 4 => ⟨S512, .f32⟩
  | 5 => ⟨S64x512, .f32⟩
  | 6 => ⟨S128x512, .f32⟩
  | 7 => ⟨S512, .f32⟩
  | 8 => ⟨S512x128, .f32⟩
  | 9 => ⟨S128x2, .f32⟩
  | 10 => ⟨S2, .f32⟩
  | 11 => ⟨S_, .i32⟩
  | 12 => ⟨S1024x200, .i32⟩
  | 13 => ⟨S1024x200, .i1⟩
  | 14 => ⟨S_, .i32⟩
  | 15 => ⟨S1024x200, .i32⟩
  | 16 => ⟨S1024x200, .i32⟩
  | 17 => ⟨S1024x200, .i32⟩
  | 18 => ⟨S1024x200x1, .i32⟩
  | 19 => ⟨S1, .i32⟩
  | 20 => ⟨S_, .i32⟩
  | 21 => ⟨S1024x200x1, .i32⟩
  | 22 => ⟨S1024x200x1, .i1⟩
  | 23 => ⟨S1x1x1, .i32⟩
  | 24 => ⟨S1024x200x1, .i32⟩
  | 25 => ⟨S1024x200x1, .i1⟩
  | 26 => ⟨S1024x200x1, .i1⟩
  | 27 => ⟨S_, .i1⟩
  | 28 => ⟨S1024x200, .i1⟩
  | 29 => ⟨S1024x200x64, .f32⟩
  | 30 => ⟨S1024x200x64, .i1⟩
  | 31 => ⟨S_, .f32⟩
  | 32 => ⟨S1024x200x64, .f32⟩
  | 33 => ⟨S1024x200x64, .f32⟩
  | 34 => ⟨S200x1024x64, .f32⟩
  | 35 => ⟨S_, .f32⟩
  | 36 => ⟨S1024x128, .f32⟩
  | 37 => ⟨S200x1024x64, .f32⟩
  | 38 => ⟨S_, .f32⟩
  | 39 => ⟨S200x1024x128, .f32⟩
  | 40 => ⟨S_, .f32⟩
  | 41 => ⟨S200x1024x128, .f32⟩
  | 42 => ⟨S_, .i32⟩
  | 43 => ⟨S200x1024x64, .f32⟩
  | 44 => ⟨S200x1024x64, .f32⟩
  | 45 => ⟨S64x512, .f32⟩
  | 46 => ⟨S128x512, .f32⟩
  | 47 => ⟨S512, .f32⟩
  | 48 => ⟨S64x512, .f32⟩
  | 49 => ⟨S128x512, .f32⟩
  | 50 => ⟨S512, .f32⟩
  | 51 => ⟨S_, .i32⟩
  | 52 => ⟨S1024x128, .f32⟩
  | 53 => ⟨S1024x128, .f32⟩
  | 54 => ⟨S1024x128, .f32⟩
  | 55 => ⟨S1024x128, .f32⟩
  | 56 => ⟨S200x1024x128, .f32⟩
  | 57 => ⟨S200x1024x128, .f32⟩
  | 58 => ⟨S_, .i32⟩
  | 59 => ⟨S_, .i1⟩
  | 60 => ⟨S_, .i32⟩
  | 61 => ⟨S_, .i32⟩
  | 62 => ⟨S1x1024x64, .f32⟩
  | 63 => ⟨S1024x64, .f32⟩
  | 64 => ⟨S_, .i32⟩
  | 65 => ⟨S_, .i32⟩
  | 66 => ⟨S1x1024x64, .f32⟩
  | 67 => ⟨S1024x64, .f32⟩
  | 68 => ⟨S1024x512, .f32⟩
  | 69 => ⟨S1024x512, .f32⟩
  | 70 => ⟨S1024x512, .f32⟩
  | 71 => ⟨S1x512, .f32⟩
  | 72 => ⟨S1024x512, .f32⟩
  | 73 => ⟨S1024x512, .f32⟩
  | 74 => ⟨S1024x128, .f32⟩
  | 75 => ⟨S1024x128, .f32⟩
  | 76 => ⟨S1024x128, .f32⟩
  | 77 => ⟨S_, .f32⟩
  | 78 => ⟨S1024x128, .f32⟩
  | 79 => ⟨S1024x128, .f32⟩
  | 80 => ⟨S_, .f32⟩
  | 81 => ⟨S1024x128, .f32⟩
  | 82 => ⟨S1024x128, .f32⟩
  | 83 => ⟨S1024x128, .f32⟩
  | 84 => ⟨S1024x128, .f32⟩
  | 85 => ⟨S1024x128, .f32⟩
  | 86 => ⟨S_, .f32⟩
  | 87 => ⟨S1024x128, .f32⟩
  | 88 => ⟨S1024x128, .f32⟩
  | 89 => ⟨S_, .f32⟩
  | 90 => ⟨S1024x128, .f32⟩
  | 91 => ⟨S1024x128, .f32⟩
  | 92 => ⟨S1024x128, .f32⟩
  | 93 => ⟨S1024x128, .f32⟩
  | 94 => ⟨S1024x128, .f32⟩
  | 95 => ⟨S1024x128, .f32⟩
  | 96 => ⟨S1024x128, .f32⟩
  | 97 => ⟨S_, .f32⟩
  | 98 => ⟨S1024x128, .f32⟩
  | 99 => ⟨S1024x128, .f32⟩
  | 100 => ⟨S_, .f32⟩
  | 101 => ⟨S1024x128, .f32⟩
  | 102 => ⟨S1024x128, .f32⟩
  | 103 => ⟨S1024x128, .f32⟩
  | 104 => ⟨S1024x128, .f32⟩
  | 105 => ⟨S1024x128, .f32⟩
  | 106 => ⟨S1024x128, .f32⟩
  | 107 => ⟨S1024x128, .f32⟩
  | 108 => ⟨S1024x512, .f32⟩
  | 109 => ⟨S1024x512, .f32⟩
  | 110 => ⟨S1024x512, .f32⟩
  | 111 => ⟨S1x512, .f32⟩
  | 112 => ⟨S1024x512, .f32⟩
  | 113 => ⟨S1024x512, .f32⟩
  | 114 => ⟨S1024x128, .f32⟩
  | 115 => ⟨S1024x128, .f32⟩
  | 116 => ⟨S1024x128, .f32⟩
  | 117 => ⟨S_, .f32⟩
  | 118 => ⟨S1024x128, .f32⟩
  | 119 => ⟨S1024x128, .f32⟩
  | 120 => ⟨S_, .f32⟩
  | 121 => ⟨S1024x128, .f32⟩
  | 122 => ⟨S1024x128, .f32⟩
  | 123 => ⟨S1024x128, .f32⟩
  | 124 => ⟨S1024x128, .f32⟩
  | 125 => ⟨S1024x128, .f32⟩
  | 126 => ⟨S_, .f32⟩
  | 127 => ⟨S1024x128, .f32⟩
  | _ => ⟨S1024x200, .i32⟩

abbrev hbmTy0_1 (i : Nat) : BufTy := match i % 128 with
  | 0 => ⟨S1024x128, .f32⟩
  | 1 => ⟨S_, .f32⟩
  | 2 => ⟨S1024x128, .f32⟩
  | 3 => ⟨S1024x128, .f32⟩
  | 4 => ⟨S1024x128, .f32⟩
  | 5 => ⟨S1024x128, .f32⟩
  | 6 => ⟨S1024x128, .f32⟩
  | 7 => ⟨S1024x128, .f32⟩
  | 8 => ⟨S1024x128, .f32⟩
  | 9 => ⟨S_, .f32⟩
  | 10 => ⟨S1024x128, .f32⟩
  | 11 => ⟨S1024x128, .f32⟩
  | 12 => ⟨S_, .f32⟩
  | 13 => ⟨S1024x128, .f32⟩
  | 14 => ⟨S1024x128, .f32⟩
  | 15 => ⟨S1024x128, .f32⟩
  | 16 => ⟨S1024x128, .f32⟩
  | 17 => ⟨S1024x128, .f32⟩
  | 18 => ⟨S1024x128, .f32⟩
  | 19 => ⟨S1024x128, .f32⟩
  | 20 => ⟨S1x1024x128, .f32⟩
  | 21 => ⟨S_, .i32⟩
  | 22 => ⟨S_, .i32⟩
  | 23 => ⟨S200x1024x128, .f32⟩
  | 24 => ⟨S1x1024x128, .f32⟩
  | 25 => ⟨S_, .i32⟩
  | 26 => ⟨S_, .i32⟩
  | 27 => ⟨S200x1024x128, .f32⟩
  | 28 => ⟨S_, .i32⟩
  | 29 => ⟨S_, .i32⟩
  | 30 => ⟨S200x1024x128, .f32⟩
  | 31 => ⟨S_, .f32⟩
  | 32 => ⟨S200x1024x256, .f32⟩
  | 33 => ⟨S_, .f32⟩
  | 34 => ⟨S200x1024x256, .f32⟩
  | 35 => ⟨S200x1024x256, .f32⟩
  | 36 => ⟨S1024x200x256, .f32⟩
  | 37 => ⟨S_, .f32⟩
  | 38 => ⟨S1024x256, .f32⟩
  | 39 => ⟨S1024x200, .f32⟩
  | 40 => ⟨S_, .f32⟩
  | 41 => ⟨S1024, .f32⟩
  | 42 => ⟨S_, .f32⟩
  | 43 => ⟨S1024, .f32⟩
  | 44 => ⟨S1024, .f32⟩
  | 45 => ⟨S1024x1, .f32⟩
  | 46 => ⟨S1024x200, .f32⟩
  | 47 => ⟨S1024x200, .f32⟩
  | 48 => ⟨S1024x200, .f32⟩
  | 49 => ⟨S_, .f32⟩
  | 50 => ⟨S1024, .f32⟩
  | 51 => ⟨S1024x1, .f32⟩
  | 52 => ⟨S1024x200, .f32⟩
  | 53 => ⟨S1024x200, .f32⟩
  | 54 => ⟨S1024x256, .f32⟩
  | 55 => ⟨S_, .f32⟩
  | 56 => ⟨S1024x512, .f32⟩
  | 57 => ⟨S_, .f32⟩
  | 58 => ⟨S1024x512, .f32⟩
  | 59 => ⟨S1024x512, .f32⟩
  | 60 => ⟨S1024x128, .f32⟩
  | 61 => ⟨S1024x128, .f32⟩
  | 62 => ⟨S1024x2, .f32⟩
  | 63 => ⟨S1x2, .f32⟩
  | 64 => ⟨S1024x2, .f32⟩
  | 65 => ⟨S1024x2, .f32⟩
  | 66 => ⟨S_, .f32⟩
  | 67 => ⟨S1024, .f32⟩
  | 68 => ⟨S_, .f32⟩
  | 69 => ⟨S1024, .f32⟩
  | 70 => ⟨S1024, .f32⟩
  | 71 => ⟨S1024x1, .f32⟩
  | 72 => ⟨S1024x2, .f32⟩
  | 73 => ⟨S1024x2, .f32⟩
  | 74 => ⟨S1024x2, .f32⟩
  | 75 => ⟨S_, .f32⟩
  | 76 => ⟨S1024, .f32⟩
  | 77 => ⟨S1024x1, .f32⟩
  | 78 => ⟨S1024x2, .f32⟩
  | 79 => ⟨S1024x2, .f32⟩
  | _ => ⟨S1024x200, .i32⟩

abbrev hbmTy (i : Nat) : BufTy := match i / 128 with
  | 0 => hbmTy0_0 i
  | 1 => hbmTy0_1 i
  | _ => ⟨S1024x200, .i32⟩

abbrev bufTy : (tb : Table) → Fin (tcTables nBuf tb) → BufTy
  | .hbm, ⟨i, _⟩ => hbmTy i
  | _, _ => ⟨S1024x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v0 : Ref sig .tc := ⟨.hbm, 33, rfl⟩
abbrev main_v1 : Ref sig .tc := ⟨.hbm, 34, rfl⟩
abbrev main_cst : Ref sig .tc := ⟨.hbm, 35, rfl⟩
abbrev main_v2 : Ref sig .tc := ⟨.hbm, 36, rfl⟩
abbrev main_v3 : Ref sig .tc := ⟨.hbm, 37, rfl⟩
abbrev main_cst_0 : Ref sig .tc := ⟨.hbm, 38, rfl⟩
abbrev main_v4 : Ref sig .tc := ⟨.hbm, 39, rfl⟩
abbrev main_cst_1 : Ref sig .tc := ⟨.hbm, 40, rfl⟩
abbrev main_v5 : Ref sig .tc := ⟨.hbm, 41, rfl⟩
abbrev main_c : Ref sig .tc := ⟨.hbm, 42, rfl⟩
abbrev main_v6_0 : Ref sig .tc := ⟨.hbm, 43, rfl⟩
abbrev main_v6_1 : Ref sig .tc := ⟨.hbm, 44, rfl⟩
abbrev main_v6_2 : Ref sig .tc := ⟨.hbm, 45, rfl⟩
abbrev main_v6_3 : Ref sig .tc := ⟨.hbm, 46, rfl⟩
abbrev main_v6_4 : Ref sig .tc := ⟨.hbm, 47, rfl⟩
abbrev main_v6_5 : Ref sig .tc := ⟨.hbm, 48, rfl⟩
abbrev main_v6_6 : Ref sig .tc := ⟨.hbm, 49, rfl⟩
abbrev main_v6_7 : Ref sig .tc := ⟨.hbm, 50, rfl⟩
abbrev main_v6_8 : Ref sig .tc := ⟨.hbm, 51, rfl⟩
abbrev main_v6_9 : Ref sig .tc := ⟨.hbm, 52, rfl⟩
abbrev main_v6_10 : Ref sig .tc := ⟨.hbm, 53, rfl⟩
abbrev main_v6_11 : Ref sig .tc := ⟨.hbm, 54, rfl⟩
abbrev main_v6_12 : Ref sig .tc := ⟨.hbm, 55, rfl⟩
abbrev main_v6_13 : Ref sig .tc := ⟨.hbm, 56, rfl⟩
abbrev main_v6_14 : Ref sig .tc := ⟨.hbm, 57, rfl⟩
abbrev main_while0c_c_27 : Ref sig .tc := ⟨.hbm, 58, rfl⟩
abbrev main_while0c_v46 : Ref sig .tc := ⟨.hbm, 59, rfl⟩
abbrev main_while0b_call1_c : Ref sig .tc := ⟨.hbm, 60, rfl⟩
abbrev main_while0b_call1_c_0 : Ref sig .tc := ⟨.hbm, 61, rfl⟩
abbrev main_while0b_call1_v0 : Ref sig .tc := ⟨.hbm, 62, rfl⟩
abbrev main_while0b_v46 : Ref sig .tc := ⟨.hbm, 63, rfl⟩
abbrev main_while0b_call2_c : Ref sig .tc := ⟨.hbm, 64, rfl⟩
abbrev main_while0b_call2_c_0 : Ref sig .tc := ⟨.hbm, 65, rfl⟩
abbrev main_while0b_call2_v0 : Ref sig .tc := ⟨.hbm, 66, rfl⟩
abbrev main_while0b_v47 : Ref sig .tc := ⟨.hbm, 67, rfl⟩
abbrev main_while0b_v48 : Ref sig .tc := ⟨.hbm, 68, rfl⟩
abbrev main_while0b_v49 : Ref sig .tc := ⟨.hbm, 69, rfl⟩
abbrev main_while0b_v50 : Ref sig .tc := ⟨.hbm, 70, rfl⟩
abbrev main_while0b_v51 : Ref sig .tc := ⟨.hbm, 71, rfl⟩
abbrev main_while0b_v52 : Ref sig .tc := ⟨.hbm, 72, rfl⟩
abbrev main_while0b_v53 : Ref sig .tc := ⟨.hbm, 73, rfl⟩
abbrev main_while0b_v54 : Ref sig .tc := ⟨.hbm, 74, rfl⟩
abbrev main_while0b_v55 : Ref sig .tc := ⟨.hbm, 75, rfl⟩
abbrev main_while0b_v56 : Ref sig .tc := ⟨.hbm, 76, rfl⟩
abbrev main_while0b_cst_27 : Ref sig .tc := ⟨.hbm, 77, rfl⟩
abbrev main_while0b_v57 : Ref sig .tc := ⟨.hbm, 78, rfl⟩
abbrev main_while0b_v58 : Ref sig .tc := ⟨.hbm, 79, rfl⟩
abbrev main_while0b_cst_28 : Ref sig .tc := ⟨.hbm, 80, rfl⟩
abbrev main_while0b_v59 : Ref sig .tc := ⟨.hbm, 81, rfl⟩
abbrev main_while0b_v60 : Ref sig .tc := ⟨.hbm, 82, rfl⟩
abbrev main_while0b_v61 : Ref sig .tc := ⟨.hbm, 83, rfl⟩
abbrev main_while0b_v62 : Ref sig .tc := ⟨.hbm, 84, rfl⟩
abbrev main_while0b_v63 : Ref sig .tc := ⟨.hbm, 85, rfl⟩
abbrev main_while0b_cst_29 : Ref sig .tc := ⟨.hbm, 86, rfl⟩
abbrev main_while0b_v64 : Ref sig .tc := ⟨.hbm, 87, rfl⟩
abbrev main_while0b_v65 : Ref sig .tc := ⟨.hbm, 88, rfl⟩
abbrev main_while0b_cst_30 : Ref sig .tc := ⟨.hbm, 89, rfl⟩
abbrev main_while0b_v66 : Ref sig .tc := ⟨.hbm, 90, rfl⟩
abbrev main_while0b_v67 : Ref sig .tc := ⟨.hbm, 91, rfl⟩
abbrev main_while0b_v68 : Ref sig .tc := ⟨.hbm, 92, rfl⟩
abbrev main_while0b_v69 : Ref sig .tc := ⟨.hbm, 93, rfl⟩
abbrev main_while0b_v70 : Ref sig .tc := ⟨.hbm, 94, rfl⟩
abbrev main_while0b_v71 : Ref sig .tc := ⟨.hbm, 95, rfl⟩
abbrev main_while0b_v72 : Ref sig .tc := ⟨.hbm, 96, rfl⟩
abbrev main_while0b_cst_31 : Ref sig .tc := ⟨.hbm, 97, rfl⟩
abbrev main_while0b_v73 : Ref sig .tc := ⟨.hbm, 98, rfl⟩
abbrev main_while0b_v74 : Ref sig .tc := ⟨.hbm, 99, rfl⟩
abbrev main_while0b_cst_32 : Ref sig .tc := ⟨.hbm, 100, rfl⟩
abbrev main_while0b_v75 : Ref sig .tc := ⟨.hbm, 101, rfl⟩
abbrev main_while0b_v76 : Ref sig .tc := ⟨.hbm, 102, rfl⟩
abbrev main_while0b_v77 : Ref sig .tc := ⟨.hbm, 103, rfl⟩
abbrev main_while0b_v78 : Ref sig .tc := ⟨.hbm, 104, rfl⟩
abbrev main_while0b_v79 : Ref sig .tc := ⟨.hbm, 105, rfl⟩
abbrev main_while0b_v80 : Ref sig .tc := ⟨.hbm, 106, rfl⟩
abbrev main_while0b_v81 : Ref sig .tc := ⟨.hbm, 107, rfl⟩
abbrev main_while0b_v82 : Ref sig .tc := ⟨.hbm, 108, rfl⟩
abbrev main_while0b_v83 : Ref sig .tc := ⟨.hbm, 109, rfl⟩
abbrev main_while0b_v84 : Ref sig .tc := ⟨.hbm, 110, rfl⟩
abbrev main_while0b_v85 : Ref sig .tc := ⟨.hbm, 111, rfl⟩
abbrev main_while0b_v86 : Ref sig .tc := ⟨.hbm, 112, rfl⟩
abbrev main_while0b_v87 : Ref sig .tc := ⟨.hbm, 113, rfl⟩
abbrev main_while0b_v88 : Ref sig .tc := ⟨.hbm, 114, rfl⟩
abbrev main_while0b_v89 : Ref sig .tc := ⟨.hbm, 115, rfl⟩
abbrev main_while0b_v90 : Ref sig .tc := ⟨.hbm, 116, rfl⟩
abbrev main_while0b_cst_33 : Ref sig .tc := ⟨.hbm, 117, rfl⟩
abbrev main_while0b_v91 : Ref sig .tc := ⟨.hbm, 118, rfl⟩
abbrev main_while0b_v92 : Ref sig .tc := ⟨.hbm, 119, rfl⟩
abbrev main_while0b_cst_34 : Ref sig .tc := ⟨.hbm, 120, rfl⟩
abbrev main_while0b_v93 : Ref sig .tc := ⟨.hbm, 121, rfl⟩
abbrev main_while0b_v94 : Ref sig .tc := ⟨.hbm, 122, rfl⟩
abbrev main_while0b_v95 : Ref sig .tc := ⟨.hbm, 123, rfl⟩
abbrev main_while0b_v96 : Ref sig .tc := ⟨.hbm, 124, rfl⟩
abbrev main_while0b_v97 : Ref sig .tc := ⟨.hbm, 125, rfl⟩
abbrev main_while0b_cst_35 : Ref sig .tc := ⟨.hbm, 126, rfl⟩
abbrev main_while0b_v98 : Ref sig .tc := ⟨.hbm, 127, rfl⟩
abbrev main_while0b_v99 : Ref sig .tc := ⟨.hbm, 128, rfl⟩
abbrev main_while0b_cst_36 : Ref sig .tc := ⟨.hbm, 129, rfl⟩
abbrev main_while0b_v100 : Ref sig .tc := ⟨.hbm, 130, rfl⟩
abbrev main_while0b_v101 : Ref sig .tc := ⟨.hbm, 131, rfl⟩
abbrev main_while0b_v102 : Ref sig .tc := ⟨.hbm, 132, rfl⟩
abbrev main_while0b_v103 : Ref sig .tc := ⟨.hbm, 133, rfl⟩
abbrev main_while0b_v104 : Ref sig .tc := ⟨.hbm, 134, rfl⟩
abbrev main_while0b_v105 : Ref sig .tc := ⟨.hbm, 135, rfl⟩
abbrev main_while0b_v106 : Ref sig .tc := ⟨.hbm, 136, rfl⟩
abbrev main_while0b_cst_37 : Ref sig .tc := ⟨.hbm, 137, rfl⟩
abbrev main_while0b_v107 : Ref sig .tc := ⟨.hbm, 138, rfl⟩
abbrev main_while0b_v108 : Ref sig .tc := ⟨.hbm, 139, rfl⟩
abbrev main_while0b_cst_38 : Ref sig .tc := ⟨.hbm, 140, rfl⟩
abbrev main_while0b_v109 : Ref sig .tc := ⟨.hbm, 141, rfl⟩
abbrev main_while0b_v110 : Ref sig .tc := ⟨.hbm, 142, rfl⟩
abbrev main_while0b_v111 : Ref sig .tc := ⟨.hbm, 143, rfl⟩
abbrev main_while0b_v112 : Ref sig .tc := ⟨.hbm, 144, rfl⟩
abbrev main_while0b_v113 : Ref sig .tc := ⟨.hbm, 145, rfl⟩
abbrev main_while0b_v114 : Ref sig .tc := ⟨.hbm, 146, rfl⟩
abbrev main_while0b_v115 : Ref sig .tc := ⟨.hbm, 147, rfl⟩
abbrev main_while0b_call3_v0 : Ref sig .tc := ⟨.hbm, 148, rfl⟩
abbrev main_while0b_call3_c : Ref sig .tc := ⟨.hbm, 149, rfl⟩
abbrev main_while0b_call3_c_0 : Ref sig .tc := ⟨.hbm, 150, rfl⟩
abbrev main_while0b_v116 : Ref sig .tc := ⟨.hbm, 151, rfl⟩
abbrev main_while0b_call4_v0 : Ref sig .tc := ⟨.hbm, 152, rfl⟩
abbrev main_while0b_call4_c : Ref sig .tc := ⟨.hbm, 153, rfl⟩
abbrev main_while0b_call4_c_0 : Ref sig .tc := ⟨.hbm, 154, rfl⟩
abbrev main_while0b_v117 : Ref sig .tc := ⟨.hbm, 155, rfl⟩
abbrev main_while0b_c_39 : Ref sig .tc := ⟨.hbm, 156, rfl⟩
abbrev main_while0b_v118 : Ref sig .tc := ⟨.hbm, 157, rfl⟩
abbrev main_v7 : Ref sig .tc := ⟨.hbm, 158, rfl⟩
abbrev main_cst_2 : Ref sig .tc := ⟨.hbm, 159, rfl⟩
abbrev main_v8 : Ref sig .tc := ⟨.hbm, 160, rfl⟩
abbrev main_cst_3 : Ref sig .tc := ⟨.hbm, 161, rfl⟩
abbrev main_v9 : Ref sig .tc := ⟨.hbm, 162, rfl⟩
abbrev main_v10 : Ref sig .tc := ⟨.hbm, 163, rfl⟩
abbrev main_v11 : Ref sig .tc := ⟨.hbm, 164, rfl⟩
abbrev main_cst_4 : Ref sig .tc := ⟨.hbm, 165, rfl⟩
abbrev main_v12 : Ref sig .tc := ⟨.hbm, 166, rfl⟩
abbrev main_v13 : Ref sig .tc := ⟨.hbm, 167, rfl⟩
abbrev main_cst_5 : Ref sig .tc := ⟨.hbm, 168, rfl⟩
abbrev main_v14 : Ref sig .tc := ⟨.hbm, 169, rfl⟩
abbrev main_cst_6 : Ref sig .tc := ⟨.hbm, 170, rfl⟩
abbrev main_v15 : Ref sig .tc := ⟨.hbm, 171, rfl⟩
abbrev main_v16 : Ref sig .tc := ⟨.hbm, 172, rfl⟩
abbrev main_v17 : Ref sig .tc := ⟨.hbm, 173, rfl⟩
abbrev main_v18 : Ref sig .tc := ⟨.hbm, 174, rfl⟩
abbrev main_v19 : Ref sig .tc := ⟨.hbm, 175, rfl⟩
abbrev main_v20 : Ref sig .tc := ⟨.hbm, 176, rfl⟩
abbrev main_cst_7 : Ref sig .tc := ⟨.hbm, 177, rfl⟩
abbrev main_v21 : Ref sig .tc := ⟨.hbm, 178, rfl⟩
abbrev main_v22 : Ref sig .tc := ⟨.hbm, 179, rfl⟩
abbrev main_v23 : Ref sig .tc := ⟨.hbm, 180, rfl⟩
abbrev main_v24 : Ref sig .tc := ⟨.hbm, 181, rfl⟩
abbrev main_v25 : Ref sig .tc := ⟨.hbm, 182, rfl⟩
abbrev main_cst_8 : Ref sig .tc := ⟨.hbm, 183, rfl⟩
abbrev main_v26 : Ref sig .tc := ⟨.hbm, 184, rfl⟩
abbrev main_cst_9 : Ref sig .tc := ⟨.hbm, 185, rfl⟩
abbrev main_v27 : Ref sig .tc := ⟨.hbm, 186, rfl⟩
abbrev main_v28 : Ref sig .tc := ⟨.hbm, 187, rfl⟩
abbrev main_v29 : Ref sig .tc := ⟨.hbm, 188, rfl⟩
abbrev main_v30 : Ref sig .tc := ⟨.hbm, 189, rfl⟩
abbrev main_v31 : Ref sig .tc := ⟨.hbm, 190, rfl⟩
abbrev main_v32 : Ref sig .tc := ⟨.hbm, 191, rfl⟩
abbrev main_v33 : Ref sig .tc := ⟨.hbm, 192, rfl⟩
abbrev main_v34 : Ref sig .tc := ⟨.hbm, 193, rfl⟩
abbrev main_cst_10 : Ref sig .tc := ⟨.hbm, 194, rfl⟩
abbrev main_v35 : Ref sig .tc := ⟨.hbm, 195, rfl⟩
abbrev main_cst_11 : Ref sig .tc := ⟨.hbm, 196, rfl⟩
abbrev main_v36 : Ref sig .tc := ⟨.hbm, 197, rfl⟩
abbrev main_v37 : Ref sig .tc := ⟨.hbm, 198, rfl⟩
abbrev main_v38 : Ref sig .tc := ⟨.hbm, 199, rfl⟩
abbrev main_v39 : Ref sig .tc := ⟨.hbm, 200, rfl⟩
abbrev main_v40 : Ref sig .tc := ⟨.hbm, 201, rfl⟩
abbrev main_v41 : Ref sig .tc := ⟨.hbm, 202, rfl⟩
abbrev main_cst_12 : Ref sig .tc := ⟨.hbm, 203, rfl⟩
abbrev main_v42 : Ref sig .tc := ⟨.hbm, 204, rfl⟩
abbrev main_v43 : Ref sig .tc := ⟨.hbm, 205, rfl⟩
abbrev main_v44 : Ref sig .tc := ⟨.hbm, 206, rfl⟩
abbrev main_v45 : Ref sig .tc := ⟨.hbm, 207, rfl⟩

abbrev nD : Nat := 1
abbrev τ : Topo := Topo.v7x

variable {F : FTy → Type} [FloatOps F]

abbrev main_while0_count : Scf.Loop 32 := ⟨0#32, 200#32, 1#32⟩
-- ==== Proof.Spec.lean ====
/-
  The mathematics both programs come to, row by row over the extended reals: a gated step, its iterates, the softmax
  that a running maximum and running sums carry, and the head.
-/
module

public import Idealize.ShloMosaic.PureOps.Ideal.Laws
public import Idealize.ShloMosaic.Lib.IdealHost

@[expose] public section

noncomputable section

namespace Cert.Proof.Spec

open Idealize.ShloMosaic

/-! ## One gated step of one row -/

/-- The four gates' arguments: the input through `W`, the hidden state through `U`, the bias. -/
def gates {K : ℕ} (x : Fin K → EReal) (h : Fin 128 → EReal) (W : Fin K → Fin 512 → EReal) (U : Fin 128 → Fin 512 → EReal)
    (b : Fin 512 → EReal) (j : Fin 512) : EReal := ∑ k, x k * W k j + ∑ k, h k * U k j + b j

/-- The cell state after the step. -/
def cell (z : Fin 512 → EReal) (c : Fin 128 → EReal) (u : Fin 128) : EReal :=
  Ideal.logistic (z ⟨128 + u, by omega⟩) * c u + Ideal.logistic (z ⟨u, by omega⟩) * Ideal.tanh (z ⟨256 + u, by omega⟩)

/-- The hidden state after the step. -/
def hid (z : Fin 512 → EReal) (c : Fin 128 → EReal) (u : Fin 128) : EReal :=
  Ideal.logistic (z ⟨384 + u, by omega⟩) * Ideal.tanh (cell z c u)

/-- A row's hidden and cell state after `n` steps, from zero, over the inputs `X 0`, `X 1`, …. -/
def lstm {K : ℕ} (X : ℕ → Fin K → EReal) (W : Fin K → Fin 512 → EReal) (U : Fin 128 → Fin 512 → EReal) (b : Fin 512 → EReal) :
    ℕ → (Fin 128 → EReal) × (Fin 128 → EReal)
  | 0 => (fun _ => 0, fun _ => 0)
  | n + 1 => (hid (gates (X n) (lstm X W U b n).1 W U b) (lstm X W U b n).2, cell (gates (X n) (lstm X W U b n).1 W U b) (lstm X W U b n).2)

theorem lstm_succ {K : ℕ} (X : ℕ → Fin K → EReal) (W : Fin K → Fin 512 → EReal) (U : Fin 128 → Fin 512 → EReal) (b : Fin 512 → EReal) (n : ℕ) :
    lstm X W U b (n + 1) = (hid (gates (X n) (lstm X W U b n).1 W U b) (lstm X W U b n).2, cell (gates (X n) (lstm X W U b n).1 W U b) (lstm X W U b n).2) := rfl

/-- Inputs and weights widened with zeros step alike. -/
theorem lstm_pad (X : ℕ → Fin 128 → EReal) (W : Fin 128 → Fin 512 → EReal) (X' : ℕ → Fin 64 → EReal) (W' : Fin 64 → Fin 512 → EReal)
    (U : Fin 128 → Fin 512 → EReal) (b : Fin 512 → EReal) (N : ℕ)
    (hX : ∀ n < N, ∀ k, X n k = if h : k.val < 64 then X' n ⟨k.val, h⟩ else 0) (hW : ∀ k j, W k j = if h : k.val < 64 then W' ⟨k.val, h⟩ j else 0) :
    ∀ n ≤ N, lstm X W U b n = lstm X' W' U b n
  | 0, _ => rfl
  | n + 1, hn => by
    have hg : gates (X n) (lstm X W U b n).1 W U b = gates (X' n) (lstm X' W' U b n).1 W' U b := by
      funext j
      unfold gates
      rw [lstm_pad X W X' W' U b N hX hW n (Nat.le_of_succ_le hn)]
      congr 2
      rw [show (∑ k : Fin 128, X n k * W k j) = ∑ k : Fin (64 + 64), X n k * W k j from rfl, Fin.sum_univ_add]
      have h2 : (∑ k : Fin 64, X n (Fin.natAdd 64 k) * W (Fin.natAdd 64 k) j) = 0 := by
        refine Finset.sum_eq_zero fun k _ => ?_
        rw [hX n hn, dif_neg (by simp), zero_mul]
      rw [h2, add_zero]
      refine Finset.sum_congr rfl fun k _ => ?_
      rw [hX n hn, hW, dif_pos (by simp), dif_pos (by simp)]
      rfl
    rw [lstm_succ, lstm_succ, hg, lstm_pad X W X' W' U b N hX hW n (Nat.le_of_succ_le hn)]

/-! ## The largest so far -/

/-- The largest of `f 0`, …, `f n`. -/
def peak (f : ℕ → EReal) : ℕ → EReal
  | 0 => f 0
  | n + 1 => max (peak f n) (f (n + 1))

theorem peak_le_iff (f : ℕ → EReal) (x : EReal) : ∀ n, peak f n ≤ x ↔ ∀ i ≤ n, f i ≤ x
  | 0 => ⟨fun h i hi => by obtain rfl := Nat.le_zero.mp hi; exact h, fun h => h 0 le_rfl⟩
  | n + 1 => by
    rw [peak, max_le_iff, peak_le_iff f x n]
    exact ⟨fun ⟨h, h'⟩ i hi => (Nat.lt_or_ge n i).elim (fun hl => by obtain rfl := Nat.le_antisymm hi hl; exact h') (h i),
      fun h => ⟨fun i hi => h i (Nat.le_succ_of_le hi), h _ le_rfl⟩⟩

/-- A maximum over all of `n + 1` positions, from the least value. -/
theorem fold_max_eq_peak (f : ℕ → EReal) (n : ℕ) : (Finset.univ : Finset (Fin (n + 1))).fold max ⊥ (fun t => f t.val) = peak f n := by
  refine eq_of_forall_ge_iff fun x => ?_
  rw [Finset.fold_max_le, peak_le_iff]
  exact ⟨fun h i hi => h.2 ⟨i, Nat.lt_succ_of_le hi⟩ (Finset.mem_univ _), fun h => ⟨bot_le, fun t _ => h t.val (Nat.le_of_lt_succ t.isLt)⟩⟩

theorem peak_real (g : ℕ → ℝ) : ∀ n, ∃ p : ℝ, peak (fun i => (g i : EReal)) n = p
  | 0 => ⟨g 0, rfl⟩
  | n + 1 => by
    obtain ⟨p, hp⟩ := peak_real g n
    exact ⟨max p (g (n + 1)), by rw [peak, hp]; exact (EReal.coe_strictMono.monotone.map_max).symm⟩

/-! ## The hidden states are real -/

theorem logistic_real (x : EReal) : ∃ y : ℝ, Ideal.logistic x = y := by
  induction x with
  | bot => exact ⟨0, Ideal.logistic_bot⟩
  | coe r => exact ⟨_, Ideal.logistic_coe r⟩
  | top => exact ⟨1, Ideal.logistic_top⟩
theorem tanh_real (x : EReal) : ∃ y : ℝ, Ideal.tanh x = y := by
  induction x with
  | bot => exact ⟨-1, by rw [Ideal.tanh_bot]; rfl⟩
  | coe r => exact ⟨_, Ideal.tanh_coe r⟩
  | top => exact ⟨1, Ideal.tanh_top⟩

theorem lstm_real {K : ℕ} (X : ℕ → Fin K → EReal) (W : Fin K → Fin 512 → EReal) (U : Fin 128 → Fin 512 → EReal) (b : Fin 512 → EReal) :
    ∃ g : ℕ → Fin 128 → ℝ, ∀ n u, (lstm X W U b (n + 1)).1 u = g n u := by
  have h : ∀ n u, ∃ y : ℝ, (lstm X W U b (n + 1)).1 u = y := fun n u => by
    rw [lstm_succ]; dsimp only; unfold hid
    obtain ⟨p, hp⟩ := logistic_real (gates (X n) (lstm X W U b n).1 W U b ⟨384 + u, by omega⟩)
    obtain ⟨q, hq⟩ := tanh_real (cell (gates (X n) (lstm X W U b n).1 W U b) (lstm X W U b n).2 u)
    exact ⟨p * q, by rw [hp, hq, EReal.coe_mul]⟩
  choose g hg using h
  exact ⟨g, hg⟩

/-! ## The softmax's weighted mean -/

/-- The mean of `h 0`, …, `h (N - 1)` at the weights `e ^ s i`. -/
def wmean (s h : ℕ → ℝ) (N : ℕ) : ℝ := (∑ i ∈ Finset.range N, Real.exp (s i) * h i) / ∑ i ∈ Finset.range N, Real.exp (s i)

/-- Any shift of the exponents leaves it. -/
theorem wmean_shift (s h : ℕ → ℝ) (N : ℕ) (m : ℝ) :
    (∑ i ∈ Finset.range N, Real.exp (s i - m) * h i) * (1 / ∑ i ∈ Finset.range N, Real.exp (s i - m)) = wmean s h N := by
  have e : ∀ i, Real.exp (s i - m) = Real.exp (s i) * (Real.exp m)⁻¹ := fun i => by rw [Real.exp_sub, div_eq_mul_inv]
  have e1 : (∑ i ∈ Finset.range N, Real.exp (s i - m) * h i) = (∑ i ∈ Finset.range N, Real.exp (s i) * h i) * (Real.exp m)⁻¹ := by
    rw [Finset.sum_mul]; exact Finset.sum_congr rfl fun i _ => by rw [e]; ring
  have e2 : (∑ i ∈ Finset.range N, Real.exp (s i - m)) = (∑ i ∈ Finset.range N, Real.exp (s i)) * (Real.exp m)⁻¹ := by
    rw [Finset.sum_mul]; exact Finset.sum_congr rfl fun i _ => e i
  rw [e1, e2, mul_one_div, mul_div_mul_right _ _ (inv_ne_zero (Real.exp_ne_zero m)), wmean]

theorem sum_exp_ne (s : ℕ → ℝ) (m : ℝ) (N : ℕ) : (∑ i ∈ Finset.range (N + 1), Real.exp (s i - m)) ≠ 0 :=
  (Finset.sum_pos (fun i _ => Real.exp_pos _) ⟨0, Finset.mem_range.mpr (Nat.succ_pos N)⟩).ne'

theorem coe_sum {ι : Type} (S : Finset ι) (f : ι → ℝ) : (∑ i ∈ S, (f i : EReal)) = ((∑ i ∈ S, f i : ℝ) : EReal) := by
  classical
  induction S using Finset.induction_on with
  | empty => simp
  | insert a S ha ih => rw [Finset.sum_insert ha, Finset.sum_insert ha, ih, EReal.coe_add]

/-- The weighted sums over the sum. -/
theorem mean_of_sums (s h : ℕ → ℝ) (N : ℕ) (m : ℝ) :
    ((∑ i ∈ Finset.range (N + 1), Real.exp (s i - m) * h i : ℝ) : EReal) * Ideal.div 1 ((∑ i ∈ Finset.range (N + 1), Real.exp (s i - m) : ℝ) : EReal)
      = (wmean s h (N + 1) : EReal) := by
  rw [Ideal.div_coe (sum_exp_ne s m N), one_mul, ← EReal.coe_mul, wmean_shift]

/-- The sum of the softmax's weights times the values. -/
theorem mean_of_weights (s h : ℕ → ℝ) (N : ℕ) (m : ℝ) :
    (∑ t : Fin (N + 1), (h t.val : EReal) * Ideal.div (Ideal.exp ((s t.val : EReal) - (m : EReal))) (∑ i : Fin (N + 1), Ideal.exp ((s i.val : EReal) - (m : EReal))))
      = (wmean s h (N + 1) : EReal) := by
  have e : ∀ i, Ideal.exp ((s i : EReal) - (m : EReal)) = ((Real.exp (s i - m) : ℝ) : EReal) := fun i => by rw [← EReal.coe_sub, Ideal.exp_coe]
  have e2 : (∑ i : Fin (N + 1), Ideal.exp ((s i.val : EReal) - (m : EReal))) = ((∑ i ∈ Finset.range (N + 1), Real.exp (s i - m) : ℝ) : EReal) := by
    rw [← coe_sum, ← Fin.sum_univ_eq_sum_range (fun i => ((Real.exp (s i - m) : ℝ) : EReal))]
    exact Finset.sum_congr rfl fun i _ => e i.val
  have e3 : (wmean s h (N + 1) : EReal) = ∑ i : Fin (N + 1), ((Real.exp (s i - m) * h i * (1 / ∑ k ∈ Finset.range (N + 1), Real.exp (s k - m)) : ℝ) : EReal) := by
    rw [← wmean_shift s h (N + 1) m, Finset.sum_mul, ← coe_sum, ← Fin.sum_univ_eq_sum_range (fun i => ((Real.exp (s i - m) * h i * (1 / ∑ k ∈ Finset.range (N + 1), Real.exp (s k - m)) : ℝ) : EReal))]
  rw [e2, e3]
  refine Finset.sum_congr rfl fun i _ => ?_
  rw [e, Ideal.div_coe (sum_exp_ne s m N), ← EReal.coe_mul, ← EReal.coe_mul]
  congr 1; ring

/-! ## The head of one row -/

/-- The squashed projection of the two context halves and the two halves of the maxima. -/
def headZ (cf cb pf pb : Fin 128 → EReal) (Wv : Fin 512 → Fin 128 → EReal) (j : Fin 128) : EReal :=
  Ideal.tanh (∑ k : Fin 128, cf k * Wv ⟨k, by omega⟩ j + ∑ k : Fin 128, cb k * Wv ⟨128 + k, by omega⟩ j
    + ∑ k : Fin 128, pf k * Wv ⟨256 + k, by omega⟩ j + ∑ k : Fin 128, pb k * Wv ⟨384 + k, by omega⟩ j)

def logits (z : Fin 128 → EReal) (Wd : Fin 128 → Fin 2 → EReal) (bd : Fin 2 → EReal) (j : Fin 2) : EReal := ∑ k, z k * Wd k j + bd j

def soft (l : Fin 2 → EReal) (j : Fin 2) : EReal :=
  Ideal.div (Ideal.exp (l j - Finset.univ.fold max ⊥ l)) (∑ k, Ideal.exp (l k - Finset.univ.fold max ⊥ l))

/-- The score of step `t`: its hidden states against the maxima. -/
def score (hf hb : ℕ → Fin 128 → ℝ) (pf pb : Fin 128 → ℝ) (t : ℕ) : ℝ := ∑ k, hf t k * pf k + ∑ k, hb t k * pb k

/-- One row's result off its hidden states. -/
def rowOut (hf hb : ℕ → Fin 128 → ℝ) (pf pb : Fin 128 → ℝ) (Wv : Fin 512 → Fin 128 → EReal) (Wd : Fin 128 → Fin 2 → EReal) (bd : Fin 2 → EReal) : Fin 2 → EReal :=
  soft (logits (headZ (fun u => (wmean (score hf hb pf pb) (fun t => hf t u) 200 : EReal)) (fun u => (wmean (score hf hb pf pb) (fun t => hb t u) 200 : EReal))
    (fun u => (pf u : EReal)) (fun u => (pb u : EReal)) Wv) Wd bd)

end Cert.Proof.Spec

end
-- ==== Proof.RefHead.lean ====
/-
  The reference after its loop, over the extended reals: off one row's real hidden states, its result is the head over
  their weighted means.
-/
module

public import proofs.«01_k».proof.Proof.Gen.ReferenceIdeal.Run
public import proofs.«01_k».proof.Proof.Spec
public import Idealize.ShloMosaic.Lib.Pointwise
public import Idealize.ShloMosaic.Lib.Tactic.CleanTypes

@[expose] public section

set_option maxRecDepth 16384

noncomputable section

namespace Cert.Proof.Ref

open Cert.ReferenceIdeal Cert.ReferenceIdeal.Gen Cert.ReferenceIdeal.Value

open Idealize.ShloMosaic Idealize.ShloMosaic.TcCoe
open Cert.Proof.Spec

/-! ## The stages -/

section Stages

variable (f b : FVec Ideal S200x1024x128 .f32)

/-- Both directions' hidden states side by side, a row's steps together. -/
def hid2 : FVec Ideal S1024x200x256 .f32 :=
  transpose S1024x200x256 [1, 0, 2] (addf (pad S200x1024x256 ![0, 0, 0] ![0, 0, 128] ![0, 0, 0] f (constant S_ .f32 0x00000000#32) pads_S200x1024x128_S200x1024x256_000_000_01280 h_S_)
    (pad S200x1024x256 ![0, 0, 128] ![0, 0, 0] ![0, 0, 0] (Host.reverse [0] b) (constant S_ .f32 0x00000000#32) pads_S200x1024x128_S200x1024x256_000_000_12800 h_S_)) transposes_S200x1024x256_S1024x200x256_1_0_2
/-- The largest hidden states of each row. -/
def top2 : FVec Ideal S1024x256 .f32 :=
  Host.reduce FloatOps.maximumf (hid2 f b) (constant S_ .f32 0xFF800000#32) reducesTo_S1024x200x256_S1024x256_d1 h_S_
/-- Each step's score. -/
def scr2 : FVec Ideal S1024x200 .f32 := Host.dotGeneral dot_S1024x200x256_S1024x256_S1024x200_2_1_1_n_0_0 none (hid2 f b) (top2 f b)
/-- The exponentials of the scores less the largest. -/
def exps (s : FVec Ideal S1024x200 .f32) : FVec Ideal S1024x200 .f32 :=
  Host.exp (subf s (broadcastInDim S1024x200 ![0, 1] bcast_S1024x1_S1024x200_0_1 (broadcastInDim S1024x1 ![0] bcast_S1024_S1024x1_0
    (maximumf (broadcastInDim S1024 ![] bcast_S_S1024 (constant S_ .f32 0xFF800000#32)) (Host.reduce FloatOps.maximumf s (constant S_ .f32 0xFF800000#32) reducesTo_S1024x200_S1024_d1 h_S_)))))
/-- Each row over its sum. -/
def norm (e : FVec Ideal S1024x200 .f32) : FVec Ideal S1024x200 .f32 :=
  Host.divf e (broadcastInDim S1024x200 ![0, 1] bcast_S1024x1_S1024x200_0_1 (broadcastInDim S1024x1 ![0] bcast_S1024_S1024x1_0 (Host.reduceAdd e (constant S_ .f32 0x00000000#32) reducesTo_S1024x200_S1024_d1 h_S_)))
/-- The weighted means. -/
def ctx2 : FVec Ideal S1024x256 .f32 := Host.dotGeneral dot_S1024x200x256_S1024x200_S1024x256_1_1_2_n_0_0 none (hid2 f b) (norm (exps (scr2 f b)))
/-- The means and the maxima side by side. -/
def pre2 (c x : FVec Ideal S1024x256 .f32) : FVec Ideal S1024x512 .f32 :=
  addf (pad S1024x512 ![0, 0] ![0, 256] ![0, 0] c (constant S_ .f32 0x00000000#32) pads_S1024x256_S1024x512_000_02560 h_S_)
    (pad S1024x512 ![0, 256] ![0, 0] ![0, 0] x (constant S_ .f32 0x00000000#32) pads_S1024x256_S1024x512_000_25600 h_S_)
/-- The squashed projection. -/
def sq2 (p : FVec Ideal S1024x512 .f32) (wv : FVec Ideal S512x128 .f32) : FVec Ideal S1024x128 .f32 :=
  Host.tanh (Host.dotGeneral dot_S1024x512_S512x128_S1024x128_1_0_0_1_n_n none p wv)
/-- The classes' logits. -/
def log2 (z : FVec Ideal S1024x128 .f32) (wd : FVec Ideal S128x2 .f32) (bd : FVec Ideal S2 .f32) : FVec Ideal S1024x2 .f32 :=
  addf (Host.dotGeneral dot_S1024x128_S128x2_S1024x2_1_0_0_1_n_n none z wd) (broadcastInDim S1024x2 ![0, 1] bcast_S1x2_S1024x2_0_1 (broadcastInDim S1x2 ![1] bcast_S2_S1x2_1 bd))
/-- The exponentials of the logits less the largest. -/
def exps2 (s : FVec Ideal S1024x2 .f32) : FVec Ideal S1024x2 .f32 :=
  Host.exp (subf s (broadcastInDim S1024x2 ![0, 1] bcast_S1024x1_S1024x2_0_1 (broadcastInDim S1024x1 ![0] bcast_S1024_S1024x1_0
    (maximumf (broadcastInDim S1024 ![] bcast_S_S1024 (constant S_ .f32 0xFF800000#32)) (Host.reduce FloatOps.maximumf s (constant S_ .f32 0xFF800000#32) reducesTo_S1024x2_S1024_d1 h_S_)))))
/-- Each row over its sum. -/
def norm2 (e : FVec Ideal S1024x2 .f32) : FVec Ideal S1024x2 .f32 :=
  Host.divf e (broadcastInDim S1024x2 ![0, 1] bcast_S1024x1_S1024x2_0_1 (broadcastInDim S1024x1 ![0] bcast_S1024_S1024x1_0 (Host.reduceAdd e (constant S_ .f32 0x00000000#32) reducesTo_S1024x2_S1024_d1 h_S_)))

end Stages

/-- The result is the stages in a row. -/
theorem out_eq (V0 : Valuation τ sig (Elt Ideal)) : out_main_v45 V0
    = norm2 (exps2 (log2 (sq2 (pre2 (ctx2 (V0 (Proc.devRef .tc main_v6_13)) (V0 (Proc.devRef .tc main_v6_14))) (top2 (V0 (Proc.devRef .tc main_v6_13)) (V0 (Proc.devRef .tc main_v6_14)))) (V0 (Proc.devRef .tc main_arg8)))
        (V0 (Proc.devRef .tc main_arg9)) (V0 (Proc.devRef .tc main_arg10)))) := rfl

/-! ## The stages at an element -/

theorem ofBits_least : Ideal.ofBits .f32 0xFF800000#32 = ⊥ := by simp [Ideal.ofBits, Ideal.ieee]

theorem sum256 (g : Fin 256 → EReal) : ∑ k, g k = ∑ k : Fin 128, g ⟨k, by omega⟩ + ∑ k : Fin 128, g ⟨128 + k, by omega⟩ :=
  Fin.sum_univ_add (a := 128) (b := 128) g
theorem sum512 (g : Fin 512 → EReal) : ∑ k, g k
    = ∑ k : Fin 128, g ⟨k, by omega⟩ + ∑ k : Fin 128, g ⟨128 + k, by omega⟩ + ∑ k : Fin 128, g ⟨256 + k, by omega⟩ + ∑ k : Fin 128, g ⟨384 + k, by omega⟩ := by
  rw [show ∑ k, g k = _ from Fin.sum_univ_add (a := 384) (b := 128) g]
  congr 1
  rw [Fin.sum_univ_add (a := 256) (b := 128)]
  congr 1
  exact Fin.sum_univ_add (a := 128) (b := 128) _

section At

variable (f b : FVec Ideal S200x1024x128 .f32) (r : Fin 1024) (t : Fin 200)

theorem hid2_lo (u : Fin 128) : hid2 f b (ix3 r t ⟨u.val, by omega⟩) = f (ix3 t r u) := by
  pointwise [hid2]
  simp
theorem hid2_hi (u : Fin 128) : hid2 f b (ix3 r t ⟨128 + u.val, by omega⟩) = b (ix3 ⟨199 - t.val, by omega⟩ r u) := by
  pointwise [hid2]
  simp
  exact congrArg (fun t => b (ix3 t r u)) (Fin.ext (show 200 - (t.val + 1) = 199 - t.val by omega))
theorem top2_apply (u : Fin 256) : top2 f b (ix2 r u) = Finset.univ.fold max ⊥ (fun t : Fin 200 => hid2 f b (ix3 r t u)) := by
  rw [← ofBits_least]
  unfold top2
  generalize hid2 f b = q
  pointwise
theorem scr2_apply : scr2 f b (ix2 r t) = ∑ k : Fin 256, hid2 f b (ix3 r t k) * top2 f b (ix2 r k) := by
  unfold scr2
  generalize hid2 f b = q
  generalize top2 f b = q'
  pointwise
theorem exps_apply (s : FVec Ideal S1024x200 .f32) : exps s (ix2 r t) = Ideal.exp (s (ix2 r t) - max ⊥ (Finset.univ.fold max ⊥ (fun t : Fin 200 => s (ix2 r t)))) := by
  rw [← ofBits_least]
  pointwise [exps]
theorem norm_apply (e : FVec Ideal S1024x200 .f32) : norm e (ix2 r t) = Ideal.div (e (ix2 r t)) (∑ t : Fin 200, e (ix2 r t)) := by
  pointwise [norm]
theorem ctx2_apply (u : Fin 256) : ctx2 f b (ix2 r u) = ∑ t : Fin 200, hid2 f b (ix3 r t u) * norm (exps (scr2 f b)) (ix2 r t) := by
  unfold ctx2
  generalize hid2 f b = q
  generalize norm (exps (scr2 f b)) = q'
  pointwise
theorem pre2_lo (c x : FVec Ideal S1024x256 .f32) (u : Fin 256) : pre2 c x (ix2 r ⟨u.val, by omega⟩) = c (ix2 r u) := by
  pointwise [pre2]
  simp
theorem pre2_hi (c x : FVec Ideal S1024x256 .f32) (u : Fin 256) : pre2 c x (ix2 r ⟨256 + u.val, by omega⟩) = x (ix2 r u) := by
  pointwise [pre2]
theorem sq2_apply (p : FVec Ideal S1024x512 .f32) (wv : FVec Ideal S512x128 .f32) (j : Fin 128) : sq2 p wv (ix2 r j) = Ideal.tanh (∑ k : Fin 512, p (ix2 r k) * wv (ix2 k j)) := by
  pointwise [sq2]
theorem log2_apply (z : FVec Ideal S1024x128 .f32) (wd : FVec Ideal S128x2 .f32) (bd : FVec Ideal S2 .f32) (j : Fin 2) :
    log2 z wd bd (ix2 r j) = logits (fun k => z (ix2 r k)) (fun k j => wd (ix2 k j)) (fun j => bd (ix1 j)) j := by
  pointwise [log2, logits]
theorem exps2_apply (s : FVec Ideal S1024x2 .f32) (j : Fin 2) : exps2 s (ix2 r j) = Ideal.exp (s (ix2 r j) - Finset.univ.fold max ⊥ (fun t : Fin 2 => s (ix2 r t))) := by
  have e : exps2 s (ix2 r j) = Ideal.exp (s (ix2 r j) - max ⊥ (Finset.univ.fold max ⊥ (fun t : Fin 2 => s (ix2 r t)))) := by
    rw [← ofBits_least]
    pointwise [exps2]
  rw [e, max_eq_right bot_le]
theorem norm2_apply (e : FVec Ideal S1024x2 .f32) (j : Fin 2) : norm2 e (ix2 r j) = Ideal.div (e (ix2 r j)) (∑ t : Fin 2, e (ix2 r t)) := by
  pointwise [norm2]

end At

/-! ## A row -/

variable {f b : FVec Ideal S200x1024x128 .f32} {r : Fin 1024} {hf hb : ℕ → Fin 128 → ℝ} {pf pb : Fin 128 → ℝ}

/-- A row's stacked hidden states and their maxima are given reals. -/
structure RefIn (f b : FVec Ideal S200x1024x128 .f32) (r : Fin 1024) (hf hb : ℕ → Fin 128 → ℝ) (pf pb : Fin 128 → ℝ) : Prop where
  f : ∀ (t : Fin 200) u, f (ix3 t r u) = (hf t u : EReal)
  b : ∀ (t : Fin 200) u, b (ix3 ⟨199 - t.val, by omega⟩ r u) = (hb t u : EReal)
  l : ∀ u : Fin 128, peak (fun t => (hf t u : EReal)) 199 = (pf u : EReal)
  h : ∀ u : Fin 128, peak (fun t => (hb t u : EReal)) 199 = (pb u : EReal)

variable (hin : RefIn f b r hf hb pf pb)

include hin

theorem top_lo (u : Fin 128) : top2 f b (ix2 r ⟨u.val, by omega⟩) = (pf u : EReal) := by
  rw [top2_apply]; simp only [hid2_lo, hin.f]
  exact (fold_max_eq_peak (fun t => (hf t u : EReal)) 199).trans (hin.l u)
theorem top_hi (u : Fin 128) : top2 f b (ix2 r ⟨128 + u.val, by omega⟩) = (pb u : EReal) := by
  rw [top2_apply]; simp only [hid2_hi, hin.b]
  exact (fold_max_eq_peak (fun t => (hb t u : EReal)) 199).trans (hin.h u)
theorem scr_apply (t : Fin 200) : scr2 f b (ix2 r t) = (score hf hb pf pb t : EReal) := by
  rw [scr2_apply, sum256]
  simp only [hid2_lo, hid2_hi, top_lo hin, top_hi hin, hin.f, hin.b]
  unfold score
  rw [EReal.coe_add, ← coe_sum, ← coe_sum]
  simp only [EReal.coe_mul]
theorem weight_apply : ∃ m : ℝ, ∀ t : Fin 200, norm (exps (scr2 f b)) (ix2 r t)
    = Ideal.div (Ideal.exp ((score hf hb pf pb t : EReal) - (m : EReal))) (∑ i : Fin 200, Ideal.exp ((score hf hb pf pb i : EReal) - (m : EReal))) := by
  obtain ⟨m, hm⟩ := peak_real (score hf hb pf pb) 199
  refine ⟨m, fun t => ?_⟩
  have e : ∀ t : Fin 200, exps (scr2 f b) (ix2 r t) = Ideal.exp ((score hf hb pf pb t : EReal) - (m : EReal)) := fun t => by
    rw [exps_apply, max_eq_right bot_le, scr_apply hin]
    simp only [scr_apply hin]
    rw [← hm]
    exact congrArg (fun x => Ideal.exp ((score hf hb pf pb t : EReal) - x)) (fold_max_eq_peak (fun t => (score hf hb pf pb t : EReal)) 199)
  rw [norm_apply]
  simp only [e]
theorem ctx_lo (u : Fin 128) : ctx2 f b (ix2 r ⟨u.val, by omega⟩) = (wmean (score hf hb pf pb) (fun t => hf t u) 200 : EReal) := by
  obtain ⟨m, hm⟩ := weight_apply hin
  rw [ctx2_apply]; simp only [hid2_lo, hin.f, hm]
  exact mean_of_weights (score hf hb pf pb) (fun t => hf t u) 199 m
theorem ctx_hi (u : Fin 128) : ctx2 f b (ix2 r ⟨128 + u.val, by omega⟩) = (wmean (score hf hb pf pb) (fun t => hb t u) 200 : EReal) := by
  obtain ⟨m, hm⟩ := weight_apply hin
  rw [ctx2_apply]; simp only [hid2_hi, hin.b, hm]
  exact mean_of_weights (score hf hb pf pb) (fun t => hb t u) 199 m

/-- A row of the squashed projection. -/
theorem sq_apply (wv : FVec Ideal S512x128 .f32) (k : Fin 128) : sq2 (pre2 (ctx2 f b) (top2 f b)) wv (ix2 r k)
    = headZ (fun u => (wmean (score hf hb pf pb) (fun t => hf t u) 200 : EReal)) (fun u => (wmean (score hf hb pf pb) (fun t => hb t u) 200 : EReal)) (fun u => (pf u : EReal)) (fun u => (pb u : EReal))
        (fun k j => wv (ix2 k j)) k := by
  have e0 : ∀ u : Fin 128, pre2 (ctx2 f b) (top2 f b) (ix2 r ⟨u.val, by omega⟩) = (wmean (score hf hb pf pb) (fun t => hf t u) 200 : EReal) := fun u =>
    (pre2_lo r _ _ ⟨u.val, by omega⟩).trans (ctx_lo hin u)
  have e1 : ∀ u : Fin 128, pre2 (ctx2 f b) (top2 f b) (ix2 r ⟨128 + u.val, by omega⟩) = (wmean (score hf hb pf pb) (fun t => hb t u) 200 : EReal) := fun u =>
    (pre2_lo r _ _ ⟨128 + u.val, by omega⟩).trans (ctx_hi hin u)
  have e2 : ∀ u : Fin 128, pre2 (ctx2 f b) (top2 f b) (ix2 r ⟨256 + u.val, by omega⟩) = (pf u : EReal) := fun u =>
    (pre2_hi r _ _ ⟨u.val, by omega⟩).trans (top_lo hin u)
  have e3 : ∀ u : Fin 128, pre2 (ctx2 f b) (top2 f b) (ix2 r ⟨384 + u.val, by omega⟩) = (pb u : EReal) := fun u =>
    (congrArg (fun k => pre2 (ctx2 f b) (top2 f b) (ix2 r k)) (Fin.ext (show 384 + u.val = 256 + (128 + u.val) by omega) : (⟨384 + u.val, by omega⟩ : Fin 512) = ⟨256 + (128 + u.val), by omega⟩)).trans
      ((pre2_hi r _ _ ⟨128 + u.val, by omega⟩).trans (top_hi hin u))
  rw [sq2_apply, sum512]
  simp only [e0, e1, e2, e3]
  rfl

/-- The result's row. -/
theorem out_apply (wv : FVec Ideal S512x128 .f32) (wd : FVec Ideal S128x2 .f32) (bd : FVec Ideal S2 .f32) (j : Fin 2) :
    norm2 (exps2 (log2 (sq2 (pre2 (ctx2 f b) (top2 f b)) wv) wd bd)) (ix2 r j)
      = rowOut hf hb pf pb (fun k j => wv (ix2 k j)) (fun k j => wd (ix2 k j)) (fun j => bd (ix1 j)) j := by
  rw [norm2_apply]
  simp only [exps2_apply, log2_apply, sq_apply hin]
  rfl

end Cert.Proof.Ref

end
-- ==== Proof.RefVal.lean ====
/-
  The reference's loop, over the extended reals: each row's states after each trip are the step's iterates, and the
  stacks hold the hidden states of the trips so far.
-/
module

public import proofs.«01_k».proof.Proof.RefHead
public import Idealize.ShloMosaic.Lib.DynamicIndex
public import Idealize.ShloMosaic.Lib.WordCmp

@[expose] public section

set_option maxRecDepth 16384

noncomputable section

namespace Cert.Proof.Ref

open Cert.ReferenceIdeal Cert.ReferenceIdeal.Gen Cert.ReferenceIdeal.Value

open Idealize.ShloMosaic Idealize.ShloMosaic.TcCoe
open Cert.Proof.Spec

/-! ## One trip at an element -/

/-- A step's inputs off the stacked ones, at a counter. -/
def at3 (X : FVec Ideal S200x1024x64 .f32) (k : IVec S_ 32) : FVec Ideal S1x1024x64 .f32 :=
  Host.dynamicSlice S1x1024x64 X (fun a => (((![k, constantI S_ 32 0#32, constantI S_ 32 0#32] : Fin 3 → (⟨S_, .i32⟩ : BufTy).Contents (Elt Ideal))) a (Shape.Idx.first h_S_)).toInt) sliceFits_S200x1024x64_S1x1024x64
/-- The gates' arguments. -/
def zed (x : FVec Ideal S1x1024x64 .f32) (W : FVec Ideal S64x512 .f32) (U : FVec Ideal S128x512 .f32) (b : FVec Ideal S512 .f32) (h : FVec Ideal S1024x128 .f32) : FVec Ideal S1024x512 .f32 :=
  addf (addf (Host.dotGeneral dot_S1024x64_S64x512_S1024x512_1_0_0_1_n_n none (shapeCast S1024x64 x shapeCasts_S1x1024x64_S1024x64) W)
    (Host.dotGeneral dot_S1024x128_S128x512_S1024x512_1_0_0_1_n_n none h U)) (broadcastInDim S1024x512 ![0, 1] bcast_S1x512_S1024x512_0_1 (broadcastInDim S1x512 ![1] bcast_S512_S1x512_1 b))
/-- The logistic of a quarter of them. -/
def lgs (q : FVec Ideal S1024x128 .f32) : FVec Ideal S1024x128 .f32 :=
  Host.divf (broadcastInDim S1024x128 ![] bcast_S_S1024x128 (constant S_ .f32 0x3F800000#32)) (addf (broadcastInDim S1024x128 ![] bcast_S_S1024x128 (constant S_ .f32 0x3F800000#32)) (Host.exp (Host.negf q)))
/-- The next cell state, and the next hidden state. -/
def nextC (z : FVec Ideal S1024x512 .f32) (c : FVec Ideal S1024x128 .f32) : FVec Ideal S1024x128 .f32 :=
  addf (mulf (lgs (extractStridedSlice S1024x128 ![0, 128] z slices_S1024x512_S1024x128_0_128)) c)
    (mulf (lgs (extractStridedSlice S1024x128 ![0, 0] z slices_S1024x512_S1024x128_0_0)) (Host.tanh (extractStridedSlice S1024x128 ![0, 256] z slices_S1024x512_S1024x128_0_256)))
def nextH (z : FVec Ideal S1024x512 .f32) (c : FVec Ideal S1024x128 .f32) : FVec Ideal S1024x128 .f32 :=
  mulf (lgs (extractStridedSlice S1024x128 ![0, 384] z slices_S1024x512_S1024x128_0_384)) (Host.tanh (nextC z c))
/-- A stack with one step's states put in at a counter. -/
def put3 (Y : FVec Ideal S200x1024x128 .f32) (h : FVec Ideal S1024x128 .f32) (k : IVec S_ 32) : FVec Ideal S200x1024x128 .f32 :=
  Host.dynamicUpdateSlice Y (broadcastInDim S1x1024x128 ![1, 2] bcast_S1024x128_S1x1024x128_1_2 h) (fun a => (((![k, constantI S_ 32 0#32, constantI S_ 32 0#32] : Fin 3 → (⟨S_, .i32⟩ : BufTy).Contents (Elt Ideal))) a (Shape.Idx.first h_S_)).toInt) updateFits_S200x1024x128_S1x1024x128

/-- The counter's step and two zeros, as the three places of a slice. -/
theorem starts_eq (n : ℕ) (hn : n < 200) (a : Fin 3) :
    (((![(fun _ => BitVec.ofNat 32 n), constantI S_ 32 0#32, constantI S_ 32 0#32] : Fin 3 → (⟨S_, .i32⟩ : BufTy).Contents (Elt Ideal))) a (Shape.Idx.first h_S_)).toInt = ((![n, 0, 0] : Fin 3 → ℕ) a : Int) := by
  fin_cases a
  · exact toInt_ofNat_of_lt (by omega)
  · rfl
  · rfl
theorem sl64 (n : ℕ) (hn : n < 200) : S200x1024x64.Slices ![n, 0, 0] S1x1024x64 :=
  ⟨rfl, fun a => by fin_cases a; exacts [(show n + 1 ≤ 200 by omega), (show 0 + 1024 ≤ 1024 by omega), (show 0 + 64 ≤ 64 by omega)]⟩
theorem sl128 (n : ℕ) (hn : n < 200) : S200x1024x128.Slices ![n, 0, 0] S1x1024x128 :=
  ⟨rfl, fun a => by fin_cases a; exacts [(show n + 1 ≤ 200 by omega), (show 0 + 1024 ≤ 1024 by omega), (show 0 + 128 ≤ 128 by omega)]⟩

theorem at3_apply (X : FVec Ideal S200x1024x64 .f32) (n : ℕ) (hn : n < 200) (r : Fin 1024) (k : Fin 64) :
    at3 X (fun _ => BitVec.ofNat 32 n) (ix3 0 r k) = X (ix3 ⟨n, hn⟩ r k) := by
  unfold at3
  rw [Host.dynamicSlice_eq_extractStridedSlice S1x1024x64 X _ ![n, 0, 0] _ (sl64 n hn) (starts_eq n hn)]
  pointwise

theorem put3_apply (Y : FVec Ideal S200x1024x128 .f32) (h : FVec Ideal S1024x128 .f32) (n : ℕ) (hn : n < 200) (t : Fin 200) (r : Fin 1024) (u : Fin 128) :
    put3 Y h (fun _ => BitVec.ofNat 32 n) (ix3 t r u) = if t.val = n then h (ix2 r u) else Y (ix3 t r u) := by
  unfold put3
  rw [WordCmp.dynamicUpdateSlice_eq_update Y _ _ _ ![n, 0, 0] (sl128 n hn) (starts_eq n hn)]
  pointwise
  by_cases e : t.val = n
  · rw [dif_pos (by omega), if_pos e]
  · rw [dif_neg (by omega), if_neg e]
theorem zed_apply (x : FVec Ideal S1x1024x64 .f32) (W : FVec Ideal S64x512 .f32) (U : FVec Ideal S128x512 .f32) (b : FVec Ideal S512 .f32) (h : FVec Ideal S1024x128 .f32) (r : Fin 1024) (j : Fin 512) :
    zed x W U b h (ix2 r j) = gates (fun k => x (ix3 0 r k)) (fun k => h (ix2 r k)) (fun k j => W (ix2 k j)) (fun k j => U (ix2 k j)) (fun j => b (ix1 j)) j := by
  pointwise [zed, gates]
theorem nextC_apply (z : FVec Ideal S1024x512 .f32) (c : FVec Ideal S1024x128 .f32) (r : Fin 1024) (u : Fin 128) :
    nextC z c (ix2 r u) = cell (fun j => z (ix2 r j)) (fun u => c (ix2 r u)) u := by
  pointwise [nextC, lgs, cell]
  rfl
theorem nextH_apply (z : FVec Ideal S1024x512 .f32) (c : FVec Ideal S1024x128 .f32) (r : Fin 1024) (u : Fin 128) :
    nextH z c (ix2 r u) = hid (fun j => z (ix2 r j)) (fun u => c (ix2 r u)) u := by
  pointwise [nextH, nextC, lgs, hid, cell]
  rfl

/-! ## The step's buffers by these -/

section Step

variable (V0 : Valuation τ sig (Elt Ideal))

theorem v53_eq : res_main_while0b_v53 V0 = zed (at3 (V0 (Proc.devRef .tc main_v6_0)) (V0 (Proc.devRef .tc main_v6_8))) (V0 (Proc.devRef .tc main_v6_2)) (V0 (Proc.devRef .tc main_v6_3)) (V0 (Proc.devRef .tc main_v6_4)) (V0 (Proc.devRef .tc main_v6_9)) := rfl
theorem v87_eq : res_main_while0b_v87 V0 = zed (at3 (V0 (Proc.devRef .tc main_v6_1)) (V0 (Proc.devRef .tc main_v6_8))) (V0 (Proc.devRef .tc main_v6_5)) (V0 (Proc.devRef .tc main_v6_6)) (V0 (Proc.devRef .tc main_v6_7)) (V0 (Proc.devRef .tc main_v6_11)) := rfl
theorem v79_eq : res_main_while0b_v79 V0 = nextC (res_main_while0b_v53 V0) (V0 (Proc.devRef .tc main_v6_10)) := rfl
theorem v81_eq : res_main_while0b_v81 V0 = nextH (res_main_while0b_v53 V0) (V0 (Proc.devRef .tc main_v6_10)) := rfl
theorem v113_eq : res_main_while0b_v113 V0 = nextC (res_main_while0b_v87 V0) (V0 (Proc.devRef .tc main_v6_12)) := rfl
theorem v115_eq : res_main_while0b_v115 V0 = nextH (res_main_while0b_v87 V0) (V0 (Proc.devRef .tc main_v6_12)) := rfl
theorem s9_eq : STEP V0 (Proc.devRef .tc main_v6_9) = res_main_while0b_v81 V0 := STEP_main_v6_9 V0
theorem s10_eq : STEP V0 (Proc.devRef .tc main_v6_10) = res_main_while0b_v79 V0 := STEP_main_v6_10 V0
theorem s11_eq : STEP V0 (Proc.devRef .tc main_v6_11) = res_main_while0b_v115 V0 := STEP_main_v6_11 V0
theorem s12_eq : STEP V0 (Proc.devRef .tc main_v6_12) = res_main_while0b_v113 V0 := STEP_main_v6_12 V0
theorem s13_eq : STEP V0 (Proc.devRef .tc main_v6_13) = put3 (V0 (Proc.devRef .tc main_v6_13)) (res_main_while0b_v81 V0) (V0 (Proc.devRef .tc main_v6_8)) := STEP_main_v6_13 V0
theorem s14_eq : STEP V0 (Proc.devRef .tc main_v6_14) = put3 (V0 (Proc.devRef .tc main_v6_14)) (res_main_while0b_v115 V0) (V0 (Proc.devRef .tc main_v6_8)) := STEP_main_v6_14 V0

end Step

/-! ## The loop -/

variable (x xr : FVec Ideal S200x1024x64 .f32) (Wf Wb : FVec Ideal S64x512 .f32) (Uf Ub : FVec Ideal S128x512 .f32) (bf bb : FVec Ideal S512 .f32) (r : Fin 1024)

/-- A row's states after `n` steps over a stack of inputs. -/
def rows (X : FVec Ideal S200x1024x64 .f32) (W : FVec Ideal S64x512 .f32) (U : FVec Ideal S128x512 .f32) (b : FVec Ideal S512 .f32) (n : ℕ) : (Fin 128 → EReal) × (Fin 128 → EReal) :=
  lstm (fun n k => X (ix3 ⟨n % 200, Nat.mod_lt _ (by decide)⟩ r k)) (fun k j => W (ix2 k j)) (fun k j => U (ix2 k j)) (fun j => b (ix1 j)) n

/-- One direction's next states at a row. -/
theorem next_apply (X : FVec Ideal S200x1024x64 .f32) (W : FVec Ideal S64x512 .f32) (U : FVec Ideal S128x512 .f32) (b : FVec Ideal S512 .f32) (h c : FVec Ideal S1024x128 .f32) (n : ℕ) (hn : n < 200)
    (h1 : ∀ u, h (ix2 r u) = (rows r X W U b n).1 u) (h2 : ∀ u, c (ix2 r u) = (rows r X W U b n).2 u) (u : Fin 128) :
    nextH (zed (at3 X (fun _ => BitVec.ofNat 32 n)) W U b h) c (ix2 r u) = (rows r X W U b (n + 1)).1 u
      ∧ nextC (zed (at3 X (fun _ => BitVec.ofNat 32 n)) W U b h) c (ix2 r u) = (rows r X W U b (n + 1)).2 u := by
  rw [nextH_apply, nextC_apply]
  simp only [zed_apply, at3_apply X n hn, h1, h2]
  unfold rows
  rw [lstm_succ]
  simp only [Nat.mod_eq_of_lt hn]
  exact ⟨trivial, trivial⟩

/-- What the loop's contents are to be after `n` trips. -/
structure LoopOk (n : ℕ) (V : Valuation τ sig (Elt Ideal)) : Prop where
  ex : V (Proc.devRef .tc main_v6_0) = x
  exr : V (Proc.devRef .tc main_v6_1) = xr
  eWf : V (Proc.devRef .tc main_v6_2) = Wf
  eUf : V (Proc.devRef .tc main_v6_3) = Uf
  ebf : V (Proc.devRef .tc main_v6_4) = bf
  eWb : V (Proc.devRef .tc main_v6_5) = Wb
  eUb : V (Proc.devRef .tc main_v6_6) = Ub
  ebb : V (Proc.devRef .tc main_v6_7) = bb
  ctr : V (Proc.devRef .tc main_v6_8) = (fun _ => BitVec.ofNat 32 n : IVec S_ 32)
  hf : ∀ u, (V (Proc.devRef .tc main_v6_9) : FVec Ideal S1024x128 .f32) (ix2 r u) = (rows r x Wf Uf bf n).1 u
  cf : ∀ u, (V (Proc.devRef .tc main_v6_10) : FVec Ideal S1024x128 .f32) (ix2 r u) = (rows r x Wf Uf bf n).2 u
  hb : ∀ u, (V (Proc.devRef .tc main_v6_11) : FVec Ideal S1024x128 .f32) (ix2 r u) = (rows r xr Wb Ub bb n).1 u
  cb : ∀ u, (V (Proc.devRef .tc main_v6_12) : FVec Ideal S1024x128 .f32) (ix2 r u) = (rows r xr Wb Ub bb n).2 u
  sf : ∀ (t : Fin 200) u, t.val < n → (V (Proc.devRef .tc main_v6_13) : FVec Ideal S200x1024x128 .f32) (ix3 t r u) = (rows r x Wf Uf bf (t.val + 1)).1 u
  sb : ∀ (t : Fin 200) u, t.val < n → (V (Proc.devRef .tc main_v6_14) : FVec Ideal S200x1024x128 .f32) (ix3 t r u) = (rows r xr Wb Ub bb (t.val + 1)).1 u

variable {x xr Wf Wb Uf Ub bf bb r}

theorem step_ok {n : ℕ} (hn : n < 200) {V : Valuation τ sig (Elt Ideal)} (h : LoopOk x xr Wf Wb Uf Ub bf bb r n V) : LoopOk x xr Wf Wb Uf Ub bf bb r (n + 1) (STEP V) := by
  have nf := next_apply r x Wf Uf bf _ _ n hn h.hf h.cf
  have nb := next_apply r xr Wb Ub bb _ _ n hn h.hb h.cb
  have ef : res_main_while0b_v81 V = nextH (zed (at3 x (fun _ => BitVec.ofNat 32 n)) Wf Uf bf (V (Proc.devRef .tc main_v6_9))) (V (Proc.devRef .tc main_v6_10)) := by
    rw [v81_eq, v53_eq, h.ex, h.eWf, h.eUf, h.ebf, h.ctr]
  have eb : res_main_while0b_v115 V = nextH (zed (at3 xr (fun _ => BitVec.ofNat 32 n)) Wb Ub bb (V (Proc.devRef .tc main_v6_11))) (V (Proc.devRef .tc main_v6_12)) := by
    rw [v115_eq, v87_eq, h.exr, h.eWb, h.eUb, h.ebb, h.ctr]
  exact {
    ex := (STEP_main_v6_0 V).trans h.ex
    exr := (STEP_main_v6_1 V).trans h.exr
    eWf := (STEP_main_v6_2 V).trans h.eWf
    eUf := (STEP_main_v6_3 V).trans h.eUf
    ebf := (STEP_main_v6_4 V).trans h.ebf
    eWb := (STEP_main_v6_5 V).trans h.eWb
    eUb := (STEP_main_v6_6 V).trans h.eUb
    ebb := (STEP_main_v6_7 V).trans h.ebb
    ctr := by
      refine (STEP_main_v6_8 V).trans ?_
      unfold step_main_v6_8
      rw [h.ctr]
      funext i
      exact (BitVec.ofNat_add n 1).symm
    hf := fun u => by rw [s9_eq, ef]; exact (nf u).1
    cf := fun u => by rw [s10_eq, v79_eq, v53_eq, h.ex, h.eWf, h.eUf, h.ebf, h.ctr]; exact (nf u).2
    hb := fun u => by rw [s11_eq, eb]; exact (nb u).1
    cb := fun u => by rw [s12_eq, v113_eq, v87_eq, h.exr, h.eWb, h.eUb, h.ebb, h.ctr]; exact (nb u).2
    sf := fun t u ht => by
      rw [s13_eq, h.ctr, put3_apply _ _ n hn, ef]
      split_ifs with e
      · rw [e]; exact (nf u).1
      · exact h.sf t u (by omega)
    sb := fun t u ht => by
      rw [s14_eq, h.ctr, put3_apply _ _ n hn, eb]
      split_ifs with e
      · rw [e]; exact (nb u).1
      · exact h.sb t u (by omega) }

theorem loop_ok {V : Valuation τ sig (Elt Ideal)} (h : LoopOk x xr Wf Wb Uf Ub bf bb r 0 V) : ∀ n, n ≤ 200 → LoopOk x xr Wf Wb Uf Ub bf bb r n (STEP^[n] V)
  | 0, _ => h
  | n + 1, hn => by rw [Function.iterate_succ_apply']; exact step_ok hn (loop_ok h n (Nat.le_of_succ_le hn))

end Cert.Proof.Ref

end
-- ==== Proof.Take.lean ====
/-
  The reference's lookup read index by index — where every index lies in the table, row `b, s` of it is the table's row
  `inputs b s` — and the contents the reference's loop begins at.
-/
module

public import proofs.«01_k».proof.Proof.RefVal
public import Idealize.ShloMosaic.Lib.Quiescent
public import Idealize.ShloMosaic.PureOps.Reduce
public import Idealize.ShloMosaic.Lib.Pipeline.Value

@[expose] public section

set_option maxRecDepth 16384

noncomputable section

namespace Cert.Proof.Ref

open Cert.ReferenceIdeal Cert.ReferenceIdeal.Gen Cert.ReferenceIdeal.Value
open Idealize.ShloMosaic Idealize.ShloMosaic.TcCoe Idealize.ShloMosaic.StableHlo Idealize.SL.Sem
open Cert.Proof.Spec

/-! ## The lookup -/

/-- An index wrapped as the lookup wraps a negative one: moved up by the table's height. -/
def wrap (x : IVec S1024x200 32) : IVec S1024x200 32 :=
  select (cmpi .slt x (broadcastInDim S1024x200 ![] bcast_S_S1024x200 (constantI S_ 32 0#32)))
    (addi x (broadcastInDim S1024x200 ![] bcast_S_S1024x200 (constantI S_ 32 20000#32))) x

/-- The indices as the gather's column of start indices. -/
def col (x : IVec S1024x200 32) : IVec S1024x200x1 32 := broadcastInDim S1024x200x1 ![0, 1] bcast_S1024x200_S1024x200x1_0_1 x

/-- Where an index lies in the table, as the lookup's mask says it. -/
def inside (x : IVec S1024x200 32) : IVec S1024x200 1 :=
  Host.reduce IntOp.andi (andi (cmpi .sge (col x) (broadcastInDim S1024x200x1 ![] bcast_S_S1024x200x1 (constantI S_ 32 0#32)))
      (cmpi .sle (col x) (broadcastInDim S1024x200x1 ![0, 1, 2] bcast_S1x1x1_S1024x200x1_0_1_2 (broadcastInDim S1x1x1 ![2] bcast_S1_S1x1x1_2 (constantI S1 32 19999#32)))))
    (constantI S_ 1 1#1) reducesTo_S1024x200x1_S1024x200_d2 h_S_

/-- The lookup's rows. -/
def taken (x : IVec S1024x200 32) (t : FVec Ideal S20000x64 .f32) : FVec Ideal S1024x200x64 .f32 :=
  select (broadcastInDim S1024x200x64 ![0, 1] bcast_S1024x200_S1024x200x64_0_1 (inside (wrap x)))
    (Host.gather gather_S20000x64_S1024x200x1_S1024x200x64_2_0_n_n_0_2_164 t (col (wrap x)))
    (broadcastInDim S1024x200x64 ![] bcast_S_S1024x200x64 (constant S_ .f32 0x7FC00000#32))

/-- A step's rows together. -/
def steps (x : IVec S1024x200 32) (t : FVec Ideal S20000x64 .f32) : FVec Ideal S200x1024x64 .f32 :=
  transpose S200x1024x64 [1, 0, 2] (taken x t) transposes_S1024x200x64_S200x1024x64_1_0_2

theorem ofBool_one (p : Bool) : (BitVec.ofBool p = 1#1) ↔ p = true := by cases p <;> decide

/-- An index in the table is not wrapped. -/
theorem wrap_eq (x : IVec S1024x200 32) (hx : ∀ i, (x i).toNat < 20000) : wrap x = x := by
  funext i
  have h : IntOp.cmpi .slt (x i) 0#32 ≠ 1#1 := by
    have := hx i
    simp only [IntOp.cmpi, ne_eq, ofBool_one, BitVec.slt_eq_decide, decide_eq_true_eq, BitVec.toInt_eq_toNat_cond,
      BitVec.toNat_ofNat, Nat.reducePow, Nat.reduceMod]
    omega
  exact if_neg h

/-- A conjunction of ones started at one is one. -/
theorem foldl_ones (l : List (BitVec 1)) (h : ∀ x ∈ l, x = 1#1) : l.foldl IntOp.andi 1#1 = 1#1 := by
  induction l with
  | nil => rfl
  | cons a l ih =>
    have ha : a = 1#1 := h a (List.mem_cons_self ..)
    subst ha
    exact ih fun x hx => h x (List.mem_cons_of_mem _ hx)

/-- The mask is one everywhere. -/
theorem inside_eq (x : IVec S1024x200 32) (hx : ∀ i, (x i).toNat < 20000) : inside x = fun _ => 1#1 := by
  funext j
  unfold inside
  rw [Host.reduce_eq_foldl, ← List.foldl_map]
  refine foldl_ones _ fun v hv => ?_
  obtain ⟨i, -, rfl⟩ := List.mem_map.mp hv
  have key : ∀ w : BitVec 32, w.toNat < 20000 → IntOp.andi (IntOp.cmpi .sge w 0#32) (IntOp.cmpi .sle w 19999#32) = 1#1 := by
    intro w hw
    have h1 : IntOp.cmpi .sge w 0#32 = 1#1 := by
      simp only [IntOp.cmpi, ofBool_one, BitVec.sle_eq_decide, decide_eq_true_eq, BitVec.toInt_eq_toNat_cond,
        BitVec.toNat_ofNat, Nat.reducePow, Nat.reduceMod]
      omega
    have h2 : IntOp.cmpi .sle w 19999#32 = 1#1 := by
      simp only [IntOp.cmpi, ofBool_one, BitVec.sle_eq_decide, decide_eq_true_eq, BitVec.toInt_eq_toNat_cond,
        BitVec.toNat_ofNat, Nat.reducePow, Nat.reduceMod]
      omega
    rw [h1, h2]; rfl
  exact key _ (hx _)

/-- The gather read at one place: the row its start index names. -/
theorem gather_apply (x : IVec S1024x200 32) (hx : ∀ i, (x i).toNat < 20000) (t : FVec Ideal S20000x64 .f32) (b : Fin 1024) (s : Fin 200) (k : Fin 64) :
    Host.gather gather_S20000x64_S1024x200x1_S1024x200x64_2_0_n_n_0_2_164 t (col x) (ix3 b s k) = t (ix2 ⟨(x (ix2 b s)).toNat, hx _⟩ k) := by
  unfold Host.gather
  congr 1
  have hs : (x (ix2 b s)).toInt.toNat = (x (ix2 b s)).toNat := by
    have := hx (ix2 b s)
    rw [BitVec.toInt_eq_toNat_cond, if_pos (by omega)]; rfl
  funext a
  apply Fin.ext
  match a with
  | ⟨0, _⟩ =>
    show min ((x _).toInt.toNat) 19999 + 0 + 0 = (x (ix2 b s)).toNat
    have e : ∀ i, i = ix2 b s → min ((x i).toInt.toNat) 19999 + 0 + 0 = (x (ix2 b s)).toNat := by
      rintro i rfl
      have := hx (ix2 b s); omega
    refine e _ (funext fun c => Fin.ext ?_)
    match c with
    | ⟨0, _⟩ => rfl
    | ⟨1, _⟩ => rfl
  | ⟨1, _⟩ =>
    show 0 + 0 + k.val = k.val
    omega

/-- The lookup read at one place. -/
theorem taken_apply (x : IVec S1024x200 32) (hx : ∀ i, (x i).toNat < 20000) (t : FVec Ideal S20000x64 .f32) (b : Fin 1024) (s : Fin 200) (k : Fin 64) :
    taken x t (ix3 b s k) = t (ix2 ⟨(x (ix2 b s)).toNat, hx _⟩ k) := by
  unfold taken
  rw [wrap_eq x hx, inside_eq x hx]
  exact gather_apply x hx t b s k

theorem steps_apply (x : IVec S1024x200 32) (hx : ∀ i, (x i).toNat < 20000) (t : FVec Ideal S20000x64 .f32) (n : Fin 200) (r : Fin 1024) (k : Fin 64) :
    steps x t (ix3 n r k) = t (ix2 ⟨(x (ix2 r n)).toNat, hx _⟩ k) := by
  rw [← taken_apply x hx t r n k]
  unfold steps
  generalize taken x t = q
  pointwise
theorem reversed_apply (q : FVec Ideal S200x1024x64 .f32) (n : Fin 200) (r : Fin 1024) (k : Fin 64) :
    Host.reverse [0] q (ix3 n r k) = q (ix3 ⟨199 - n.val, by omega⟩ r k) := by
  pointwise
  exact congrArg (fun t => q (ix3 t r k)) (Fin.ext (show 200 - (n.val + 1) = 199 - n.val by omega))

/-! ## The loop's entry -/

variable (m : (ℓ : Loc nD τ sig) → Buf (Elt Ideal) ℓ) (c : Dev nD)

theorem entry_x : entryContents preI m c (Proc.devRef .tc main_v6_0) = steps (m ((c.tc : Thread nD τ).loc main_arg0)) (m ((c.tc : Thread nD τ).loc main_arg1)) := by
  simp only [entryContents, afterL_cons, afterL_nil]
  after_reads_simp
  simp only [TRef.ofBuf_toBuf, TRef.ofBuf, TRef.toBuf, cast_eq, id]
  unfold steps taken inside wrap col
  with_reducible rfl
theorem entry_xr : entryContents preI m c (Proc.devRef .tc main_v6_1) = Host.reverse [0] (steps (m ((c.tc : Thread nD τ).loc main_arg0)) (m ((c.tc : Thread nD τ).loc main_arg1))) := by
  simp only [entryContents, afterL_cons, afterL_nil]
  after_reads_simp
  simp only [TRef.ofBuf_toBuf, TRef.ofBuf, TRef.toBuf, cast_eq, id]
  unfold steps taken inside wrap col
  with_reducible rfl

/-- The loop begins at the lookup's rows, the weights and zero states. -/
theorem entry_ok (r : Fin 1024) : LoopOk (steps (m ((c.tc : Thread nD τ).loc main_arg0)) (m ((c.tc : Thread nD τ).loc main_arg1)))
    (Host.reverse [0] (steps (m ((c.tc : Thread nD τ).loc main_arg0)) (m ((c.tc : Thread nD τ).loc main_arg1))))
    (m ((c.tc : Thread nD τ).loc main_arg2)) (m ((c.tc : Thread nD τ).loc main_arg5)) (m ((c.tc : Thread nD τ).loc main_arg3)) (m ((c.tc : Thread nD τ).loc main_arg6))
    (m ((c.tc : Thread nD τ).loc main_arg4)) (m ((c.tc : Thread nD τ).loc main_arg7)) r 0 (entryContents preI m c) where
  ex := entry_x m c
  exr := entry_xr m c
  eWf := by simp only [entryContents, afterL_cons, afterL_nil]; after_reads_simp; rfl
  eUf := by simp only [entryContents, afterL_cons, afterL_nil]; after_reads_simp; rfl
  ebf := by simp only [entryContents, afterL_cons, afterL_nil]; after_reads_simp; rfl
  eWb := by simp only [entryContents, afterL_cons, afterL_nil]; after_reads_simp; rfl
  eUb := by simp only [entryContents, afterL_cons, afterL_nil]; after_reads_simp; rfl
  ebb := by simp only [entryContents, afterL_cons, afterL_nil]; after_reads_simp; rfl
  ctr := by simp only [entryContents, afterL_cons, afterL_nil]; after_reads_simp; rfl
  hf u := by simp only [entryContents, afterL_cons, afterL_nil]; after_reads_simp; exact Ideal.ofBits_zero_f32
  cf u := by simp only [entryContents, afterL_cons, afterL_nil]; after_reads_simp; exact Ideal.ofBits_zero_f32
  hb u := by simp only [entryContents, afterL_cons, afterL_nil]; after_reads_simp; exact Ideal.ofBits_zero_f32
  cb u := by simp only [entryContents, afterL_cons, afterL_nil]; after_reads_simp; exact Ideal.ofBits_zero_f32
  sf t u h := absurd h (Nat.not_lt_zero _)
  sb t u h := absurd h (Nat.not_lt_zero _)

end Cert.Proof.Ref

end
-- ==== Proof.GatherI.lean ====
/-
  The SparseCore call of the program: thirty-two tasks, one per vector subcore of two SparseCores. A task fetches its
  6400 row numbers, and in sixteen chunks of 400 gathers the rows of the table they name (two gathers in flight at once,
  into two row buffers) and writes each chunk to its place in the result. Stated with the values: the result's row `j`
  is the table's row `idx[j]`.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.GatherI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The buffers -/

abbrev iLoc (d : Dev nD) : Loc nD τ sig := (SparseCore.T d).loc main_v1
abbrev xLoc (d : Dev nD) : Loc nD τ sig := (SparseCore.T d).loc main_v2
abbrev oLoc (d : Dev nD) : Loc nD τ sig := (SparseCore.T d).loc main_v5

local notation "iV" => (Memref.whole Cert.KernelIdeal.main_v1_scv : Memref Cert.KernelIdeal.sig Kind.scVector Space.hbm Cert.KernelIdeal.S204800 EltTy.i32)
local notation "xV" => (Memref.whole Cert.KernelIdeal.main_v2_scv : Memref Cert.KernelIdeal.sig Kind.scVector Space.hbm Cert.KernelIdeal.S20000x128 EltTy.f32)
local notation "oV" => (Memref.whole Cert.KernelIdeal.main_v5_scv : Memref Cert.KernelIdeal.sig Kind.scVector Space.hbm Cert.KernelIdeal.S204800x128 EltTy.f32)
local notation "sV" => (Memref.whole Cert.KernelIdeal.cc0_scratch0 : Memref Cert.KernelIdeal.sig Kind.scVector Space.vmem Cert.KernelIdeal.S6400 EltTy.i32)
local notation "aV" => (Memref.whole Cert.KernelIdeal.cc0_scratch1 : Memref Cert.KernelIdeal.sig Kind.scVector Space.vmem Cert.KernelIdeal.S400x128 EltTy.f32)
local notation "bV" => (Memref.whole Cert.KernelIdeal.cc0_scratch2 : Memref Cert.KernelIdeal.sig Kind.scVector Space.vmem Cert.KernelIdeal.S400x128 EltTy.f32)

theorem idiv : 32 ∣ S204800.size 0 := ⟨6400, rfl⟩
theorem odiv : 512 ∣ S204800x128.size 0 := ⟨400, rfl⟩
/-- Task `w`'s block of the index array, and chunk `k` of the result. -/
abbrev irow (w : Fin 32) : Rect S204800 := Rect.part (s := S204800) (a₀ := 0) idiv w
abbrev orow (k : Fin 512) : Rect S204800x128 := Rect.part (s := S204800x128) (a₀ := 0) odiv k
abbrev iRowSet (w : Fin 32) : Finset S204800.Idx := ((iV).view.slice (irow w)).set
abbrev oRowSet (k : Fin 512) : Finset S204800x128.Idx := ((oV).view.slice (orow k)).set

/-- The task of subcore `i` of SparseCore `c`. -/
def wid (c : Fin 2) (i : Fin 16) : Fin 32 := ⟨2 * i.val + c.val, by omega⟩
/-- The chunk of the result that task `w` writes `r`-th. -/
def chk (w : Fin 32) (r : Fin 16) : Fin 512 := ⟨16 * w.val + r.val, by omega⟩

/-- Task `w`'s share of the table: a piece of the full share cut in thirty-two. -/
abbrev xq (w : Fin 32) : PosShare TreeShare := pieceOf fullShare 32 (by decide) w

variable [FloatOps F]

/-! ## What the handshakes carry

`ic`, `xc`, `oc`: what the index array, the table and the result hold when the call begins. -/

variable (ic : (d : Dev nD) → Buf (Elt F) (iLoc d)) (xc : (d : Dev nD) → Buf (Elt F) (xLoc d)) (oc : (d : Dev nD) → Buf (Elt F) (oLoc d))

/-- Every row number names a row of the table. -/
def PreOK : Prop := ∀ (d : Dev nD) (j : S204800.Idx), (ic d j : BitVec 32).toNat < 20000

/-- The gathered rows: row `j` is the table's row `idx[j]`. -/
def gat (d : Dev nD) : Buf (Elt F) (oLoc d) :=
  fun (j : S204800x128.Idx) => xc d (fun | 0 => (Fin.ofNat 20000 (ic d (fun | 0 => j 0) : BitVec 32).toNat) | 1 => j 1)

abbrev goPts (d : Dev nD) (w : Fin 32) : sProp 𝕄 :=
  iprop((iLoc d ↦[iRowSet w]{fullShare} ic d) ∗ (xLoc d ↦{xq w} xc d)
    ∗ bigSep Finset.univ fun r : Fin 16 => oLoc d ↦[oRowSet (chk w r)]{fullShare} oc d)
abbrev tdPts (d : Dev nD) (w : Fin 32) : sProp 𝕄 :=
  iprop((iLoc d ↦[iRowSet w]{fullShare} ic d) ∗ (xLoc d ↦{xq w} xc d)
    ∗ bigSep Finset.univ fun r : Fin 16 => oLoc d ↦[oRowSet (chk w r)]{fullShare} gat ic xc d)

/-- A task takes its block of the row numbers, its share of the table and its sixteen chunks of the result, and brings
    them back, the chunks at the gathered rows; a SparseCore takes and brings what its sixteen tasks do. -/
def P : (K (F := F)).Pay (nD := nD) (Val := Elt F) (Name := ℕ) (U := UU) where
  st := fun q d c => match q with
    | 0 => bigSep Finset.univ fun i : Fin 16 => goPts ic xc oc d (wid (Fin.cast nCore_zero c) i)
  dn := fun q d c => match q with
    | 0 => bigSep Finset.univ fun i : Fin 16 => tdPts ic xc d (wid (Fin.cast nCore_zero c) i)
  go := fun q d c i => match q with
    | 0 => goPts ic xc oc d (wid (Fin.cast nCore_zero c) (Fin.cast nSub_zero i))
  td := fun q d c i => match q with
    | 0 => tdPts ic xc d (wid (Fin.cast nCore_zero c) (Fin.cast nSub_zero i))
  x := fun _ _ => iprop(emp)

instance P_storable : (P (F := F) ic xc oc).IsStorable where
  st q d c := match q with
    | 0 => (inferInstance : BI.Storable (upEmb : UEmb _ 𝕄) (bigSep Finset.univ fun i : Fin 16 => goPts ic xc oc d (wid (Fin.cast nCore_zero c) i)))
  dn q d c := match q with
    | 0 => (inferInstance : BI.Storable (upEmb : UEmb _ 𝕄) (bigSep Finset.univ fun i : Fin 16 => tdPts ic xc d (wid (Fin.cast nCore_zero c) i)))
  go q d c i := match q with
    | 0 => (inferInstance : BI.Storable (upEmb : UEmb _ 𝕄) (goPts ic xc oc d (wid (Fin.cast nCore_zero c) (Fin.cast nSub_zero i))))
  td q d c i := match q with
    | 0 => (inferInstance : BI.Storable (upEmb : UEmb _ 𝕄) (tdPts ic xc d (wid (Fin.cast nCore_zero c) (Fin.cast nSub_zero i))))

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P ic xc oc) 0 := by
  intro d c
  show (bigSep Finset.univ fun i : Fin 16 => goPts ic xc oc d (wid (Fin.cast nCore_zero c) i)) ⊢ |={Set.univ}=> iprop(
      (bigSep Finset.univ fun i : Fin ((K (F := F)).nSub 0) => goPts ic xc oc d (wid (Fin.cast nCore_zero c) (Fin.cast nSub_zero i)))
      ∗ ((bigSep Finset.univ fun i : Fin ((K (F := F)).nSub 0) => tdPts ic xc d (wid (Fin.cast nCore_zero c) (Fin.cast nSub_zero i)))
          -∗ bigSep Finset.univ fun i : Fin 16 => tdPts ic xc d (wid (Fin.cast nCore_zero c) i)))
  rw [bigSep_tasks (F := F) (fun i => goPts ic xc oc d (wid (Fin.cast nCore_zero c) i)),
    bigSep_tasks (F := F) (fun i => tdPts ic xc d (wid (Fin.cast nCore_zero c) i))]
  iintro H; imodintro
  isplitl [H]; · iexact H
  iintro H; iexact H

/-! ## The task -/

section Tile

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- The task's number. -/
abbrev wL (L : grid0.Coords) : Fin 32 := wid (Fin.cast bound_zero (L 0)) (Fin.cast bound_one (L 1))

theorem wL_val (L : grid0.Coords) : (wL L).val = 2 * (L 1).val + (L 0).val := rfl

abbrev irowK (L : grid0.Coords) : Rect S204800 := Rect.unit (s := S204800) (k0_off1 L) S6400.size (k0_off1_inb L)
abbrev orowK (L : grid0.Coords) (r : Fin 16) : Rect S204800x128 := Rect.unit (s := S204800x128) (k0_off2 L (BitVec.ofNat 32 (400 * r.val))) S400x128.size (k0_off2_inb L r)
abbrev iRowK (L : grid0.Coords) : Memref sig .scVector .hbm S6400 .i32 := (iV).slice (irowK L) (fun _ => rfl)
abbrev oRowK (L : grid0.Coords) (r : Fin 16) : Memref sig .scVector .hbm S400x128 .f32 := (oV).slice (orowK L r) (fun _ => rfl)

theorem irowK_eq : irowK L = irow (wL L) := by
  unfold irowK irow Rect.part Rect.block
  congr 1 <;> funext a
  · rw [k0_off1_eq]
    match a with
    | 0 => simp only [Shape.partIx, Shape.partSize, wL_val]; simp; omega
  · match a with
    | 0 => simp [Shape.partSize]
theorem orowK_eq (r : Fin 16) : orowK L r = orow (chk (wL L) r) := by
  unfold orowK orow Rect.part Rect.block
  congr 1 <;> funext a
  · rw [k0_off2_eq]
    match a with
    | 0 => simp only [Shape.partIx, Shape.partSize, chk, wL_val]; simp; omega
    | 1 => simp [Shape.partIx, Shape.partSize]
  · match a with
    | 0 => simp [Shape.partSize]
    | 1 => simp [Shape.partSize]

theorem set_iRowK : (iRowK L).view.set = iRowSet (wL L) := by
  show ((iV).view.slice (irowK L)).set = ((iV).view.slice (irow (wL L))).set
  exact irowK_eq L ▸ rfl
theorem set_oRowK (r : Fin 16) : (oRowK L r).view.set = oRowSet (chk (wL L) r) := by
  show ((oV).view.slice (orowK L r)).set = ((oV).view.slice (orow (chk (wL L) r))).set
  exact orowK_eq L r ▸ rfl

theorem pts_iRowK (f : Buf (Elt F) (iLoc d)) :
    ((iRowK L).view.loc (V d (cV L) (jV L)) ↦[(iRowK L).view.set]{fullShare} f : sProp 𝕄) = iLoc d ↦[iRowSet (wL L)]{fullShare} f := by
  rw [set_iRowK]
theorem pts_oRowK (r : Fin 16) (f : Buf (Elt F) (oLoc d)) :
    ((oRowK L r).view.loc (V d (cV L) (jV L)) ↦[(oRowK L r).view.set]{fullShare} f : sProp 𝕄) = oLoc d ↦[oRowSet (chk (wL L) r)]{fullShare} f := by
  rw [set_oRowK]

/-! ### The subcore's own semaphores and buffers -/

/-- A family over a finite set, the members a list names taken out one by one. -/
theorem bigSep_list {I : Type} [DecidableEq I] (Φ : I → sProp 𝕄) : ∀ (l : List I) (s : Finset I), l.Nodup → (∀ x ∈ l, x ∈ s) →
    bigSep s Φ = l.foldr (fun x A => iprop(Φ x ∗ A)) (bigSep (s \ l.toFinset) Φ)
  | [], s, _, _ => by simp
  | x :: l, s, hl, hs => by
    have hx : x ∈ s := hs x (by simp)
    rw [SparseCore.bigSep_erase' hx, bigSep_list Φ l (s.erase x) (List.nodup_cons.mp hl).2 (fun y hy =>
      Finset.mem_erase.mpr ⟨fun e => (List.nodup_cons.mp hl).1 (e ▸ hy), hs y (by simp [hy])⟩)]
    simp only [List.foldr_cons, List.toFinset_cons, Finset.erase_sdiff_comm, Finset.sdiff_insert]

abbrev semList : List (SemLoc sig) :=
  [.dma cc0_scratch3.sem, .dma cc0_scratch4.sem, .dma cc0_scoped0.sem, .dma cc0_scoped1.sem, .dma cc0_scoped2.sem, .dma cc0_scoped3.sem, .dma cc0_scoped4.sem,
    .dma cc0_scoped5.sem, .dma cc0_scoped6.sem, .dma cc0_scoped7.sem, .dma cc0_scoped8.sem, .dma cc0_scoped9.sem, .dma cc0_scoped10.sem,
    .dma cc0_scoped11.sem, .dma cc0_scoped12.sem, .dma cc0_scoped13.sem, .dma cc0_scoped14.sem, .dma cc0_scoped15.sem, .dma cc0_scoped16.sem]

/-- The subcore's cells the task does not use, at zero. -/
def semRest (d : Dev nD) (c : Fin τ.nSC) (i : Fin τ.nSub) : sProp 𝕄 :=
  bigSep (ownCells (V d c i) \ (semList.map fun s => ((V d c i, s) : GSem nD τ sig)).toFinset) fun g => semVal g 0

theorem ownSems0_V (d : Dev nD) (c : Fin τ.nSC) (i : Fin τ.nSub) :
    (ownSems0 (V d c i) : sProp 𝕄) = semList.foldr (fun s A => iprop(semVal (V d c i, s) 0 ∗ A)) (semRest d c i) := by
  unfold SparseCore.Cfg.ownSems0
  refine (bigSep_list _ (semList.map fun s => ((V d c i, s) : GSem nD τ sig)) _
    (List.Nodup.map (fun a b h => (Prod.mk.inj h).2) (by decide)) fun g hg => ?_).trans (by rw [List.foldr_map]; rfl)
  obtain ⟨s, hs, rfl⟩ := List.mem_map.mp hg
  refine mem_ownCells.mpr ⟨rfl, ?_⟩
  exact (by decide : ∀ s ∈ semList, s.isScoped .scVector = true) s hs

abbrev bufList : List (Ref sig .scVector) := [cc0_scratch0, cc0_scratch1, cc0_scratch2]

/-- The subcore's buffers the task does not use. -/
def bufRest (d : Dev nD) (c : Fin τ.nSC) (i : Fin τ.nSub) : sProp 𝕄 :=
  bigSep (ownRefs (τ := τ) (.scVector c i) \ (bufList.map (Proc.scVector c i).devRef).toFinset)
    fun b => iprop(∃ f, ((d, b) : Loc nD τ sig) ↦{fullShare} f)

/-- The index scratch and the two row buffers are among the subcore's own. -/
theorem ownBufs_V (d : Dev nD) (c : Fin τ.nSC) (i : Fin τ.nSub) :
    (ownBufs (V d c i) : sProp 𝕄)
      = bufList.foldr (fun b A => iprop((∃ f, (V d c i).loc b ↦{fullShare} f) ∗ A)) (bufRest d c i) := by
  unfold SparseCore.Cfg.ownBufs
  refine (bigSep_list _ (bufList.map (Proc.scVector c i).devRef) _ (List.Nodup.map (Proc.devRef_injective _) (show ([cc0_scratch0, cc0_scratch1, cc0_scratch2] : List (Ref sig .scVector)).Nodup by decide)) fun x hx => ?_).trans
    (by rw [List.foldr_map]; rfl)
  obtain ⟨b, hb, rfl⟩ := List.mem_map.mp hx
  simp only [bufList, List.mem_cons, List.not_mem_nil, _root_.or_false] at hb
  rcases hb with rfl | rfl | rfl <;> exact SparseCore.Cfg.mem_ownRefs_of_owner (p := Proc.scVector c i) rfl

/-! ### The values -/

/-- What the index fetch lands: the task's block of the index array. -/
abbrev lst : S6400.Idx → Elt F .i32 := (iRowK L).view.read (Elt F) (ic d)

/-- Every window of the list names rows of the table. -/
theorem hin_lst (hpre : PreOK ic) (o : Fin 1 → ℕ) (h : ∀ a, o a + S400.size a ≤ S6400.size a) (x : S400.Idx) :
    ((((sV).slice (Rect.unit (s := S6400) o S400.size h) (fun _ => rfl)).view.read (Elt F) (lst ic d L) x : Elt F .i32) : BitVec 32).toNat
      < S20000x128.size gathers_S20000x128_S400x128.axis :=
  hpre d _

/-- The chunk of the result at word offset `v` past the task's block, as the task addresses it. -/
abbrev oW (L : grid0.Coords) (v : BitVec 32) (h : ∀ a, k0_off2 L v a + S400x128.size a ≤ S204800x128.size a) : Memref sig .scVector .hbm S400x128 .f32 :=
  (oV).slice (Rect.unit (s := S204800x128) (k0_off2 L v) S400x128.size h) (fun _ => rfl)
abbrev oPt (v : BitVec 32) (h : ∀ a, k0_off2 L v a + S400x128.size a ≤ S204800x128.size a) (f : Buf (Elt F) (oLoc d)) : sProp 𝕄 :=
  (oW L v h).view.loc (V d (cV L) (jV L)) ↦[(oW L v h).view.set]{fullShare} f

set_option maxHeartbeats 1000000 in
/-- The task's sixteen chunks, one by one. -/
theorem chunks_eq (f : Buf (Elt F) (oLoc d)) :
    (bigSep Finset.univ fun r : Fin 16 => (oLoc d ↦[oRowSet (chk (wL L) r)]{fullShare} f : sProp 𝕄)) = iprop(
      oPt d L 0#32 (k0_off2_inb L 0) f
      ∗ oPt d L 400#32 (k0_off2_inb L 1) f
      ∗ oPt d L 800#32 (k0_off2_inb L 2) f
      ∗ oPt d L 1200#32 (k0_off2_inb L 3) f
      ∗ oPt d L 1600#32 (k0_off2_inb L 4) f
      ∗ oPt d L 2000#32 (k0_off2_inb L 5) f
      ∗ oPt d L 2400#32 (k0_off2_inb L 6) f
      ∗ oPt d L 2800#32 (k0_off2_inb L 7) f
      ∗ oPt d L 3200#32 (k0_off2_inb L 8) f
      ∗ oPt d L 3600#32 (k0_off2_inb L 9) f
      ∗ oPt d L 4000#32 (k0_off2_inb L 10) f
      ∗ oPt d L 4400#32 (k0_off2_inb L 11) f
      ∗ oPt d L 4800#32 (k0_off2_inb L 12) f
      ∗ oPt d L 5200#32 (k0_off2_inb L 13) f
      ∗ oPt d L 5600#32 (k0_off2_inb L 14) f
      ∗ oPt d L 6000#32 (k0_off2_inb L 15) f) := by
  simp only [← pts_oRowK (F := F) d L]
  rw [show (Finset.univ : Finset (Fin 16)) = {0, 1, 2, 3, 4, 5, 6, 7, 8, 9, 10, 11, 12, 13, 14, 15} by decide]
  iterate 15 rw [SparseCore.bigSep_insert' (by decide)]
  rw [bigSep_singleton]
  rfl

/-- A separating conjunction over two. -/
theorem two (Φ : Fin 2 → sProp 𝕄) : bigSep Finset.univ Φ = iprop(Φ 0 ∗ Φ 1) := bigSep_fin_two Φ

/-- The whole table, as the gathers name it. -/
abbrev xAllK : Memref sig .scVector .hbm S20000x128 .f32 := (xV).slice (Rect.unit (s := S20000x128) ![0, 0] S20000x128.size inb_S20000x128_S20000x128_0_0) (fun _ => rfl)

/-- What the gather by the list's window at `o` lands. -/
abbrev gp (hpre : PreOK ic) (o : Fin 1 → ℕ) (ho : ∀ a, o a + S400.size a ≤ S6400.size a) : S400x128.Idx → Elt F .f32 :=
  SparseCore.gatherPayload gathers_S20000x128_S400x128 ((xAllK).view.read (Elt F) (xc d))
    (SparseCore.rows (((sV).slice (Rect.unit (s := S6400) o S400.size ho) (fun _ => rfl)).view.read (Elt F) (lst ic d L)) rfl (hin_lst ic d L hpre o ho))

/-- The place of an index of the list in its row-major order is the index. -/
theorem S400_symm_val (n : Fin S400.numel) : (S400.rowMajor.symm n 0).val = n.val :=
  (Shape.rowMajor_val_one (S400.rowMajor.symm n)).symm.trans (by rw [Equiv.apply_symm_apply])

/-- The chunk's rows are the gathered rows of its place in the result. -/
theorem gp_eq (hpre : PreOK ic) (r : Fin 16) (o : Fin 1 → ℕ) (ho : ∀ a, o a + S400.size a ≤ S6400.size a) (hor : o 0 = 400 * r.val)
    (v : BitVec 32) (hv : v = BitVec.ofNat 32 (400 * r.val)) (h : ∀ a, k0_off2 L v a + S400x128.size a ≤ S204800x128.size a) (x : S400x128.Idx) :
    gp ic xc d L hpre o ho x = gat ic xc d ((oW L v h).view.emb x) := by
  subst hv
  refine congrArg (xc d) (funext fun b => Fin.ext ?_)
  match b with
  | 0 =>
    show 0 + 1 * BitVec.toNat (ic d _) = _
    refine Eq.trans ?_ (Nat.mod_eq_of_lt (hpre d _)).symm
    rw [Nat.zero_add, Nat.one_mul]
    refine congrArg (fun j => BitVec.toNat (ic d j)) (funext fun a => Fin.ext ?_)
    match a with
    | 0 =>
      show k0_off1 L 0 + 1 * (o 0 + 1 * (S400.rowMajor.symm _ 0).val) = k0_off2 L (BitVec.ofNat 32 (400 * r.val)) 0 + 1 * (x 0).val
      rw [S400_symm_val, hor, k0_off1_eq, k0_off2_eq]
      change 12800 * (L 1).val + 6400 * (L 0).val + 1 * (400 * r.val + 1 * (x 0).val) = (12800 * (L 1).val + 6400 * (L 0).val + 400 * r.val) + 1 * (x 0).val
      omega
  | 1 =>
    show 0 + 1 * (x 1).val = k0_off2 L (BitVec.ofNat 32 (400 * r.val)) 1 + 1 * (x 1).val
    rw [k0_off2_eq]; simp

/-- A read of a buffer last written whole is what was written. -/
theorem top_eq (m : Memref sig .scVector .vmem S400x128 .f32) (f : m.view.ty.Contents (Elt F)) (ps : List (View.Piece (Elt F) S400x128 .f32))
    (p : S400x128.Idx → Elt F .f32) : ReadAs.same.apply (m.view.read (Elt F) (m.view.writes (Elt F) f (⟨Rect.whole S400x128, p⟩ :: ps))) = p :=
  View.read_writes_whole m.view (m.view.writes (Elt F) f ps) p

/-- A chunk written out holds the gathered rows. -/
theorem chunk_done (hpre : PreOK ic) (r : Fin 16) (o : Fin 1 → ℕ) (ho : ∀ a, o a + S400.size a ≤ S6400.size a) (hor : o 0 = 400 * r.val)
    (v : BitVec 32) (hv : v = BitVec.ofNat 32 (400 * r.val)) (h : ∀ a, k0_off2 L v a + S400x128.size a ≤ S204800x128.size a)
    (pay : S400x128.Idx → Elt F .f32) (hp : pay = gp ic xc d L hpre o ho) :
    oPt d L v h ((oW L v h).view.writes (Elt F) (oc d) [⟨Rect.whole S400x128, pay⟩]) ⊢ oPt d L v h (gat ic xc d) := by
  refine Entails.of_eq (pointsTo_congr fun i hi => ?_)
  obtain ⟨x, -, rfl⟩ := Finset.mem_map.mp hi
  refine Eq.trans ?_ (gp_eq ic xc d L hpre r o ho hor v hv h x)
  subst hp
  have h1 := congrFun (View.read_writes_whole (oW L v h).view (oc d) (gp ic xc d L hpre o ho)) x
  rw [View.read_apply] at h1
  exact h1

set_option maxHeartbeats 8000000 in
theorem tile_body (hF : (K (F := F)).Facts) (hpre : PreOK ic) (O : CellTallies nD τ sig (HIx 1)) (W : Waits sig (HIx 1)) (hO : ∀ g, O g none = 0) :
    iprop(levAts (K (F := F)).L (K (F := F)).lev ∗ emp ∗ goPts ic xc oc d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L xV (Memref.isWhole_whole _) iV (Memref.isWhole_whole _) oV (Memref.isWhole_whole _)
            sV (Memref.isWhole_whole _) aV (Memref.isWhole_whole _) bV (Memref.isWhole_whole _) cc0_scratch3 cc0_scratch4
            cc0_scoped0 cc0_scoped1 cc0_scoped2 cc0_scoped3 cc0_scoped4 cc0_scoped5 cc0_scoped6 cc0_scoped7 cc0_scoped8
            cc0_scoped9 cc0_scoped10 cc0_scoped11 cc0_scoped12 cc0_scoped13 cc0_scoped14 cc0_scoped15 cc0_scoped16)
          fun _ => iprop(tdPts ic xc d (wL L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_k_eq_skeleton, cc0_k_skel, k0_part1_eq_skeleton, k0_part1_skel]
  rw [(K (F := F)).scopedBufs_V hF d (cV L) (jV L), SparseCore.Cfg.scopedSems0_V (Val := Elt F) d (cV L) (jV L), ownSems0_V, ownBufs_V]
  simp only [semList, bufList, List.foldr_cons, List.foldr_nil]
  iintro ⟨#Hlv, -, ⟨Hi, Hx, Ho⟩, ⟨⟨%fs, Hs⟩, ⟨%fa, Ha⟩, ⟨%fb, Hb⟩, Hbufs⟩, ⟨H3, H4, C0, C1, C2, C3, C4, C5, C6, C7, C8, C9, C10, C11, C12, C13, C14, C15, C16, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Hs' := (Entails.of_eq (show ((V d (cV L) (jV L)).loc cc0_scratch0 ↦{fullShare} fs : sProp 𝕄) = (sV).view.loc (V d (cV L) (jV L)) ↦{fullShare} fs from rfl)) $$ Hs
  sl_exec
  ihave Hs' := (Entails.of_eq (show ((sV).view.loc (V d (cV L) (jV L)) ↦{fullShare} View.write (Elt F) (sV).view fs (tile_body.sl.dma0 ic d L) Finset.univ : sProp 𝕄)
      = (sV).view.loc (V d (cV L) (jV L)) ↦{fullShare} lst ic d L by rw [View.write_whole_univ]; rfl)) $$ Hs'
  ihave Hx := (Transfers.pointsTo_toks (xq (wL L)) 2).1 $$ Hx
  icases Hx with ⟨Hxr, Hx⟩
  ihave Hx := (Entails.of_eq (show (bigSep Finset.univ fun i : Fin 2 => (xLoc d ↦{Transfers.shareTok (xq (wL L)) 2 i} xc d : sProp 𝕄))
      = iprop(((xV).view.loc (V d (cV L) (jV L)) ↦{Transfers.shareTok (xq (wL L)) 2 0} xc d) ∗ ((xV).view.loc (V d (cV L) (jV L)) ↦{Transfers.shareTok (xq (wL L)) 2 1} xc d))
      from two _)) $$ Hx
  icases Hx with ⟨Hx0, Hx1⟩
  ihave Ha := (Entails.of_eq (show ((V d (cV L) (jV L)).loc cc0_scratch1 ↦{fullShare} fa : sProp 𝕄) = (aV).view.loc (V d (cV L) (jV L)) ↦{fullShare} fa from rfl)) $$ Ha
  ihave Hb := (Entails.of_eq (show ((V d (cV L) (jV L)).loc cc0_scratch2 ↦{fullShare} fb : sProp 𝕄) = (bV).view.loc (V d (cV L) (jV L)) ↦{fullShare} fb from rfl)) $$ Hb
  ihave Ho := (Entails.of_eq (chunks_eq (F := F) d L _)) $$ Ho
  icases Ho with ⟨O0, O1, O2, O3, O4, O5, O6, O7, O8, O9, O10, O11, O12, O13, O14, O15⟩
  have hin := hin_lst ic d L hpre
  sl_exec
  sl_step
  ihave O0 := (chunk_done ic xc oc d L hpre 0 ![0] inb_S6400_S400_0 rfl 0#32 rfl _ (tile_body.sl.dma0_1 ic xc d L fa hin) (top_eq (aV) fa _ _)) $$ O0
  ihave O1 := (chunk_done ic xc oc d L hpre 1 ![400] inb_S6400_S400_400 rfl 400#32 rfl _ (tile_body.sl.dma0_2 ic xc d L fb hin) (top_eq (bV) fb _ _)) $$ O1
  ihave O2 := (chunk_done ic xc oc d L hpre 2 ![800] inb_S6400_S400_800 rfl 800#32 rfl _ (tile_body.sl.dma0_3 ic xc d L fa hin) (top_eq (aV) fa _ _)) $$ O2
  ihave O3 := (chunk_done ic xc oc d L hpre 3 ![1200] inb_S6400_S400_1200 rfl 1200#32 rfl _ (tile_body.sl.dma0_4 ic xc d L fb hin) (top_eq (bV) fb _ _)) $$ O3
  ihave O4 := (chunk_done ic xc oc d L hpre 4 ![1600] inb_S6400_S400_1600 rfl 1600#32 rfl _ (tile_body.sl.dma0_5 ic xc d L fa hin) (top_eq (aV) fa _ _)) $$ O4
  ihave O5 := (chunk_done ic xc oc d L hpre 5 ![2000] inb_S6400_S400_2000 rfl 2000#32 rfl _ (tile_body.sl.dma0_6 ic xc d L fb hin) (top_eq (bV) fb _ _)) $$ O5
  ihave O6 := (chunk_done ic xc oc d L hpre 6 ![2400] inb_S6400_S400_2400 rfl 2400#32 rfl _ (tile_body.sl.dma0_7 ic xc d L fa hin) (top_eq (aV) fa _ _)) $$ O6
  ihave O7 := (chunk_done ic xc oc d L hpre 7 ![2800] inb_S6400_S400_2800 rfl 2800#32 rfl _ (tile_body.sl.dma0_8 ic xc d L fb hin) (top_eq (bV) fb _ _)) $$ O7
  ihave O8 := (chunk_done ic xc oc d L hpre 8 ![3200] inb_S6400_S400_3200 rfl 3200#32 rfl _ (tile_body.sl.dma0_9 ic xc d L fa hin) (top_eq (aV) fa _ _)) $$ O8
  ihave O9 := (chunk_done ic xc oc d L hpre 9 ![3600] inb_S6400_S400_3600 rfl 3600#32 rfl _ (tile_body.sl.dma0_10 ic xc d L fb hin) (top_eq (bV) fb _ _)) $$ O9
  ihave O10 := (chunk_done ic xc oc d L hpre 10 ![4000] inb_S6400_S400_4000 rfl 4000#32 rfl _ (tile_body.sl.dma0_11 ic xc d L fa hin) (top_eq (aV) fa _ _)) $$ O10
  ihave O11 := (chunk_done ic xc oc d L hpre 11 ![4400] inb_S6400_S400_4400 rfl 4400#32 rfl _ (tile_body.sl.dma0_12 ic xc d L fb hin) (top_eq (bV) fb _ _)) $$ O11
  ihave O12 := (chunk_done ic xc oc d L hpre 12 ![4800] inb_S6400_S400_4800 rfl 4800#32 rfl _ (tile_body.sl.dma0_13 ic xc d L fa hin) (top_eq (aV) fa _ _)) $$ O12
  ihave O13 := (chunk_done ic xc oc d L hpre 13 ![5200] inb_S6400_S400_5200 rfl 5200#32 rfl _ (tile_body.sl.dma0_14 ic xc d L fb hin) (top_eq (bV) fb _ _)) $$ O13
  ihave O14 := (chunk_done ic xc oc d L hpre 14 ![5600] inb_S6400_S400_5600 rfl 5600#32 rfl _ (tile_body.sl.dma0_15 ic xc d L fa hin) (top_eq (aV) fa _ _)) $$ O14
  ihave O15 := (chunk_done ic xc oc d L hpre 15 ![6000] inb_S6400_S400_6000 rfl 6000#32 rfl _ (tile_body.sl.dma0_16 ic xc d L fb hin) (top_eq (bV) fb _ _)) $$ O15
  isplitl [Hi' Hx0 Hx1 Hxr O0 O1 O2 O3 O4 O5 O6 O7 O8 O9 O10 O11 O12 O13 O14 O15]
  · isplitl [Hi']; · iapply (Entails.of_eq (pts_iRowK (F := F) d L _)); iexact Hi'
    isplitl [Hx0 Hx1 Hxr]
    · iapply (Transfers.pointsTo_toks (xq (wL L)) 2).2
      isplitl [Hxr]; · iexact Hxr
      iapply (Entails.of_eq (show iprop(((xV).view.loc (V d (cV L) (jV L)) ↦{Transfers.shareTok (xq (wL L)) 2 0} xc d) ∗ ((xV).view.loc (V d (cV L) (jV L)) ↦{Transfers.shareTok (xq (wL L)) 2 1} xc d))
        = (bigSep Finset.univ fun i : Fin 2 => (xLoc d ↦{Transfers.shareTok (xq (wL L)) 2 i} xc d : sProp 𝕄)) from (two fun i => (xLoc d ↦{Transfers.shareTok (xq (wL L)) 2 i} xc d : sProp 𝕄)).symm))
      isplitl [Hx0] <;> iassumption
    iapply (Entails.of_eq (chunks_eq (F := F) d L _).symm)
    iframe
  isplitl [Hs' Ha Hb Hbufs]
  · isplitl [Hs']; · iexists _; iexact Hs'
    isplitl [Ha]; · iexists _; iexact Ha
    isplitl [Hb]; · iexists _; iexact Hb
    iexact Hbufs
  isplitr [HO]
  · isplitl [H3]; · iexact H3
    isplitl [H4]; · iexact H4
    isplitl [C0]; · iexact C0
    isplitl [C1]; · iexact C1
    isplitl [C2]; · iexact C2
    isplitl [C3]; · iexact C3
    isplitl [C4]; · iexact C4
    isplitl [C5]; · iexact C5
    isplitl [C6]; · iexact C6
    isplitl [C7]; · iexact C7
    isplitl [C8]; · iexact C8
    isplitl [C9]; · iexact C9
    isplitl [C10]; · iexact C10
    isplitl [C11]; · iexact C11
    isplitl [C12]; · iexact C12
    isplitl [C13]; · iexact C13
    isplitl [C14]; · iexact C14
    isplitl [C15]; · iexact C15
    isplitl [C16]; · iexact C16
    iexact Hsems
  iexists _; isplitr
  swap; · iexact HO
  ipureintro
  intro p hp
  simp only [Finset.mem_insert] at hp
  iterate 33 (rcases hp with hp | hp; exact Or.inr (by rw [hp]; rfl))
  exact Or.inl hp

end Tile

end Cert.Proof.GatherI

end
-- ==== Proof.ScanRunI.lean ====
/-
  One grid point of the recurrence's call: what the body leaves in its results and in its four state buffers, at the
  first point (the state cleared, the running maximum begun) and at a later one (the maximum taken with what is there).
-/
module

public import proofs.«01_k».proof.Proof.GatherI
public import proofs.«01_k».proof.Proof.Gen.KernelIdeal.Launch
public import proofs.«01_k».proof.Proof.Gen.KernelIdeal.Points
public import Idealize.ShloMosaic.Lib.Pipeline.Frame
public import Idealize.ShloMosaic.Lib.VecWindow

@[expose] public section

noncomputable section

namespace Cert.Proof.GatherI

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The running maximum's two halves -/

/-- The halves of the maximum over the points so far, one per direction. -/
def hL (x : Vec F S1024x256 .f32) : Vec F S1024x128 .f32 := VecWindow.window x ![0, 0] S1024x128.size inb_S1024x256_S1024x128_0_0
def hR (x : Vec F S1024x256 .f32) : Vec F S1024x128 .f32 := VecWindow.window x ![0, 128] S1024x128.size inb_S1024x256_S1024x128_0_128
/-- Two halves side by side. -/
def both (l r : Vec F S1024x128 .f32) : Vec F S1024x256 .f32 :=
  fun j => if h : (j 1).val < 128 then l (fun | 0 => j 0 | 1 => ⟨(j 1).val, h⟩)
    else r (fun | 0 => j 0 | 1 => ⟨(j 1).val - 128, show (j 1).val - 128 < 128 by have := (j 1).isLt; change (j 1).val < 256 at this; omega⟩)

/-- Two stores, one of each half, leave the two halves whatever was there. -/
theorem put_both (x : Vec F S1024x256 .f32) (l r : Vec F S1024x128 .f32) :
    VecWindow.put (VecWindow.put x ![0, 0] S1024x128.size l) ![0, 128] S1024x128.size r = both l r := by
  funext j
  have h0 : (j 0).val < 1024 := (j 0).isLt
  have h1 : (j 1).val < 256 := (j 1).isLt
  unfold VecWindow.put both
  by_cases h : (j 1).val < 128
  · have hr : ¬ ∀ a : Fin 2, (![0, 128] : Fin 2 → ℕ) a ≤ (j a).val ∧ (j a).val < (![0, 128] : Fin 2 → ℕ) a + S1024x128.size a := fun hall => by
      have := (hall 1).1; change 128 ≤ (j 1).val at this; omega
    have hl : ∀ a : Fin 2, (![0, 0] : Fin 2 → ℕ) a ≤ (j a).val ∧ (j a).val < (![0, 0] : Fin 2 → ℕ) a + S1024x128.size a := by
      intro a
      match a with
      | 0 => exact ⟨Nat.zero_le _, by change (j 0).val < 0 + 1024; omega⟩
      | 1 => exact ⟨Nat.zero_le _, by change (j 1).val < 0 + 128; omega⟩
    rw [dif_neg hr, dif_pos hl, dif_pos h]
    exact congrArg l (funext fun a => Fin.ext (match a with | 0 => rfl | 1 => rfl))
  · have hr : ∀ a : Fin 2, (![0, 128] : Fin 2 → ℕ) a ≤ (j a).val ∧ (j a).val < (![0, 128] : Fin 2 → ℕ) a + S1024x128.size a := by
      intro a
      match a with
      | 0 => exact ⟨Nat.zero_le _, by change (j 0).val < 0 + 1024; omega⟩
      | 1 => exact ⟨by change 128 ≤ (j 1).val; omega, by change (j 1).val < 128 + 128; omega⟩
    rw [dif_pos hr, dif_neg h]
    exact congrArg r (funext fun a => Fin.ext (match a with | 0 => rfl | 1 => rfl))

/-! ## Loads of whole buffers -/

section Loads

variable {sp : Space} (Val : EltTy → Type) {e : EltTy}

theorem ld_x (v : View sig .tc sp S1x1024x128 e) (f : v.ty.Contents Val) (inb : ∀ a, (![0, 0, 0] : Fin 3 → ℕ) a + (![1, 1024, 128] : Fin 3 → ℕ) a ≤ S1x1024x128.size a) :
    v.readAt Val (Rect.unit (s := S1x1024x128) ![0, 0, 0] ![1, 1024, 128] inb).toLoadRect f = v.read Val f := View.readAt_full v f inb
theorem ld_h (v : View sig .tc sp S1024x128 e) (f : v.ty.Contents Val) (inb : ∀ a, (![0, 0] : Fin 2 → ℕ) a + (![1024, 128] : Fin 2 → ℕ) a ≤ S1024x128.size a) :
    v.readAt Val (Rect.unit (s := S1024x128) ![0, 0] ![1024, 128] inb).toLoadRect f = v.read Val f := View.readAt_full v f inb
theorem ld_w (v : View sig .tc sp S128x512 e) (f : v.ty.Contents Val) (inb : ∀ a, (![0, 0] : Fin 2 → ℕ) a + (![128, 512] : Fin 2 → ℕ) a ≤ S128x512.size a) :
    v.readAt Val (Rect.unit (s := S128x512) ![0, 0] ![128, 512] inb).toLoadRect f = v.read Val f := View.readAt_full v f inb
theorem ld_b (v : View sig .tc sp S1x512 e) (f : v.ty.Contents Val) (inb : ∀ a, (![0, 0] : Fin 2 → ℕ) a + (![1, 512] : Fin 2 → ℕ) a ≤ S1x512.size a) :
    v.readAt Val (Rect.unit (s := S1x512) ![0, 0] ![1, 512] inb).toLoadRect f = v.read Val f := View.readAt_full v f inb
theorem ld_s (v : View sig .tc sp S1024x1 e) (f : v.ty.Contents Val) (inb : ∀ a, (![0, 0] : Fin 2 → ℕ) a + (![1024, 1] : Fin 2 → ℕ) a ≤ S1024x1.size a) :
    v.readAt Val (Rect.unit (s := S1024x1) ![0, 0] ![1024, 1] inb).toLoadRect f = v.read Val f := View.readAt_full v f inb
theorem ld_wd (v : View sig .tc sp S128x2 e) (f : v.ty.Contents Val) (inb : ∀ a, (![0, 0] : Fin 2 → ℕ) a + (![128, 2] : Fin 2 → ℕ) a ≤ S128x2.size a) :
    v.readAt Val (Rect.unit (s := S128x2) ![0, 0] ![128, 2] inb).toLoadRect f = v.read Val f := View.readAt_full v f inb
theorem ld_bd (v : View sig .tc sp S1x2 e) (f : v.ty.Contents Val) (inb : ∀ a, (![0, 0] : Fin 2 → ℕ) a + (![1, 2] : Fin 2 → ℕ) a ≤ S1x2.size a) :
    v.readAt Val (Rect.unit (s := S1x2) ![0, 0] ![1, 2] inb).toLoadRect f = v.read Val f := View.readAt_full v f inb
theorem cov_h [∀ e, Nonempty (Val e)] (v : View sig .tc sp S1024x128 e) (inb inb' : ∀ a, (![0, 0] : Fin 2 → ℕ) a + (![1024, 128] : Fin 2 → ℕ) a ≤ S1024x128.size a)
    (w : (Rect.unit (s := S1024x128) ![0, 0] ![1024, 128] inb').shape.Idx → Val e) (L : List (View.Piece Val S1024x128 e)) :
    v.readCov (⟨Rect.unit (s := S1024x128) ![0, 0] ![1024, 128] inb', w⟩ :: L) (Rect.unit (s := S1024x128) ![0, 0] ![1024, 128] inb).toLoadRect = w :=
  View.readCov_full v inb inb' w L
theorem cov_s [∀ e, Nonempty (Val e)] (v : View sig .tc sp S1024x1 e) (inb inb' : ∀ a, (![0, 0] : Fin 2 → ℕ) a + (![1024, 1] : Fin 2 → ℕ) a ≤ S1024x1.size a)
    (w : (Rect.unit (s := S1024x1) ![0, 0] ![1024, 1] inb').shape.Idx → Val e) (L : List (View.Piece Val S1024x1 e)) :
    v.readCov (⟨Rect.unit (s := S1024x1) ![0, 0] ![1024, 1] inb', w⟩ :: L) (Rect.unit (s := S1024x1) ![0, 0] ![1024, 1] inb).toLoadRect = w :=
  View.readCov_full v inb inb' w L
theorem at_h (v : View sig .tc sp S1024x128 e) (f : v.ty.Contents Val) (inb inb' : ∀ a, (![0, 0] : Fin 2 → ℕ) a + (![1024, 128] : Fin 2 → ℕ) a ≤ S1024x128.size a)
    (w : (Rect.unit (s := S1024x128) ![0, 0] ![1024, 128] inb').shape.Idx → Val e) (L : List (View.Piece Val S1024x128 e)) :
    v.readAt Val (Rect.unit (s := S1024x128) ![0, 0] ![1024, 128] inb).toLoadRect (v.writes Val f (⟨Rect.unit (s := S1024x128) ![0, 0] ![1024, 128] inb', w⟩ :: L)) = w :=
  View.readAt_writes_full v f inb inb' w L
theorem at_s (v : View sig .tc sp S1024x1 e) (f : v.ty.Contents Val) (inb inb' : ∀ a, (![0, 0] : Fin 2 → ℕ) a + (![1024, 1] : Fin 2 → ℕ) a ≤ S1024x1.size a)
    (w : (Rect.unit (s := S1024x1) ![0, 0] ![1024, 1] inb').shape.Idx → Val e) (L : List (View.Piece Val S1024x1 e)) :
    v.readAt Val (Rect.unit (s := S1024x1) ![0, 0] ![1024, 1] inb).toLoadRect (v.writes Val f (⟨Rect.unit (s := S1024x1) ![0, 0] ![1024, 1] inb', w⟩ :: L)) = w :=
  View.readAt_writes_full v f inb inb' w L
/-- The halves of the running maximum, as loads read them. -/
theorem ld_hL (v : View sig .tc sp S1024x256 .f32) (f : v.ty.Contents (Elt F)) (inb : ∀ a, (![0, 0] : Fin 2 → ℕ) a + (![1024, 128] : Fin 2 → ℕ) a ≤ S1024x256.size a) :
    v.readAt (Elt F) (Rect.unit (s := S1024x256) ![0, 0] ![1024, 128] inb).toLoadRect f = hL (v.read (Elt F) f) := rfl
theorem ld_hR (v : View sig .tc sp S1024x256 .f32) (f : v.ty.Contents (Elt F)) (inb : ∀ a, (![0, 128] : Fin 2 → ℕ) a + (![1024, 128] : Fin 2 → ℕ) a ≤ S1024x256.size a) :
    v.readAt (Elt F) (Rect.unit (s := S1024x256) ![0, 128] ![1024, 128] inb).toLoadRect f = hR (v.read (Elt F) f) := rfl
theorem hR_put (x : Vec F S1024x256 .f32) (l : Vec F S1024x128 .f32) : hR (VecWindow.put x ![0, 0] S1024x128.size l) = hR x :=
  VecWindow.window_put_of_disjoint _ _ _ _ _ _ _ (1 : Fin 2) (Or.inr (by decide))

end Loads

/-! ## The body at a point -/

variable (c : Dev nD) (i : grid1.Coords) (arg1 : Memref sig .tc .vmem S1x1024x128 .f32) (harg1 : arg1.IsWhole) (arg2 : Memref sig .tc .vmem S1x1024x128 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S1x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S1x512 .f32) (harg8 : arg8.IsWhole) (arg9 : Memref sig .tc .vmem S1x1024x128 .f32) (harg9 : arg9.IsWhole) (arg10 : Memref sig .tc .vmem S1x1024x128 .f32) (harg10 : arg10.IsWhole) (arg11 : Memref sig .tc .vmem S1024x256 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole)
variable (x0 : Vec F S1x1024x128 .f32) (x1 : Vec F S1x1024x128 .f32) (x2 : Vec F S128x512 .f32) (x3 : Vec F S128x512 .f32) (x4 : Vec F S1x512 .f32) (x5 : Vec F S128x512 .f32) (x6 : Vec F S128x512 .f32) (x7 : Vec F S1x512 .f32)

set_option maxRecDepth 16384 in
set_option maxHeartbeats 2000000 in
/-- The body at the first point. -/
theorem scan_first (hc0 : Scalar.cmpi .ne (Scalar.extui (Scalar.cmpi .eq (BitVec.ofNat 32 (i 0).val) 0#32)) 0#32 = 1#1) (hc1 : k1_cond2 i = 1#1) (hc2 : ¬ k1_cond3 i = 1#1) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ (∃ d, owns (c : Thread nD τ) arg9 fullShare d)
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)
        ∗ (∃ d, owns (c : Thread nD τ) arg14 fullShare d)
        ∗ (∃ d, owns (c : Thread nD τ) arg15 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare (k1_pay1 (k1_pay11 x0 k1_pay5 k1_pay6 x2 x3 x4))
            ∗ owns (c : Thread nD τ) arg10 fullShare (k1_pay2 (k1_pay15 (k1_pay12 x1) k1_pay7 k1_pay8 x5 x6 x7))
            ∗ owns (c : Thread nD τ) arg11 fullShare (both (k1_pay11 x0 k1_pay5 k1_pay6 x2 x3 x4) (k1_pay15 (k1_pay12 x1) k1_pay7 k1_pay8 x5 x6 x7))
            ∗ owns (c : Thread nD τ) arg12 fullShare (k1_pay16 (k1_pay11 x0 k1_pay5 k1_pay6 x2 x3 x4))
            ∗ owns (c : Thread nD τ) arg13 fullShare (k1_pay17 (k1_pay10 x0 k1_pay5 k1_pay6 x2 x3 x4))
            ∗ owns (c : Thread nD τ) arg14 fullShare (k1_pay18 (k1_pay12 x1) k1_pay7 k1_pay8 x5 x6 x7)
            ∗ owns (c : Thread nD τ) arg15 fullShare (k1_pay19 (k1_pay12 x1) k1_pay7 k1_pay8 x5 x6 x7)) -∗ K ⟨⟩))
      ⊢ wp frame (wpE (defs₀ (F := F)) Variants.none c none) E (cc1__scan_body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc1__scan_body_eq_skeleton]; unfold cc1__scan_body_skel
  simp only [k1_part1_eq_skeleton, k1_part2_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
  sl_exec (disch := first | sl_exact hc0 | sl_exact hc1 | sl_exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; swap
    · iexact H9
    · ipureintro
      refine (View.read_writes_full _ _ _ _ _).trans ?_
      try sl_unfold_run_names
      simp only [ld_x, ld_h, ld_w, ld_b, cov_h, at_h, harg1.read_unread, harg2.read_unread, harg3.read_unread, harg4.read_unread, harg5.read_unread, harg6.read_unread, harg7.read_unread, harg8.read_unread]
  isplitl [H10]
  · iexists _; isplitr; swap
    · iexact H10
    · ipureintro
      refine (View.read_writes_full _ _ _ _ _).trans ?_
      try sl_unfold_run_names
      simp only [ld_x, ld_h, ld_w, ld_b, cov_h, at_h, harg1.read_unread, harg2.read_unread, harg3.read_unread, harg4.read_unread, harg5.read_unread, harg6.read_unread, harg7.read_unread, harg8.read_unread]
  isplitl [H11]
  · iexists _; isplitr; swap
    · iexact H11
    · ipureintro
      rw [View.read_writes_cons_put _ _ _ _ _ rfl, View.read_writes_cons_put _ _ _ _ _ rfl, put_both]
      try sl_unfold_run_names
      simp only [ld_x, ld_h, ld_w, ld_b, cov_h, at_h, harg1.read_unread, harg2.read_unread, harg3.read_unread, harg4.read_unread, harg5.read_unread, harg6.read_unread, harg7.read_unread, harg8.read_unread]
  isplitl [H12]
  · iexists _; isplitr; swap
    · iexact H12
    · ipureintro
      refine (View.read_writes_full _ _ _ _ _).trans ?_
      try sl_unfold_run_names
      simp only [ld_x, ld_h, ld_w, ld_b, cov_h, at_h, harg1.read_unread, harg2.read_unread, harg3.read_unread, harg4.read_unread, harg5.read_unread, harg6.read_unread, harg7.read_unread, harg8.read_unread]
  isplitl [H13]
  · iexists _; isplitr; swap
    · iexact H13
    · ipureintro
      refine (View.read_writes_full _ _ _ _ _).trans ?_
      try sl_unfold_run_names
      simp only [ld_x, ld_h, ld_w, ld_b, cov_h, at_h, harg1.read_unread, harg2.read_unread, harg3.read_unread, harg4.read_unread, harg5.read_unread, harg6.read_unread, harg7.read_unread, harg8.read_unread]
  isplitl [H14]
  · iexists _; isplitr; swap
    · iexact H14
    · ipureintro
      refine (View.read_writes_full _ _ _ _ _).trans ?_
      try sl_unfold_run_names
      simp only [ld_x, ld_h, ld_w, ld_b, cov_h, at_h, harg1.read_unread, harg2.read_unread, harg3.read_unread, harg4.read_unread, harg5.read_unread, harg6.read_unread, harg7.read_unread, harg8.read_unread]
  iexists _; isplitr; swap
  · iexact H15
  · ipureintro
    refine (View.read_writes_full _ _ _ _ _).trans ?_
    try sl_unfold_run_names
    simp only [ld_x, ld_h, ld_w, ld_b, cov_h, at_h, harg1.read_unread, harg2.read_unread, harg3.read_unread, harg4.read_unread, harg5.read_unread, harg6.read_unread, harg7.read_unread, harg8.read_unread]

set_option maxRecDepth 16384 in
set_option maxHeartbeats 2000000 in
/-- The body at a later point. -/
theorem scan_later (hc0 : ¬ Scalar.cmpi .ne (Scalar.extui (Scalar.cmpi .eq (BitVec.ofNat 32 (i 0).val) 0#32)) 0#32 = 1#1) (hc1 : ¬ k1_cond2 i = 1#1) (hc2 : k1_cond3 i = 1#1) (hf cf hb cb : Vec F S1024x128 .f32) (ht : Vec F S1024x256 .f32) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ (∃ d, owns (c : Thread nD τ) arg9 fullShare d)
        ∗ (∃ d, owns (c : Thread nD τ) arg10 fullShare d)
        ∗ owns (c : Thread nD τ) arg11 fullShare ht
        ∗ owns (c : Thread nD τ) arg12 fullShare hf
        ∗ owns (c : Thread nD τ) arg13 fullShare cf
        ∗ owns (c : Thread nD τ) arg14 fullShare hb
        ∗ owns (c : Thread nD τ) arg15 fullShare cb
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare (k1_pay1 (k1_pay11 x0 hf cf x2 x3 x4))
            ∗ owns (c : Thread nD τ) arg10 fullShare (k1_pay2 (k1_pay15 (k1_pay12 x1) hb cb x5 x6 x7))
            ∗ owns (c : Thread nD τ) arg11 fullShare (both (k1_pay3 (k1_pay11 x0 hf cf x2 x3 x4) (hL ht)) (k1_pay4 (k1_pay15 (k1_pay12 x1) hb cb x5 x6 x7) (hR ht)))
            ∗ owns (c : Thread nD τ) arg12 fullShare (k1_pay16 (k1_pay11 x0 hf cf x2 x3 x4))
            ∗ owns (c : Thread nD τ) arg13 fullShare (k1_pay17 (k1_pay10 x0 hf cf x2 x3 x4))
            ∗ owns (c : Thread nD τ) arg14 fullShare (k1_pay18 (k1_pay12 x1) hb cb x5 x6 x7)
            ∗ owns (c : Thread nD τ) arg15 fullShare (k1_pay19 (k1_pay12 x1) hb cb x5 x6 x7)) -∗ K ⟨⟩))
      ⊢ wp frame (wpE (defs₀ (F := F)) Variants.none c none) E (cc1__scan_body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc1__scan_body_eq_skeleton]; unfold cc1__scan_body_skel
  simp only [k1_part1_eq_skeleton, k1_part2_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, ⟨%f12, %hf12, H12⟩, ⟨%f13, %hf13, H13⟩, ⟨%f14, %hf14, H14⟩, ⟨%f15, %hf15, H15⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg11.eq_unread hf11; obtain rfl := harg12.eq_unread hf12; obtain rfl := harg13.eq_unread hf13; obtain rfl := harg14.eq_unread hf14; obtain rfl := harg15.eq_unread hf15
  sl_exec (disch := first | sl_exact hc0 | sl_exact hc1 | sl_exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; swap
    · iexact H9
    · ipureintro
      refine (View.read_writes_full _ _ _ _ _).trans ?_
      try sl_unfold_run_names
      simp only [ld_x, ld_h, ld_w, ld_b, cov_h, at_h, harg1.read_unread, harg2.read_unread, harg3.read_unread, harg4.read_unread, harg5.read_unread, harg6.read_unread, harg7.read_unread, harg8.read_unread, harg11.read_unread, harg12.read_unread, harg13.read_unread, harg14.read_unread, harg15.read_unread]
  isplitl [H10]
  · iexists _; isplitr; swap
    · iexact H10
    · ipureintro
      refine (View.read_writes_full _ _ _ _ _).trans ?_
      try sl_unfold_run_names
      simp only [ld_x, ld_h, ld_w, ld_b, cov_h, at_h, harg1.read_unread, harg2.read_unread, harg3.read_unread, harg4.read_unread, harg5.read_unread, harg6.read_unread, harg7.read_unread, harg8.read_unread, harg11.read_unread, harg12.read_unread, harg13.read_unread, harg14.read_unread, harg15.read_unread]
  isplitl [H11]
  · iexists _; isplitr; swap
    · iexact H11
    · ipureintro
      rw [View.read_writes_cons_put _ _ _ _ _ rfl, View.read_writes_cons_put _ _ _ _ _ rfl, put_both]
      try sl_unfold_run_names
      simp only [ld_x, ld_h, ld_w, ld_b, cov_h, at_h, harg1.read_unread, harg2.read_unread, harg3.read_unread, harg4.read_unread, harg5.read_unread, harg6.read_unread, harg7.read_unread, harg8.read_unread, harg11.read_unread, harg12.read_unread, harg13.read_unread, harg14.read_unread, harg15.read_unread]
      simp only [ld_hL, ld_hR, harg11.read_unread]
  isplitl [H12]
  · iexists _; isplitr; swap
    · iexact H12
    · ipureintro
      refine (View.read_writes_full _ _ _ _ _).trans ?_
      try sl_unfold_run_names
      simp only [ld_x, ld_h, ld_w, ld_b, cov_h, at_h, harg1.read_unread, harg2.read_unread, harg3.read_unread, harg4.read_unread, harg5.read_unread, harg6.read_unread, harg7.read_unread, harg8.read_unread, harg11.read_unread, harg12.read_unread, harg13.read_unread, harg14.read_unread, harg15.read_unread]
  isplitl [H13]
  · iexists _; isplitr; swap
    · iexact H13
    · ipureintro
      refine (View.read_writes_full _ _ _ _ _).trans ?_
      try sl_unfold_run_names
      simp only [ld_x, ld_h, ld_w, ld_b, cov_h, at_h, harg1.read_unread, harg2.read_unread, harg3.read_unread, harg4.read_unread, harg5.read_unread, harg6.read_unread, harg7.read_unread, harg8.read_unread, harg11.read_unread, harg12.read_unread, harg13.read_unread, harg14.read_unread, harg15.read_unread]
  isplitl [H14]
  · iexists _; isplitr; swap
    · iexact H14
    · ipureintro
      refine (View.read_writes_full _ _ _ _ _).trans ?_
      try sl_unfold_run_names
      simp only [ld_x, ld_h, ld_w, ld_b, cov_h, at_h, harg1.read_unread, harg2.read_unread, harg3.read_unread, harg4.read_unread, harg5.read_unread, harg6.read_unread, harg7.read_unread, harg8.read_unread, harg11.read_unread, harg12.read_unread, harg13.read_unread, harg14.read_unread, harg15.read_unread]
  iexists _; isplitr; swap
  · iexact H15
  · ipureintro
    refine (View.read_writes_full _ _ _ _ _).trans ?_
    try sl_unfold_run_names
    simp only [ld_x, ld_h, ld_w, ld_b, cov_h, at_h, harg1.read_unread, harg2.read_unread, harg3.read_unread, harg4.read_unread, harg5.read_unread, harg6.read_unread, harg7.read_unread, harg8.read_unread, harg11.read_unread, harg12.read_unread, harg13.read_unread, harg14.read_unread, harg15.read_unread]

end Cert.Proof.GatherI

end
-- ==== Proof.ScanI.lean ====
/-
  The recurrences' call as a pipeline: what its outputs and its four carried states hold after each of the 200 points,
  and the body's obligation at every one.
-/
module

public import proofs.«01_k».proof.Proof.ScanRunI
public import Idealize.ShloMosaic.Lib.Pipeline.TableIdle

@[expose] public section

noncomputable section

namespace Cert.Proof.GatherI

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The waits a TensorCore has recorded once the gather is over -/

/-- The pairs of a level no higher than the gather's last. -/
def recd (c : Dev nD) : Set (SemLoc sig × HIx 1) := {p | (K (F := F)).lev ((c : Thread nD τ), p.1) p.2 ≤ 8}

/-! ## What each point leaves -/

/-- Both outputs' blocks, the two running maxima, the two hidden and the two cell states. -/
structure ScanSt (F : FTy → Type) where
  of : Vec F S1x1024x128 .f32
  ob : Vec F S1x1024x128 .f32
  ht : Vec F S1024x256 .f32
  hf : Vec F S1024x128 .f32
  cf : Vec F S1024x128 .f32
  hb : Vec F S1024x128 .f32
  cb : Vec F S1024x128 .f32

/-- One step from given states and maxima: the maxima's update is `up`. -/
def scanStep (up : Vec F S1024x128 .f32 → Vec F S1024x128 .f32 → Vec F S1024x256 .f32) (hf cf hb cb : Vec F S1024x128 .f32)
    (x0 x1 : Vec F S1x1024x128 .f32) (x2 x3 : Vec F S128x512 .f32) (x4 : Vec F S1x512 .f32) (x5 x6 : Vec F S128x512 .f32) (x7 : Vec F S1x512 .f32) : ScanSt F where
  of := k1_pay1 (k1_pay11 x0 hf cf x2 x3 x4)
  ob := k1_pay2 (k1_pay15 (k1_pay12 x1) hb cb x5 x6 x7)
  ht := up (k1_pay11 x0 hf cf x2 x3 x4) (k1_pay15 (k1_pay12 x1) hb cb x5 x6 x7)
  hf := k1_pay16 (k1_pay11 x0 hf cf x2 x3 x4)
  cf := k1_pay17 (k1_pay10 x0 hf cf x2 x3 x4)
  hb := k1_pay18 (k1_pay12 x1) hb cb x5 x6 x7
  cb := k1_pay19 (k1_pay12 x1) hb cb x5 x6 x7

variable (c : Dev nD) (Vv : Valuation τ sig (Elt F))

/-- A window's block at a point, off the arrays at `Vv`. -/
def blk1 (w : Fin cfg1.W) (t : Fin cfg1.N) : ((cfg1.win w).xblock (cfg1.grid.coords t)).Idx → Elt F (cfg1.win w).elt :=
  ((cfg1.win w).blk t).view.read (Elt F) (Vv (Proc.devRef .tc (Pipeline.arrRef spec1 w)))

/-- A point's step on the blocks it finds. -/
def scanBlk (up : Vec F S1024x128 .f32 → Vec F S1024x128 .f32 → Vec F S1024x256 .f32) (hf cf hb cb : Vec F S1024x128 .f32) (t : Fin cfg1.N) : ScanSt F :=
  scanStep up hf cf hb cb (blk1 Vv 0 t) (blk1 Vv 1 t) (blk1 Vv 2 t) (blk1 Vv 3 t) (blk1 Vv 4 t) (blk1 Vv 5 t) (blk1 Vv 6 t) (blk1 Vv 7 t)

/-- What point `n` leaves: the first starts the states and the maxima, each later one goes on from the point before's. -/
def scanAt : (n : ℕ) → n < cfg1.N → ScanSt F
  | 0, h => scanBlk Vv both k1_pay5 k1_pay6 k1_pay7 k1_pay8 ⟨0, h⟩
  | n + 1, h =>
    let s := scanAt n (Nat.lt_of_succ_lt h)
    scanBlk Vv (fun l r => both (k1_pay3 l (hL s.ht)) (k1_pay4 r (hR s.ht))) s.hf s.cf s.hb s.cb ⟨n + 1, h⟩

/-! ## The invariant between points -/

abbrev sM1_0 : Memref sig .tc .vmem S1024x128 .f32 := Memref.whole cc1_scratch0
abbrev sM1_1 : Memref sig .tc .vmem S1024x128 .f32 := Memref.whole cc1_scratch1
abbrev sM1_2 : Memref sig .tc .vmem S1024x128 .f32 := Memref.whole cc1_scratch2
abbrev sM1_3 : Memref sig .tc .vmem S1024x128 .f32 := Memref.whole cc1_scratch3

/-- A buffer at some contents. -/
def anyB (c : Dev nD) (b : Ref sig .tc) : sProp 𝕄 := iprop(∃ f : Buf (Elt F) ((c.tc : Thread nD τ).loc b), ((c.tc : Thread nD τ).loc b) ↦{fullShare} f)

/-- The scoped buffers this call neither stages in nor carries a state in. -/
def rest1 : sProp 𝕄 := bigSepL [cc2_stg0_0, cc2_stg0_1, cc2_stg1_0, cc2_stg1_1, cc2_stg2_0, cc2_stg3_0, cc2_stg4_0, cc2_stg5_0, cc2_stg6_0, cc2_scratch0, cc2_scratch1, cc2_scratch2, cc2_scratch3] (anyB (F := F) c)

/-- The four states at given contents. -/
def states1 (s : ScanSt F) : sProp 𝕄 :=
  iprop(owns (c : Thread nD τ) sM1_0 fullShare s.hf ∗ owns (c : Thread nD τ) sM1_1 fullShare s.cf ∗ owns (c : Thread nD τ) sM1_2 fullShare s.hb ∗ owns (c : Thread nD τ) sM1_3 fullShare s.cb)

/-- The four states at any contents. -/
def anyStates1 : sProp 𝕄 :=
  iprop((∃ d : Vec F S1024x128 .f32, owns (c : Thread nD τ) sM1_0 fullShare d) ∗ (∃ d : Vec F S1024x128 .f32, owns (c : Thread nD τ) sM1_1 fullShare d) ∗ (∃ d : Vec F S1024x128 .f32, owns (c : Thread nD τ) sM1_2 fullShare d) ∗ (∃ d : Vec F S1024x128 .f32, owns (c : Thread nD τ) sM1_3 fullShare d))

omit [FloatOps F] in
theorem states1_any (s : ScanSt F) : states1 c s ⊢ (anyStates1 c : sProp 𝕄) := by
  unfold states1 anyStates1
  iintro ⟨H0, H1, H2, H3⟩
  isplitl [H0]; · iexists _; iexact H0
  isplitl [H1]; · iexists _; iexact H1
  isplitl [H2]; · iexists _; iexact H2
  iexists _; iexact H3

omit [FloatOps F] in
theorem scoped1 : (Pipeline.scopedRest spec1 c : sProp 𝕄) = iprop((∃ f, ((c : Thread nD τ).loc cc1_scratch0) ↦{fullShare} f) ∗ (∃ f, ((c : Thread nD τ).loc cc1_scratch1) ↦{fullShare} f)
    ∗ (∃ f, ((c : Thread nD τ).loc cc1_scratch2) ↦{fullShare} f) ∗ (∃ f, ((c : Thread nD τ).loc cc1_scratch3) ↦{fullShare} f) ∗ rest1 (F := F) c) :=
  scopedRest1_eq c

omit [FloatOps F] in
theorem scoped1_states : (Pipeline.scopedRest spec1 c : sProp 𝕄) ⊣⊢ iprop(anyStates1 c ∗ rest1 (F := F) c) := by
  rw [scoped1]; unfold anyStates1; simp only [owns_whole]
  exact ⟨by iintro ⟨H0, H1, H2, H3, Hr⟩; isplitr [Hr]; · (isplitl [H0]; · iexact H0); (isplitl [H1]; · iexact H1); (isplitl [H2]; · iexact H2); iexact H3
            iexact Hr,
    by iintro ⟨⟨H0, H1, H2, H3⟩, Hr⟩; (isplitl [H0]; · iexact H0); (isplitl [H1]; · iexact H1); (isplitl [H2]; · iexact H2); (isplitl [H3]; · iexact H3); iexact Hr⟩

/-- Before point `n`: the states at what the point before left, the generator's register at some state. -/
def Phi1 : (n : ℕ) → n ≤ cfg1.N → sProp 𝕄
  | 0, _ => iprop((anyStates1 c ∗ rest1 (F := F) c) ∗ ∃ r, prngReg c r)
  | n + 1, h => iprop((states1 c (scanAt Vv n h) ∗ rest1 (F := F) c) ∗ ∃ r, prngReg c r)

theorem Phi1_pos (n : ℕ) (h : n ≤ cfg1.N) (hz : n ≠ 0) :
    Phi1 c Vv n h = iprop((states1 c (scanAt Vv (n - 1) (by omega)) ∗ rest1 (F := F) c) ∗ ∃ r, prngReg c r) := by
  cases n with
  | zero => exact absurd rfl hz
  | succ n => rfl

theorem Phi1_any (n : ℕ) (h : n ≤ cfg1.N) : Phi1 c Vv n h ⊢ iprop((anyStates1 c ∗ rest1 (F := F) c) ∗ ∃ r, prngReg c r) := by
  cases n with
  | zero => exact .rfl
  | succ n => exact sep_mono (sep_mono (states1_any c _) .rfl) .rfl

/-! ## The pipeline's proof data -/

def dat1 : Dat τ (Elt F) (HIx 1) ℕ UU ℕ cfg1 c where
  A w := Vv (Proc.devRef .tc (Pipeline.arrRef spec1 w))
  after w t := match w with
    | ⟨0, _⟩ => blk1 Vv 0 t
    | ⟨1, _⟩ => blk1 Vv 1 t
    | ⟨2, _⟩ => blk1 Vv 2 t
    | ⟨3, _⟩ => blk1 Vv 3 t
    | ⟨4, _⟩ => blk1 Vv 4 t
    | ⟨5, _⟩ => blk1 Vv 5 t
    | ⟨6, _⟩ => blk1 Vv 6 t
    | ⟨7, _⟩ => blk1 Vv 7 t
    | ⟨8, _⟩ => (scanAt Vv t.val t.isLt).of
    | ⟨9, _⟩ => (scanAt Vv t.val t.isLt).ob
    | ⟨10, _⟩ => (scanAt Vv t.val t.isLt).ht
  Φ t := Phi1 c Vv t.val (Nat.le_of_lt_succ t.isLt)
  q w := Pipeline.shareOf spec1 w
  owed _ := 0
  recorded _ := recd (F := F) c

theorem Phi1_castSucc (t : Fin cfg1.N) : (dat1 c Vv).Φ t.castSucc = Phi1 c Vv t.val (Nat.le_of_lt t.isLt) := by
  dsimp only [dat1]; exact Pipeline.Dat.Φ_castSucc (Phi1 c Vv) t

/-- An input's staging buffer holds its block at every point, fetched there or not. -/
theorem before1_in (w : Fin cfg1.W) (hw : (cfg1.win w).isOut = false) (hlive : ∀ i, cfg1.idle w i = false)
    (hclip : ∀ t t' : Fin cfg1.N, (cfg1.win w).index t = (cfg1.win w).index t' → (cfg1.win w).clip (cfg1.grid.coords t) = (cfg1.win w).clip (cfg1.grid.coords t'))
    (hkeep : ∀ t, (cfg1.win w).cut (cfg1.grid.coords t) ((dat1 c Vv).after w t) = (dat1 c Vv).blockOf w t) (t : Fin cfg1.N) (d) :
    (dat1 c Vv).before w t d = (dat1 c Vv).fetched w t d := (dat1 c Vv).before_in_eq_fetched w hw hlive hclip hkeep t d

theorem blockOf1 (w : Fin cfg1.W) (t : Fin cfg1.N) : (dat1 c Vv).blockOf w t = blk1 Vv w t := by
  unfold Dat.blockOf blk1; dsimp only [dat1]

theorem before1_0 (t : Fin cfg1.N) (d) : (dat1 c Vv).before 0 t d = blk1 Vv 0 t :=
  (before1_in c Vv 0 rfl (fun _ => rfl) (fun _ _ _ => rfl) (fun t => by rw [blockOf1]; rfl) t d).trans (by unfold Dat.fetched; rw [blockOf1]; rfl)
theorem before1_1 (t : Fin cfg1.N) (d) : (dat1 c Vv).before 1 t d = blk1 Vv 1 t :=
  (before1_in c Vv 1 rfl (fun _ => rfl) (fun _ _ _ => rfl) (fun t => by rw [blockOf1]; rfl) t d).trans (by unfold Dat.fetched; rw [blockOf1]; rfl)
theorem before1_2 (t : Fin cfg1.N) (d) : (dat1 c Vv).before 2 t d = blk1 Vv 2 t :=
  (before1_in c Vv 2 rfl (fun _ => rfl) (fun _ _ _ => rfl) (fun t => by rw [blockOf1]; rfl) t d).trans (by unfold Dat.fetched; rw [blockOf1]; rfl)
theorem before1_3 (t : Fin cfg1.N) (d) : (dat1 c Vv).before 3 t d = blk1 Vv 3 t :=
  (before1_in c Vv 3 rfl (fun _ => rfl) (fun _ _ _ => rfl) (fun t => by rw [blockOf1]; rfl) t d).trans (by unfold Dat.fetched; rw [blockOf1]; rfl)
theorem before1_4 (t : Fin cfg1.N) (d) : (dat1 c Vv).before 4 t d = blk1 Vv 4 t :=
  (before1_in c Vv 4 rfl (fun _ => rfl) (fun _ _ _ => rfl) (fun t => by rw [blockOf1]; rfl) t d).trans (by unfold Dat.fetched; rw [blockOf1]; rfl)
theorem before1_5 (t : Fin cfg1.N) (d) : (dat1 c Vv).before 5 t d = blk1 Vv 5 t :=
  (before1_in c Vv 5 rfl (fun _ => rfl) (fun _ _ _ => rfl) (fun t => by rw [blockOf1]; rfl) t d).trans (by unfold Dat.fetched; rw [blockOf1]; rfl)
theorem before1_6 (t : Fin cfg1.N) (d) : (dat1 c Vv).before 6 t d = blk1 Vv 6 t :=
  (before1_in c Vv 6 rfl (fun _ => rfl) (fun _ _ _ => rfl) (fun t => by rw [blockOf1]; rfl) t d).trans (by unfold Dat.fetched; rw [blockOf1]; rfl)
theorem before1_7 (t : Fin cfg1.N) (d) : (dat1 c Vv).before 7 t d = blk1 Vv 7 t :=
  (before1_in c Vv 7 rfl (fun _ => rfl) (fun _ _ _ => rfl) (fun t => by rw [blockOf1]; rfl) t d).trans (by unfold Dat.fetched; rw [blockOf1]; rfl)

/-! ## Which point is which -/

theorem first1 : ∀ t : Fin cfg1.N, (Scalar.cmpi .ne (Scalar.extui (Scalar.cmpi .eq (BitVec.ofNat 32 ((grid1.coords t) 0).val) 0#32)) 0#32 = 1#1) ↔ t.val = 0 :=
  (by decide +kernel : ∀ t : Fin grid1.N, (Scalar.cmpi .ne (Scalar.extui (Scalar.cmpi .eq (BitVec.ofNat 32 ((grid1.coords t) 0).val) 0#32)) 0#32 = 1#1) ↔ t.val = 0)
theorem cond1_2 : ∀ t : Fin cfg1.N, k1_cond2 (grid1.coords t) = 1#1 ↔ t.val = 0 :=
  (by decide +kernel : ∀ t : Fin grid1.N, k1_cond2 (grid1.coords t) = 1#1 ↔ t.val = 0)
theorem cond1_3 : ∀ t : Fin cfg1.N, k1_cond3 (grid1.coords t) = 1#1 ↔ t.val ≠ 0 :=
  (by decide +kernel : ∀ t : Fin grid1.N, k1_cond3 (grid1.coords t) = 1#1 ↔ t.val ≠ 0)

/-- The maxima's window is stored into at every point. -/
theorem live1_10 : ∀ t : Fin cfg1.N, cfg1.idle 10 (grid1.coords t) = false :=
  (by decide +kernel : ∀ t : Fin grid1.N, idle1 10 (grid1.coords t) = false)

/-- The start and the end of the 200 points. -/
def ends200 (n : ℕ) : Bool := decide (n = 0 ∨ n = 200)

theorem fresh1_10 (t : Fin cfg1.N) (ht : t.val ≠ 0) : cfg1.fresh 10 t.val = false := by
  have h : ∀ t : Fin cfg1.N, ends200 (t.val + 1) = ((cfg1.win 10).flush t || (cfg1.idle 10 (cfg1.grid.coords t) && ends200 t.val)) := by
    decide +kernel
  rw [Pipeline.Cfg.fresh_tab cfg1 10 ends200 rfl h t.val (Nat.le_of_lt t.isLt)]
  have hN : t.val < 200 := lt_of_lt_of_eq t.isLt (show cfg1.N = 200 from N_1)
  exact decide_eq_false (by omega)

theorem before1_10 (t : Fin cfg1.N) (ht : t.val ≠ 0) (d) :
    (dat1 c Vv).before 10 t d = (scanAt Vv (t.val - 1) (Nat.lt_of_le_of_lt (Nat.sub_le _ _) t.isLt)).ht := by
  rw [Dat.before_out_traj _ 10 rfl (fun _ _ => rfl) (fun t _ hi => absurd (hi.symm.trans (live1_10 t)) (by decide)) t.val t rfl d,
    if_neg (by rw [fresh1_10 t ht]; exact Bool.false_ne_true)]
  rfl

/-! ## The body at a generic point -/

def pre1 (t : Fin cfg1.N) : sProp 𝕄 :=
  iprop((dat1 c Vv).Φ t.castSucc ∗ (dat1 c Vv).owesAt none t.castSucc
    ∗ (∃ d, owns (c : Thread nD τ) (st1_0 t) fullShare ((dat1 c Vv).before 0 t d))
    ∗ (∃ d, owns (c : Thread nD τ) (st1_1 t) fullShare ((dat1 c Vv).before 1 t d))
    ∗ (∃ d, owns (c : Thread nD τ) (st1_2 t) fullShare ((dat1 c Vv).before 2 t d))
    ∗ (∃ d, owns (c : Thread nD τ) (st1_3 t) fullShare ((dat1 c Vv).before 3 t d))
    ∗ (∃ d, owns (c : Thread nD τ) (st1_4 t) fullShare ((dat1 c Vv).before 4 t d))
    ∗ (∃ d, owns (c : Thread nD τ) (st1_5 t) fullShare ((dat1 c Vv).before 5 t d))
    ∗ (∃ d, owns (c : Thread nD τ) (st1_6 t) fullShare ((dat1 c Vv).before 6 t d))
    ∗ (∃ d, owns (c : Thread nD τ) (st1_7 t) fullShare ((dat1 c Vv).before 7 t d))
    ∗ (∃ d, owns (c : Thread nD τ) (st1_8 t) fullShare ((dat1 c Vv).before 8 t d))
    ∗ (∃ d, owns (c : Thread nD τ) (st1_9 t) fullShare ((dat1 c Vv).before 9 t d))
    ∗ (∃ d, owns (c : Thread nD τ) (st1_10 t) fullShare ((dat1 c Vv).before 10 t d)))

def post1 (t : Fin cfg1.N) : sProp 𝕄 :=
  iprop((dat1 c Vv).Φ t.succ ∗ (dat1 c Vv).owesAt none t.succ
    ∗ (dat1 c Vv).leavesExact 0 t ∗ (dat1 c Vv).leavesExact 1 t ∗ (dat1 c Vv).leavesExact 2 t ∗ (dat1 c Vv).leavesExact 3 t
    ∗ (dat1 c Vv).leavesExact 4 t ∗ (dat1 c Vv).leavesExact 5 t ∗ (dat1 c Vv).leavesExact 6 t ∗ (dat1 c Vv).leavesExact 7 t
    ∗ (dat1 c Vv).leavesExact 8 t ∗ (dat1 c Vv).leavesExact 9 t ∗ (dat1 c Vv).leavesExact 10 t)

/-- What a point leaves: the inputs' buffers at their blocks, the outputs' and the states at `s`. -/
def left1 (t : Fin cfg1.N) (s : ScanSt F) : sProp 𝕄 :=
  iprop(owns (c : Thread nD τ) (st1_0 t) fullShare (blk1 Vv 0 t) ∗ owns (c : Thread nD τ) (st1_1 t) fullShare (blk1 Vv 1 t)
    ∗ owns (c : Thread nD τ) (st1_2 t) fullShare (blk1 Vv 2 t) ∗ owns (c : Thread nD τ) (st1_3 t) fullShare (blk1 Vv 3 t)
    ∗ owns (c : Thread nD τ) (st1_4 t) fullShare (blk1 Vv 4 t) ∗ owns (c : Thread nD τ) (st1_5 t) fullShare (blk1 Vv 5 t)
    ∗ owns (c : Thread nD τ) (st1_6 t) fullShare (blk1 Vv 6 t) ∗ owns (c : Thread nD τ) (st1_7 t) fullShare (blk1 Vv 7 t)
    ∗ owns (c : Thread nD τ) (st1_8 t) fullShare s.of ∗ owns (c : Thread nD τ) (st1_9 t) fullShare s.ob
    ∗ owns (c : Thread nD τ) (st1_10 t) fullShare s.ht ∗ owns (c : Thread nD τ) sM1_0 fullShare s.hf
    ∗ owns (c : Thread nD τ) sM1_1 fullShare s.cf ∗ owns (c : Thread nD τ) sM1_2 fullShare s.hb ∗ owns (c : Thread nD τ) sM1_3 fullShare s.cb)

/-- That is what the obligation asks for. -/
theorem left1_post (t : Fin cfg1.N) :
    iprop(left1 c Vv t (scanAt Vv t.val t.isLt) ∗ rest1 (F := F) c ∗ (∃ r, prngReg c r) ∗ (dat1 c Vv).owesAt none t.succ) ⊢ post1 c Vv t := by
  unfold left1 post1
  rw [show (dat1 c Vv).leavesExact 10 t = owns (c : Thread nD τ) (st1_10 t) fullShare (scanAt Vv t.val t.isLt).ht from by
    unfold Dat.leavesExact; rw [live1_10 t]; rfl]
  iintro ⟨⟨H0, H1, H2, H3, H4, H5, H6, H7, H8, H9, H10, S0, S1, S2, S3⟩, Hr, Hg, Ho⟩
  isplitl [S0 S1 S2 S3 Hr Hg]
  · iapply (show iprop((states1 c (scanAt Vv t.val t.isLt) ∗ rest1 (F := F) c) ∗ ∃ r, prngReg c r) ⊢ (dat1 c Vv).Φ t.succ from .rfl)
    unfold states1
    isplitr [Hg]
    · isplitr [Hr]
      · isplitl [S0]; · iexact S0
        isplitl [S1]; · iexact S1
        isplitl [S2]; · iexact S2
        iexact S3
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body1_first (t : Fin cfg1.N) (ht : t.val = 0) :
    pre1 c Vv t ⊢ wp frame (wpE (defs₀ (F := F)) Variants.none c none) Set.univ (bodyAt1 t) (fun _ => post1 c Vv t) := by
  have hs : scanAt Vv t.val t.isLt = scanBlk Vv both k1_pay5 k1_pay6 k1_pay7 k1_pay8 t := by
    obtain ⟨v, hv⟩ := t; dsimp only at ht; subst ht; rfl
  have hp : (dat1 c Vv).Φ t.castSucc = iprop((anyStates1 c ∗ rest1 (F := F) c) ∗ ∃ r, prngReg c r) := by
    rw [Phi1_castSucc]; obtain ⟨v, hv⟩ := t; dsimp only at ht; subst ht; rfl
  unfold pre1 bodyAt1
  rw [hp]; unfold anyStates1
  simp only [before1_0, before1_1, before1_2, before1_3, before1_4, before1_5, before1_6, before1_7]
  iintro ⟨⟨⟨⟨S0, S1, S2, S3⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (scan_first c (grid1.coords t) _ _ _ _ _ _ _ _ _ _ _ _ _ _ _ _ _ _ _ _ _ _ _ _ _ _ _ _ _ _ (blk1 Vv 0 t) (blk1 Vv 1 t) (blk1 Vv 2 t) (blk1 Vv 3 t) (blk1 Vv 4 t) (blk1 Vv 5 t) (blk1 Vv 6 t) (blk1 Vv 7 t)
    ((first1 t).mpr ht) ((cond1_2 t).mpr ht) (fun h => (cond1_3 t).mp h ht) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [S0]; · iexact S0
  isplitl [S1]; · iexact S1
  isplitl [S2]; · iexact S2
  isplitl [S3]; · iexact S3
  iintro HL
  iapply (left1_post c Vv t)
  rw [hs]
  isplitl [HL]
  · dsimp only [left1, scanBlk, scanStep]; iexact HL
  isplitl [Hr]; · iexact Hr
  isplitl [Hg]; · iexact Hg
  iexact Ho

theorem body1_later (t : Fin cfg1.N) (ht : t.val ≠ 0) :
    pre1 c Vv t ⊢ wp frame (wpE (defs₀ (F := F)) Variants.none c none) Set.univ (bodyAt1 t) (fun _ => post1 c Vv t) := by
  have hs : scanAt Vv t.val t.isLt = (let s := scanAt Vv (t.val - 1) (Nat.lt_of_le_of_lt (Nat.sub_le _ _) t.isLt)
      scanBlk Vv (fun l r => both (k1_pay3 l (hL s.ht)) (k1_pay4 r (hR s.ht))) s.hf s.cf s.hb s.cb t) := by
    obtain ⟨v, hv⟩ := t
    cases v with
    | zero => exact absurd rfl ht
    | succ v => rfl
  unfold pre1 bodyAt1
  rw [Phi1_castSucc, Phi1_pos c Vv _ _ ht]
  simp only [before1_0, before1_1, before1_2, before1_3, before1_4, before1_5, before1_6, before1_7, before1_10 c Vv t ht]
  unfold states1
  iintro ⟨⟨⟨⟨S0, S1, S2, S3⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (scan_later c (grid1.coords t) _ _ _ _ _ _ _ _ _ _ _ _ _ _ _ _ _ _ _ _ _ _ _ _ _ _ _ _ _ _ (blk1 Vv 0 t) (blk1 Vv 1 t) (blk1 Vv 2 t) (blk1 Vv 3 t) (blk1 Vv 4 t) (blk1 Vv 5 t) (blk1 Vv 6 t) (blk1 Vv 7 t)
    (fun h => ht ((first1 t).mp h)) (fun h => ht ((cond1_2 t).mp h)) ((cond1_3 t).mpr ht) _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexact H10
  isplitl [S0]; · iexact S0
  isplitl [S1]; · iexact S1
  isplitl [S2]; · iexact S2
  isplitl [S3]; · iexact S3
  iintro HL
  iapply (left1_post c Vv t)
  rw [hs]
  isplitl [HL]
  · dsimp only [left1, scanBlk, scanStep]; iexact HL
  isplitl [Hr]; · iexact Hr
  isplitl [Hg]; · iexact Hg
  iexact Ho

theorem row1 (t : Fin cfg1.N) : defs₀ (F := F) .tc cfg1.body (cfg1.bodyArgs t (cfg1.slots t)) = bodyAt1 t := by
  rfl

/-- The body's obligation at every point. -/
theorem obligation1 : BodyObligation (dat1 (F := F) c Vv) (defs₀ (F := F)) Variants.none none Set.univ := fun t => by
  rw [bigSep_W1, bigSep_W1, row1]
  by_cases ht : t.val = 0
  · exact triple_restated (body1_first c Vv t ht) rfl .rfl fun _ => .rfl
  · exact triple_restated (body1_later c Vv t ht) rfl .rfl fun _ => .rfl

end Cert.Proof.GatherI

end
-- ==== Proof.AttnRunI.lean ====
/-
  One grid point of the attention's call: what the body leaves in its running maximum, its running sum, its two running
  weighted sums and, at the last point, in the result.
-/
module

public import proofs.«01_k».proof.Proof.ScanRunI

@[expose] public section

noncomputable section

namespace Cert.Proof.GatherI

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The four row blocks of the projection -/

def wv0 (x : Vec F S512x128 .f32) : Vec F S128x128 .f32 := VecWindow.window x ![0, 0] S128x128.size inb_S512x128_S128x128_0_0
def wv1 (x : Vec F S512x128 .f32) : Vec F S128x128 .f32 := VecWindow.window x ![128, 0] S128x128.size inb_S512x128_S128x128_128_0
def wv2 (x : Vec F S512x128 .f32) : Vec F S128x128 .f32 := VecWindow.window x ![256, 0] S128x128.size inb_S512x128_S128x128_256_0
def wv3 (x : Vec F S512x128 .f32) : Vec F S128x128 .f32 := VecWindow.window x ![384, 0] S128x128.size inb_S512x128_S128x128_384_0

section Loads

variable {sp : Space}

theorem ld_wv0 (v : View sig .tc sp S512x128 .f32) (f : v.ty.Contents (Elt F)) (inb : ∀ a, (![0, 0] : Fin 2 → ℕ) a + (![128, 128] : Fin 2 → ℕ) a ≤ S512x128.size a) :
    v.readAt (Elt F) (Rect.unit (s := S512x128) ![0, 0] ![128, 128] inb).toLoadRect f = wv0 (v.read (Elt F) f) := rfl
theorem ld_wv1 (v : View sig .tc sp S512x128 .f32) (f : v.ty.Contents (Elt F)) (inb : ∀ a, (![128, 0] : Fin 2 → ℕ) a + (![128, 128] : Fin 2 → ℕ) a ≤ S512x128.size a) :
    v.readAt (Elt F) (Rect.unit (s := S512x128) ![128, 0] ![128, 128] inb).toLoadRect f = wv1 (v.read (Elt F) f) := rfl
theorem ld_wv2 (v : View sig .tc sp S512x128 .f32) (f : v.ty.Contents (Elt F)) (inb : ∀ a, (![256, 0] : Fin 2 → ℕ) a + (![128, 128] : Fin 2 → ℕ) a ≤ S512x128.size a) :
    v.readAt (Elt F) (Rect.unit (s := S512x128) ![256, 0] ![128, 128] inb).toLoadRect f = wv2 (v.read (Elt F) f) := rfl
theorem ld_wv3 (v : View sig .tc sp S512x128 .f32) (f : v.ty.Contents (Elt F)) (inb : ∀ a, (![384, 0] : Fin 2 → ℕ) a + (![128, 128] : Fin 2 → ℕ) a ≤ S512x128.size a) :
    v.readAt (Elt F) (Rect.unit (s := S512x128) ![384, 0] ![128, 128] inb).toLoadRect f = wv3 (v.read (Elt F) f) := rfl

end Loads

/-- The head: the weighted sums over the running sum, projected with the maxima, squashed, and the two classes' softmax. -/
def headOut (ht : Vec F S1024x256 .f32) (wv : Vec F S512x128 .f32) (wd : Vec F S128x2 .f32) (bd : Vec F S1x2 .f32) (S : Vec F S1024x1 .f32) (Cf Cb : Vec F S1024x128 .f32) : Vec F S1024x2 .f32 :=
  k2_pay17 (k2_pay18 (k2_pay3 (hL ht)) (k2_pay4 (hR ht)) S Cf Cb (wv0 wv) (wv1 wv) (wv2 wv) (wv3 wv) wd bd)
    (k2_pay19 (k2_pay3 (hL ht)) (k2_pay4 (hR ht)) S Cf Cb (wv0 wv) (wv1 wv) (wv2 wv) (wv3 wv) wd bd)

/-! ## The body at a point -/

variable (c : Dev nD) (i : grid2.Coords) (arg1 : Memref sig .tc .vmem S1x1024x128 .f32) (harg1 : arg1.IsWhole) (arg2 : Memref sig .tc .vmem S1x1024x128 .f32) (harg2 : arg2.IsWhole) (arg3 : Memref sig .tc .vmem S1024x256 .f32) (harg3 : arg3.IsWhole) (arg4 : Memref sig .tc .vmem S512x128 .f32) (harg4 : arg4.IsWhole) (arg5 : Memref sig .tc .vmem S128x2 .f32) (harg5 : arg5.IsWhole) (arg6 : Memref sig .tc .vmem S1x2 .f32) (harg6 : arg6.IsWhole) (arg7 : Memref sig .tc .vmem S1024x2 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole) (arg11 : Memref sig .tc .vmem S1024x128 .f32) (harg11 : arg11.IsWhole)
variable (x0 : Vec F S1x1024x128 .f32) (x1 : Vec F S1x1024x128 .f32) (x2 : Vec F S1024x256 .f32) (x3 : Vec F S512x128 .f32) (x4 : Vec F S128x2 .f32) (x5 : Vec F S1x2 .f32)

set_option maxRecDepth 16384 in
set_option maxHeartbeats 2000000 in
/-- The body at the first point. -/
theorem attn_first (hc0 : Scalar.cmpi .ne (Scalar.extui (Scalar.cmpi .eq (BitVec.ofNat 32 (i 0).val) 0#32)) 0#32 = 1#1) (hc1 : ¬ Scalar.cmpi .ne (Scalar.extui (Scalar.cmpi .sgt (BitVec.ofNat 32 (i 0).val) 0#32)) 0#32 = 1#1) (hc2 : ¬ k2_cond3 i = 1#1) (o : Vec F S1024x2 .f32) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare o
        ∗ (∃ d, owns (c : Thread nD τ) arg8 fullShare d)
        ∗ (∃ d, owns (c : Thread nD τ) arg9 fullShare d)
        ∗ (∃ d, owns (c : Thread nD τ) arg10 fullShare d)
        ∗ (∃ d, owns (c : Thread nD τ) arg11 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare o
            ∗ owns (c : Thread nD τ) arg8 fullShare (k2_pay6 x0 x1 (hL x2) (hR x2))
            ∗ owns (c : Thread nD τ) arg9 fullShare k2_pay7
            ∗ owns (c : Thread nD τ) arg10 fullShare (k2_pay8 x0)
            ∗ owns (c : Thread nD τ) arg11 fullShare (k2_pay9 x1)) -∗ K ⟨⟩))
      ⊢ wp frame (wpE (defs₀ (F := F)) Variants.none c none) E (cc2__attn_body i arg1 harg1 arg2 harg2 arg3 harg3 arg4 harg4 arg5 harg5 arg6 harg6 arg7 harg7 arg8 harg8 arg9 harg9 arg10 harg10 arg11 harg11) K := by
  simp only [cc2__attn_body_eq_skeleton]; unfold cc2__attn_body_skel
  simp only [k2_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec (disch := first | sl_exact hc0 | sl_exact hc1 | sl_exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; swap
    · iexact H8
    · ipureintro
      refine (View.read_writes_full _ _ _ _ _).trans ?_
      try sl_unfold_run_names
      simp only [ld_x, ld_h, ld_s, ld_wd, ld_bd, cov_h, cov_s, at_h, at_s, ld_hL, ld_hR, ld_wv0, ld_wv1, ld_wv2, ld_wv3, headOut, harg1.read_unread, harg2.read_unread, harg3.read_unread, harg4.read_unread, harg5.read_unread, harg6.read_unread, harg7.read_unread]
  isplitl [H9]
  · iexists _; isplitr; swap
    · iexact H9
    · ipureintro
      refine (View.read_writes_full _ _ _ _ _).trans ?_
      try sl_unfold_run_names
      simp only [ld_x, ld_h, ld_s, ld_wd, ld_bd, cov_h, cov_s, at_h, at_s, ld_hL, ld_hR, ld_wv0, ld_wv1, ld_wv2, ld_wv3, headOut, harg1.read_unread, harg2.read_unread, harg3.read_unread, harg4.read_unread, harg5.read_unread, harg6.read_unread, harg7.read_unread]
  isplitl [H10]
  · iexists _; isplitr; swap
    · iexact H10
    · ipureintro
      refine (View.read_writes_full _ _ _ _ _).trans ?_
      try sl_unfold_run_names
      simp only [ld_x, ld_h, ld_s, ld_wd, ld_bd, cov_h, cov_s, at_h, at_s, ld_hL, ld_hR, ld_wv0, ld_wv1, ld_wv2, ld_wv3, headOut, harg1.read_unread, harg2.read_unread, harg3.read_unread, harg4.read_unread, harg5.read_unread, harg6.read_unread, harg7.read_unread]
  iexists _; isplitr; swap
  · iexact H11
  · ipureintro
    refine (View.read_writes_full _ _ _ _ _).trans ?_
    try sl_unfold_run_names
    simp only [ld_x, ld_h, ld_s, ld_wd, ld_bd, cov_h, cov_s, at_h, at_s, ld_hL, ld_hR, ld_wv0, ld_wv1, ld_wv2, ld_wv3, headOut, harg1.read_unread, harg2.read_unread, harg3.read_unread, harg4.read_unread, harg5.read_unread, harg6.read_unread, harg7.read_unread]

set_option maxRecDepth 16384 in
set_option maxHeartbeats 2000000 in
/-- The body at a point that is neither the first nor the last. -/
theorem attn_mid (hc0 : ¬ Scalar.cmpi .ne (Scalar.extui (Scalar.cmpi .eq (BitVec.ofNat 32 (i 0).val) 0#32)) 0#32 = 1#1) (hc1 : Scalar.cmpi .ne (Scalar.extui (Scalar.cmpi .sgt (BitVec.ofNat 32 (i 0).val) 0#32)) 0#32 = 1#1) (hc2 : ¬ k2_cond3 i = 1#1) (m S : Vec F S1024x1 .f32) (Cf Cb : Vec F S1024x128 .f32) (o : Vec F S1024x2 .f32) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare o
        ∗ owns (c : Thread nD τ) arg8 fullShare m
        ∗ owns (c : Thread nD τ) arg9 fullShare S
        ∗ owns (c : Thread nD τ) arg10 fullShare Cf
        ∗ owns (c : Thread nD τ) arg11 fullShare Cb
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare o
            ∗ owns (c : Thread nD τ) arg8 fullShare (k2_pay13 x0 x1 (hL x2) (hR x2) m)
            ∗ owns (c : Thread nD τ) arg9 fullShare (k2_pay14 x0 x1 (hL x2) (hR x2) m S)
            ∗ owns (c : Thread nD τ) arg10 fullShare (k2_pay15 x0 x1 (hL x2) (hR x2) m Cf)
            ∗ owns (c : Thread nD τ) arg11 fullShare (k2_pay16 x0 x1 (hL x2) (hR x2) m Cb)) -∗ K ⟨⟩))
      ⊢ wp frame (wpE (defs₀ (F := F)) Variants.none c none) E (cc2__attn_body i arg1 harg1 arg2 harg2 arg3 harg3 arg4 harg4 arg5 harg5 arg6 harg6 arg7 harg7 arg8 harg8 arg9 harg9 arg10 harg10 arg11 harg11) K := by
  simp only [cc2__attn_body_eq_skeleton]; unfold cc2__attn_body_skel
  simp only [k2_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
  sl_exec (disch := first | sl_exact hc0 | sl_exact hc1 | sl_exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; swap
    · iexact H8
    · ipureintro
      refine (View.read_writes_full _ _ _ _ _).trans ?_
      try sl_unfold_run_names
      simp only [ld_x, ld_h, ld_s, ld_wd, ld_bd, cov_h, cov_s, at_h, at_s, ld_hL, ld_hR, ld_wv0, ld_wv1, ld_wv2, ld_wv3, headOut, harg1.read_unread, harg2.read_unread, harg3.read_unread, harg4.read_unread, harg5.read_unread, harg6.read_unread, harg7.read_unread, harg8.read_unread, harg9.read_unread, harg10.read_unread, harg11.read_unread]
  isplitl [H9]
  · iexists _; isplitr; swap
    · iexact H9
    · ipureintro
      refine (View.read_writes_full _ _ _ _ _).trans ?_
      try sl_unfold_run_names
      simp only [ld_x, ld_h, ld_s, ld_wd, ld_bd, cov_h, cov_s, at_h, at_s, ld_hL, ld_hR, ld_wv0, ld_wv1, ld_wv2, ld_wv3, headOut, harg1.read_unread, harg2.read_unread, harg3.read_unread, harg4.read_unread, harg5.read_unread, harg6.read_unread, harg7.read_unread, harg8.read_unread, harg9.read_unread, harg10.read_unread, harg11.read_unread]
  isplitl [H10]
  · iexists _; isplitr; swap
    · iexact H10
    · ipureintro
      refine (View.read_writes_full _ _ _ _ _).trans ?_
      try sl_unfold_run_names
      simp only [ld_x, ld_h, ld_s, ld_wd, ld_bd, cov_h, cov_s, at_h, at_s, ld_hL, ld_hR, ld_wv0, ld_wv1, ld_wv2, ld_wv3, headOut, harg1.read_unread, harg2.read_unread, harg3.read_unread, harg4.read_unread, harg5.read_unread, harg6.read_unread, harg7.read_unread, harg8.read_unread, harg9.read_unread, harg10.read_unread, harg11.read_unread]
  iexists _; isplitr; swap
  · iexact H11
  · ipureintro
    refine (View.read_writes_full _ _ _ _ _).trans ?_
    try sl_unfold_run_names
    simp only [ld_x, ld_h, ld_s, ld_wd, ld_bd, cov_h, cov_s, at_h, at_s, ld_hL, ld_hR, ld_wv0, ld_wv1, ld_wv2, ld_wv3, headOut, harg1.read_unread, harg2.read_unread, harg3.read_unread, harg4.read_unread, harg5.read_unread, harg6.read_unread, harg7.read_unread, harg8.read_unread, harg9.read_unread, harg10.read_unread, harg11.read_unread]

set_option maxRecDepth 16384 in
set_option maxHeartbeats 2000000 in
/-- The body at the last point. -/
theorem attn_last (hc0 : ¬ Scalar.cmpi .ne (Scalar.extui (Scalar.cmpi .eq (BitVec.ofNat 32 (i 0).val) 0#32)) 0#32 = 1#1) (hc1 : Scalar.cmpi .ne (Scalar.extui (Scalar.cmpi .sgt (BitVec.ofNat 32 (i 0).val) 0#32)) 0#32 = 1#1) (hc2 : k2_cond3 i = 1#1) (m S : Vec F S1024x1 .f32) (Cf Cb : Vec F S1024x128 .f32) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ (∃ d, owns (c : Thread nD τ) arg7 fullShare d)
        ∗ owns (c : Thread nD τ) arg8 fullShare m
        ∗ owns (c : Thread nD τ) arg9 fullShare S
        ∗ owns (c : Thread nD τ) arg10 fullShare Cf
        ∗ owns (c : Thread nD τ) arg11 fullShare Cb
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare (headOut x2 x3 x4 x5 (k2_pay14 x0 x1 (hL x2) (hR x2) m S) (k2_pay15 x0 x1 (hL x2) (hR x2) m Cf) (k2_pay16 x0 x1 (hL x2) (hR x2) m Cb))
            ∗ owns (c : Thread nD τ) arg8 fullShare (k2_pay13 x0 x1 (hL x2) (hR x2) m)
            ∗ owns (c : Thread nD τ) arg9 fullShare (k2_pay14 x0 x1 (hL x2) (hR x2) m S)
            ∗ owns (c : Thread nD τ) arg10 fullShare (k2_pay15 x0 x1 (hL x2) (hR x2) m Cf)
            ∗ owns (c : Thread nD τ) arg11 fullShare (k2_pay16 x0 x1 (hL x2) (hR x2) m Cb)) -∗ K ⟨⟩))
      ⊢ wp frame (wpE (defs₀ (F := F)) Variants.none c none) E (cc2__attn_body i arg1 harg1 arg2 harg2 arg3 harg3 arg4 harg4 arg5 harg5 arg6 harg6 arg7 harg7 arg8 harg8 arg9 harg9 arg10 harg10 arg11 harg11) K := by
  simp only [cc2__attn_body_eq_skeleton]; unfold cc2__attn_body_skel
  simp only [k2_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%f11, %hf11, H11⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg8.eq_unread hf8; obtain rfl := harg9.eq_unread hf9; obtain rfl := harg10.eq_unread hf10; obtain rfl := harg11.eq_unread hf11
  sl_exec (disch := first | sl_exact hc0 | sl_exact hc1 | sl_exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap
    · iexact H7
    · ipureintro
      refine (View.read_writes_full _ _ _ _ _).trans ?_
      try sl_unfold_run_names
      simp only [ld_x, ld_h, ld_s, ld_wd, ld_bd, cov_h, cov_s, at_h, at_s, ld_hL, ld_hR, ld_wv0, ld_wv1, ld_wv2, ld_wv3, headOut, harg1.read_unread, harg2.read_unread, harg3.read_unread, harg4.read_unread, harg5.read_unread, harg6.read_unread, harg8.read_unread, harg9.read_unread, harg10.read_unread, harg11.read_unread]
  isplitl [H8]
  · iexists _; isplitr; swap
    · iexact H8
    · ipureintro
      refine (View.read_writes_full _ _ _ _ _).trans ?_
      try sl_unfold_run_names
      simp only [ld_x, ld_h, ld_s, ld_wd, ld_bd, cov_h, cov_s, at_h, at_s, ld_hL, ld_hR, ld_wv0, ld_wv1, ld_wv2, ld_wv3, headOut, harg1.read_unread, harg2.read_unread, harg3.read_unread, harg4.read_unread, harg5.read_unread, harg6.read_unread, harg8.read_unread, harg9.read_unread, harg10.read_unread, harg11.read_unread]
  isplitl [H9]
  · iexists _; isplitr; swap
    · iexact H9
    · ipureintro
      refine (View.read_writes_full _ _ _ _ _).trans ?_
      try sl_unfold_run_names
      simp only [ld_x, ld_h, ld_s, ld_wd, ld_bd, cov_h, cov_s, at_h, at_s, ld_hL, ld_hR, ld_wv0, ld_wv1, ld_wv2, ld_wv3, headOut, harg1.read_unread, harg2.read_unread, harg3.read_unread, harg4.read_unread, harg5.read_unread, harg6.read_unread, harg8.read_unread, harg9.read_unread, harg10.read_unread, harg11.read_unread]
  isplitl [H10]
  · iexists _; isplitr; swap
    · iexact H10
    · ipureintro
      refine (View.read_writes_full _ _ _ _ _).trans ?_
      try sl_unfold_run_names
      simp only [ld_x, ld_h, ld_s, ld_wd, ld_bd, cov_h, cov_s, at_h, at_s, ld_hL, ld_hR, ld_wv0, ld_wv1, ld_wv2, ld_wv3, headOut, harg1.read_unread, harg2.read_unread, harg3.read_unread, harg4.read_unread, harg5.read_unread, harg6.read_unread, harg8.read_unread, harg9.read_unread, harg10.read_unread, harg11.read_unread]
  iexists _; isplitr; swap
  · iexact H11
  · ipureintro
    refine (View.read_writes_full _ _ _ _ _).trans ?_
    try sl_unfold_run_names
    simp only [ld_x, ld_h, ld_s, ld_wd, ld_bd, cov_h, cov_s, at_h, at_s, ld_hL, ld_hR, ld_wv0, ld_wv1, ld_wv2, ld_wv3, headOut, harg1.read_unread, harg2.read_unread, harg3.read_unread, harg4.read_unread, harg5.read_unread, harg6.read_unread, harg8.read_unread, harg9.read_unread, harg10.read_unread, harg11.read_unread]

end Cert.Proof.GatherI

end
-- ==== Proof.AttnI.lean ====
/-
  The attention's call as a pipeline: what its running maximum, sum and weighted sums hold after each of the 200 points,
  what its result holds after the last, and the body's obligation at every one.
-/
module

public import proofs.«01_k».proof.Proof.AttnRunI
public import proofs.«01_k».proof.Proof.ScanI
public import Idealize.ShloMosaic.Lib.Pipeline.TableIdle

@[expose] public section

noncomputable section

namespace Cert.Proof.GatherI

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## What each point leaves -/

/-- The running maximum and sum, the two running weighted sums. -/
structure AttnSt (F : FTy → Type) where
  m : Vec F S1024x1 .f32
  s : Vec F S1024x1 .f32
  f : Vec F S1024x128 .f32
  b : Vec F S1024x128 .f32

/-- The first step. -/
def attnInit (x0 x1 : Vec F S1x1024x128 .f32) (x2 : Vec F S1024x256 .f32) : AttnSt F where
  m := k2_pay6 x0 x1 (hL x2) (hR x2)
  s := k2_pay7
  f := k2_pay8 x0
  b := k2_pay9 x1

/-- A later step, from the state before. -/
def attnStep (a : AttnSt F) (x0 x1 : Vec F S1x1024x128 .f32) (x2 : Vec F S1024x256 .f32) : AttnSt F where
  m := k2_pay13 x0 x1 (hL x2) (hR x2) a.m
  s := k2_pay14 x0 x1 (hL x2) (hR x2) a.m a.s
  f := k2_pay15 x0 x1 (hL x2) (hR x2) a.m a.f
  b := k2_pay16 x0 x1 (hL x2) (hR x2) a.m a.b

variable (c : Dev nD) (Vv : Valuation τ sig (Elt F))

/-- A window's block at a point, off the arrays at `Vv`. -/
def blk2 (w : Fin cfg2.W) (t : Fin cfg2.N) : ((cfg2.win w).xblock (cfg2.grid.coords t)).Idx → Elt F (cfg2.win w).elt :=
  ((cfg2.win w).blk t).view.read (Elt F) (Vv (Proc.devRef .tc (Pipeline.arrRef spec2 w)))

/-- What point `n` leaves. -/
def attnAt : (n : ℕ) → n < cfg2.N → AttnSt F
  | 0, h => attnInit (blk2 Vv 0 ⟨0, h⟩) (blk2 Vv 1 ⟨0, h⟩) (blk2 Vv 2 ⟨0, h⟩)
  | n + 1, h => attnStep (attnAt n (Nat.lt_of_succ_lt h)) (blk2 Vv 0 ⟨n + 1, h⟩) (blk2 Vv 1 ⟨n + 1, h⟩) (blk2 Vv 2 ⟨n + 1, h⟩)

/-- The head over what a point leaves. -/
def attnRes (a : AttnSt F) (t : Fin cfg2.N) : Vec F S1024x2 .f32 := headOut (blk2 Vv 2 t) (blk2 Vv 3 t) (blk2 Vv 4 t) (blk2 Vv 5 t) a.s a.f a.b

/-! ## The invariant between points -/

abbrev sM2_0 : Memref sig .tc .vmem S1024x1 .f32 := Memref.whole cc2_scratch0
abbrev sM2_1 : Memref sig .tc .vmem S1024x1 .f32 := Memref.whole cc2_scratch1
abbrev sM2_2 : Memref sig .tc .vmem S1024x128 .f32 := Memref.whole cc2_scratch2
abbrev sM2_3 : Memref sig .tc .vmem S1024x128 .f32 := Memref.whole cc2_scratch3

/-- The scoped buffers this call neither stages in nor carries a sum in. -/
def rest2 : sProp 𝕄 := bigSepL [cc1_stg0_0, cc1_stg0_1, cc1_stg1_0, cc1_stg1_1, cc1_stg2_0, cc1_stg3_0, cc1_stg4_0, cc1_stg5_0, cc1_stg6_0, cc1_stg7_0, cc1_stg8_0, cc1_stg8_1, cc1_stg9_0, cc1_stg9_1, cc1_stg10_0, cc1_scratch0, cc1_scratch1, cc1_scratch2, cc1_scratch3] (anyB (F := F) c)

/-- The maximum and the sums at given contents. -/
def states2 (a : AttnSt F) : sProp 𝕄 :=
  iprop(owns (c : Thread nD τ) sM2_0 fullShare a.m ∗ owns (c : Thread nD τ) sM2_1 fullShare a.s ∗ owns (c : Thread nD τ) sM2_2 fullShare a.f ∗ owns (c : Thread nD τ) sM2_3 fullShare a.b)

/-- The maximum and the sums at any contents. -/
def anyStates2 : sProp 𝕄 :=
  iprop((∃ d : Vec F S1024x1 .f32, owns (c : Thread nD τ) sM2_0 fullShare d) ∗ (∃ d : Vec F S1024x1 .f32, owns (c : Thread nD τ) sM2_1 fullShare d) ∗ (∃ d : Vec F S1024x128 .f32, owns (c : Thread nD τ) sM2_2 fullShare d) ∗ (∃ d : Vec F S1024x128 .f32, owns (c : Thread nD τ) sM2_3 fullShare d))

omit [FloatOps F] in
theorem states2_any (a : AttnSt F) : states2 c a ⊢ (anyStates2 c : sProp 𝕄) := by
  unfold states2 anyStates2
  iintro ⟨H0, H1, H2, H3⟩
  isplitl [H0]; · iexists _; iexact H0
  isplitl [H1]; · iexists _; iexact H1
  isplitl [H2]; · iexists _; iexact H2
  iexists _; iexact H3

omit [FloatOps F] in
theorem scoped2 : (Pipeline.scopedRest spec2 c : sProp 𝕄) = iprop((∃ f, ((c : Thread nD τ).loc cc2_scratch0) ↦{fullShare} f) ∗ (∃ f, ((c : Thread nD τ).loc cc2_scratch1) ↦{fullShare} f)
    ∗ (∃ f, ((c : Thread nD τ).loc cc2_scratch2) ↦{fullShare} f) ∗ (∃ f, ((c : Thread nD τ).loc cc2_scratch3) ↦{fullShare} f) ∗ rest2 (F := F) c) :=
  Pipeline.scopedRest_eq_of_list spec2 c (cc2_scratch0 :: cc2_scratch1 :: cc2_scratch2 :: cc2_scratch3 :: [cc1_stg0_0, cc1_stg0_1, cc1_stg1_0, cc1_stg1_1, cc1_stg2_0, cc1_stg3_0, cc1_stg4_0, cc1_stg5_0, cc1_stg6_0, cc1_stg7_0, cc1_stg8_0, cc1_stg8_1, cc1_stg9_0, cc1_stg9_1, cc1_stg10_0, cc1_scratch0, cc1_scratch1, cc1_scratch2, cc1_scratch3]) (by decide) (by decide)

omit [FloatOps F] in
theorem scoped2_states : (Pipeline.scopedRest spec2 c : sProp 𝕄) ⊣⊢ iprop(anyStates2 c ∗ rest2 (F := F) c) := by
  rw [scoped2]; unfold anyStates2; simp only [owns_whole]
  exact ⟨by iintro ⟨H0, H1, H2, H3, Hr⟩; isplitr [Hr]; · (isplitl [H0]; · iexact H0); (isplitl [H1]; · iexact H1); (isplitl [H2]; · iexact H2); iexact H3
            iexact Hr,
    by iintro ⟨⟨H0, H1, H2, H3⟩, Hr⟩; (isplitl [H0]; · iexact H0); (isplitl [H1]; · iexact H1); (isplitl [H2]; · iexact H2); (isplitl [H3]; · iexact H3); iexact Hr⟩

/-- Before point `n`: the maximum and the sums at what the point before left, the generator's register at some state. -/
def Phi2 : (n : ℕ) → n ≤ cfg2.N → sProp 𝕄
  | 0, _ => iprop((anyStates2 c ∗ rest2 (F := F) c) ∗ ∃ r, prngReg c r)
  | n + 1, h => iprop((states2 c (attnAt Vv n h) ∗ rest2 (F := F) c) ∗ ∃ r, prngReg c r)

theorem Phi2_pos (n : ℕ) (h : n ≤ cfg2.N) (hz : n ≠ 0) :
    Phi2 c Vv n h = iprop((states2 c (attnAt Vv (n - 1) (by omega)) ∗ rest2 (F := F) c) ∗ ∃ r, prngReg c r) := by
  cases n with
  | zero => exact absurd rfl hz
  | succ n => rfl

theorem Phi2_any (n : ℕ) (h : n ≤ cfg2.N) : Phi2 c Vv n h ⊢ iprop((anyStates2 c ∗ rest2 (F := F) c) ∗ ∃ r, prngReg c r) := by
  cases n with
  | zero => exact .rfl
  | succ n => exact sep_mono (sep_mono (states2_any c _) .rfl) .rfl

/-! ## The pipeline's proof data -/

def dat2 : Dat τ (Elt F) (HIx 1) ℕ UU ℕ cfg2 c where
  A w := Vv (Proc.devRef .tc (Pipeline.arrRef spec2 w))
  after w t := match w with
    | ⟨0, _⟩ => blk2 Vv 0 t
    | ⟨1, _⟩ => blk2 Vv 1 t
    | ⟨2, _⟩ => blk2 Vv 2 t
    | ⟨3, _⟩ => blk2 Vv 3 t
    | ⟨4, _⟩ => blk2 Vv 4 t
    | ⟨5, _⟩ => blk2 Vv 5 t
    | ⟨6, _⟩ => attnRes Vv (attnAt Vv t.val t.isLt) t
  Φ t := Phi2 c Vv t.val (Nat.le_of_lt_succ t.isLt)
  q w := Pipeline.shareOf spec2 w
  owed _ := 0
  recorded _ := recd (F := F) c

theorem Phi2_castSucc (t : Fin cfg2.N) : (dat2 c Vv).Φ t.castSucc = Phi2 c Vv t.val (Nat.le_of_lt t.isLt) := by
  dsimp only [dat2]; exact Pipeline.Dat.Φ_castSucc (Phi2 c Vv) t

theorem blockOf2 (w : Fin cfg2.W) (t : Fin cfg2.N) : (dat2 c Vv).blockOf w t = blk2 Vv w t := by
  unfold Dat.blockOf blk2; dsimp only [dat2]

theorem before2_0 (t : Fin cfg2.N) (d) : (dat2 c Vv).before 0 t d = blk2 Vv 0 t :=
  ((dat2 c Vv).before_in_eq_fetched 0 rfl (fun _ => rfl) (fun _ _ _ => rfl) (fun t => by rw [blockOf2]; rfl) t d).trans (by unfold Dat.fetched; rw [blockOf2]; rfl)
theorem before2_1 (t : Fin cfg2.N) (d) : (dat2 c Vv).before 1 t d = blk2 Vv 1 t :=
  ((dat2 c Vv).before_in_eq_fetched 1 rfl (fun _ => rfl) (fun _ _ _ => rfl) (fun t => by rw [blockOf2]; rfl) t d).trans (by unfold Dat.fetched; rw [blockOf2]; rfl)
theorem before2_2 (t : Fin cfg2.N) (d) : (dat2 c Vv).before 2 t d = blk2 Vv 2 t :=
  ((dat2 c Vv).before_in_eq_fetched 2 rfl (fun _ => rfl) (fun _ _ _ => rfl) (fun t => by rw [blockOf2]; rfl) t d).trans (by unfold Dat.fetched; rw [blockOf2]; rfl)
theorem before2_3 (t : Fin cfg2.N) (d) : (dat2 c Vv).before 3 t d = blk2 Vv 3 t :=
  ((dat2 c Vv).before_in_eq_fetched 3 rfl (fun _ => rfl) (fun _ _ _ => rfl) (fun t => by rw [blockOf2]; rfl) t d).trans (by unfold Dat.fetched; rw [blockOf2]; rfl)
theorem before2_4 (t : Fin cfg2.N) (d) : (dat2 c Vv).before 4 t d = blk2 Vv 4 t :=
  ((dat2 c Vv).before_in_eq_fetched 4 rfl (fun _ => rfl) (fun _ _ _ => rfl) (fun t => by rw [blockOf2]; rfl) t d).trans (by unfold Dat.fetched; rw [blockOf2]; rfl)
theorem before2_5 (t : Fin cfg2.N) (d) : (dat2 c Vv).before 5 t d = blk2 Vv 5 t :=
  ((dat2 c Vv).before_in_eq_fetched 5 rfl (fun _ => rfl) (fun _ _ _ => rfl) (fun t => by rw [blockOf2]; rfl) t d).trans (by unfold Dat.fetched; rw [blockOf2]; rfl)

/-! ## Which point is which -/

theorem first2 : ∀ t : Fin cfg2.N, (Scalar.cmpi .ne (Scalar.extui (Scalar.cmpi .eq (BitVec.ofNat 32 ((grid2.coords t) 0).val) 0#32)) 0#32 = 1#1) ↔ t.val = 0 :=
  (by decide +kernel : ∀ t : Fin grid2.N, (Scalar.cmpi .ne (Scalar.extui (Scalar.cmpi .eq (BitVec.ofNat 32 ((grid2.coords t) 0).val) 0#32)) 0#32 = 1#1) ↔ t.val = 0)
theorem later2 : ∀ t : Fin cfg2.N, (Scalar.cmpi .ne (Scalar.extui (Scalar.cmpi .sgt (BitVec.ofNat 32 ((grid2.coords t) 0).val) 0#32)) 0#32 = 1#1) ↔ t.val ≠ 0 :=
  (by decide +kernel : ∀ t : Fin grid2.N, (Scalar.cmpi .ne (Scalar.extui (Scalar.cmpi .sgt (BitVec.ofNat 32 ((grid2.coords t) 0).val) 0#32)) 0#32 = 1#1) ↔ t.val ≠ 0)
theorem last2 : ∀ t : Fin cfg2.N, k2_cond3 (grid2.coords t) = 1#1 ↔ t.val = 199 :=
  (by decide +kernel : ∀ t : Fin grid2.N, k2_cond3 (grid2.coords t) = 1#1 ↔ t.val = 199)

/-- The result's window is stored into at the last point only. -/
theorem idle2_6 (t : Fin cfg2.N) (ht : t.val ≠ 199) : cfg2.idle 6 (cfg2.grid.coords t) = true := by
  have h : ∀ t : Fin grid2.N, t.val ≠ 199 → idle2 6 (grid2.coords t) = true := by decide +kernel
  exact h t ht
theorem live2_6 (t : Fin cfg2.N) (ht : t.val = 199) : cfg2.idle 6 (cfg2.grid.coords t) = false := by
  have h : ∀ t : Fin grid2.N, t.val = 199 → idle2 6 (grid2.coords t) = false := by decide +kernel
  exact h t ht
theorem noflush2_6 (t : Fin cfg2.N) (ht : t.val ≠ 199) : (cfg2.win 6).flush t = false := by
  have hN : t.val < 200 := lt_of_lt_of_eq t.isLt (show cfg2.N = 200 from N_2)
  rw [← Bool.not_eq_true, flush2_6 t]; omega

/-! ## The body at a generic point -/

def pre2 (t : Fin cfg2.N) : sProp 𝕄 :=
  iprop((dat2 c Vv).Φ t.castSucc ∗ (dat2 c Vv).owesAt none t.castSucc
    ∗ (∃ d, owns (c : Thread nD τ) (st2_0 t) fullShare ((dat2 c Vv).before 0 t d))
    ∗ (∃ d, owns (c : Thread nD τ) (st2_1 t) fullShare ((dat2 c Vv).before 1 t d))
    ∗ (∃ d, owns (c : Thread nD τ) (st2_2 t) fullShare ((dat2 c Vv).before 2 t d))
    ∗ (∃ d, owns (c : Thread nD τ) (st2_3 t) fullShare ((dat2 c Vv).before 3 t d))
    ∗ (∃ d, owns (c : Thread nD τ) (st2_4 t) fullShare ((dat2 c Vv).before 4 t d))
    ∗ (∃ d, owns (c : Thread nD τ) (st2_5 t) fullShare ((dat2 c Vv).before 5 t d))
    ∗ (∃ d, owns (c : Thread nD τ) (st2_6 t) fullShare ((dat2 c Vv).before 6 t d)))

def post2 (t : Fin cfg2.N) : sProp 𝕄 :=
  iprop((dat2 c Vv).Φ t.succ ∗ (dat2 c Vv).owesAt none t.succ
    ∗ (dat2 c Vv).leavesExact 0 t ∗ (dat2 c Vv).leavesExact 1 t ∗ (dat2 c Vv).leavesExact 2 t ∗ (dat2 c Vv).leavesExact 3 t
    ∗ (dat2 c Vv).leavesExact 4 t ∗ (dat2 c Vv).leavesExact 5 t ∗ (dat2 c Vv).leavesExact 6 t)

/-- What a point leaves: the inputs' buffers at their blocks, the result's at `o`, the maximum and the sums at `a`. -/
def left2 (t : Fin cfg2.N) (o : Vec F S1024x2 .f32) (a : AttnSt F) : sProp 𝕄 :=
  iprop(owns (c : Thread nD τ) (st2_0 t) fullShare (blk2 Vv 0 t) ∗ owns (c : Thread nD τ) (st2_1 t) fullShare (blk2 Vv 1 t) ∗ owns (c : Thread nD τ) (st2_2 t) fullShare (blk2 Vv 2 t) ∗ owns (c : Thread nD τ) (st2_3 t) fullShare (blk2 Vv 3 t) ∗ owns (c : Thread nD τ) (st2_4 t) fullShare (blk2 Vv 4 t) ∗ owns (c : Thread nD τ) (st2_5 t) fullShare (blk2 Vv 5 t)
    ∗ owns (c : Thread nD τ) (st2_6 t) fullShare o ∗ owns (c : Thread nD τ) sM2_0 fullShare a.m
    ∗ owns (c : Thread nD τ) sM2_1 fullShare a.s ∗ owns (c : Thread nD τ) sM2_2 fullShare a.f ∗ owns (c : Thread nD τ) sM2_3 fullShare a.b)

/-- That is what the obligation asks for, whatever it asks of the result's buffer. -/
theorem left2_post (t : Fin cfg2.N) (o : Vec F S1024x2 .f32) (ho : (owns (c : Thread nD τ) (st2_6 t) fullShare o : sProp 𝕄) ⊢ (dat2 c Vv).leavesExact 6 t) :
    iprop(left2 c Vv t o (attnAt Vv t.val t.isLt) ∗ rest2 (F := F) c ∗ (∃ r, prngReg c r) ∗ (dat2 c Vv).owesAt none t.succ) ⊢ post2 c Vv t := by
  unfold left2 post2
  iintro ⟨⟨H0, H1, H2, H3, H4, H5, H6, S0, S1, S2, S3⟩, Hr, Hg, Ho⟩
  isplitl [S0 S1 S2 S3 Hr Hg]
  · iapply (show iprop((states2 c (attnAt Vv t.val t.isLt) ∗ rest2 (F := F) c) ∗ ∃ r, prngReg c r) ⊢ (dat2 c Vv).Φ t.succ from .rfl)
    unfold states2
    isplitr [Hg]
    · isplitr [Hr]
      · isplitl [S0]; · iexact S0
        isplitl [S1]; · iexact S1
        isplitl [S2]; · iexact S2
        iexact S3
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iapply ho
  iexact H6

/-- At a point that is not the last the result's buffer goes back as it came. -/
theorem back2_6 (t : Fin cfg2.N) (ht : t.val ≠ 199) (d) : (owns (c : Thread nD τ) (st2_6 t) fullShare ((dat2 c Vv).before 6 t d) : sProp 𝕄) ⊢ (dat2 c Vv).leavesExact 6 t := by
  rw [Dat.leavesExact_idle _ 6 t (idle2_6 t ht) (noflush2_6 t ht)]
  iintro H; iexists d; iexact H

/-- At the last it holds the head. -/
theorem left2_6 (t : Fin cfg2.N) (ht : t.val = 199) : (owns (c : Thread nD τ) (st2_6 t) fullShare (attnRes Vv (attnAt Vv t.val t.isLt) t) : sProp 𝕄) ⊢ (dat2 c Vv).leavesExact 6 t := by
  unfold Dat.leavesExact; rw [live2_6 t ht]; exact .rfl

theorem attnAt_first (t : Fin cfg2.N) (ht : t.val = 0) : attnAt Vv t.val t.isLt = attnInit (blk2 Vv 0 t) (blk2 Vv 1 t) (blk2 Vv 2 t) := by
  obtain ⟨v, hv⟩ := t; dsimp only at ht; subst ht; rfl
theorem attnAt_later (t : Fin cfg2.N) (ht : t.val ≠ 0) :
    attnAt Vv t.val t.isLt = attnStep (attnAt Vv (t.val - 1) (Nat.lt_of_le_of_lt (Nat.sub_le _ _) t.isLt)) (blk2 Vv 0 t) (blk2 Vv 1 t) (blk2 Vv 2 t) := by
  obtain ⟨v, hv⟩ := t
  cases v with
  | zero => exact absurd rfl ht
  | succ v => rfl

theorem body2_first (t : Fin cfg2.N) (ht : t.val = 0) (hl : t.val ≠ 199) :
    pre2 c Vv t ⊢ wp frame (wpE (defs₀ (F := F)) Variants.none c none) Set.univ (bodyAt2 t) (fun _ => post2 c Vv t) := by
  have hp : (dat2 c Vv).Φ t.castSucc = iprop((anyStates2 c ∗ rest2 (F := F) c) ∗ ∃ r, prngReg c r) := by
    rw [Phi2_castSucc]; obtain ⟨v, hv⟩ := t; dsimp only at ht; subst ht; rfl
  unfold pre2 bodyAt2
  rw [hp]; unfold anyStates2
  simp only [before2_0, before2_1, before2_2, before2_3, before2_4, before2_5]
  iintro ⟨⟨⟨⟨S0, S1, S2, S3⟩, Hr⟩, Hg⟩, Ho, ⟨%d0, H0⟩, ⟨%d1, H1⟩, ⟨%d2, H2⟩, ⟨%d3, H3⟩, ⟨%d4, H4⟩, ⟨%d5, H5⟩, ⟨%d6, H6⟩⟩
  iapply (attn_first c (grid2.coords t) _ _ _ _ _ _ _ _ _ _ _ _ _ _ _ _ _ _ _ _ _ _ (blk2 Vv 0 t) (blk2 Vv 1 t) (blk2 Vv 2 t) (blk2 Vv 3 t) (blk2 Vv 4 t) (blk2 Vv 5 t)
    ((first2 t).mpr ht) (fun h => (later2 t).mp h ht) (fun h => hl ((last2 t).mp h)) _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [S0]; · iexact S0
  isplitl [S1]; · iexact S1
  isplitl [S2]; · iexact S2
  isplitl [S3]; · iexact S3
  iintro HL
  iapply (left2_post c Vv t _ (back2_6 c Vv t hl d6))
  rw [attnAt_first Vv t ht]
  isplitl [HL]
  · dsimp only [left2, attnInit, attnStep]; iexact HL
  isplitl [Hr]; · iexact Hr
  isplitl [Hg]; · iexact Hg
  iexact Ho

theorem body2_mid (t : Fin cfg2.N) (ht : t.val ≠ 0) (hl : t.val ≠ 199) :
    pre2 c Vv t ⊢ wp frame (wpE (defs₀ (F := F)) Variants.none c none) Set.univ (bodyAt2 t) (fun _ => post2 c Vv t) := by
  unfold pre2 bodyAt2
  rw [Phi2_castSucc, Phi2_pos c Vv _ _ ht]
  unfold states2
  simp only [before2_0, before2_1, before2_2, before2_3, before2_4, before2_5]
  iintro ⟨⟨⟨⟨S0, S1, S2, S3⟩, Hr⟩, Hg⟩, Ho, ⟨%d0, H0⟩, ⟨%d1, H1⟩, ⟨%d2, H2⟩, ⟨%d3, H3⟩, ⟨%d4, H4⟩, ⟨%d5, H5⟩, ⟨%d6, H6⟩⟩
  iapply (attn_mid c (grid2.coords t) _ _ _ _ _ _ _ _ _ _ _ _ _ _ _ _ _ _ _ _ _ _ (blk2 Vv 0 t) (blk2 Vv 1 t) (blk2 Vv 2 t) (blk2 Vv 3 t) (blk2 Vv 4 t) (blk2 Vv 5 t)
    (fun h => ht ((first2 t).mp h)) ((later2 t).mpr ht) (fun h => hl ((last2 t).mp h)) _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [S0]; · iexact S0
  isplitl [S1]; · iexact S1
  isplitl [S2]; · iexact S2
  isplitl [S3]; · iexact S3
  iintro HL
  iapply (left2_post c Vv t _ (back2_6 c Vv t hl d6))
  rw [attnAt_later Vv t ht]
  isplitl [HL]
  · dsimp only [left2, attnInit, attnStep]; iexact HL
  isplitl [Hr]; · iexact Hr
  isplitl [Hg]; · iexact Hg
  iexact Ho

theorem body2_last (t : Fin cfg2.N) (ht : t.val ≠ 0) (hl : t.val = 199) :
    pre2 c Vv t ⊢ wp frame (wpE (defs₀ (F := F)) Variants.none c none) Set.univ (bodyAt2 t) (fun _ => post2 c Vv t) := by
  unfold pre2 bodyAt2
  rw [Phi2_castSucc, Phi2_pos c Vv _ _ ht]
  unfold states2
  simp only [before2_0, before2_1, before2_2, before2_3, before2_4, before2_5]
  iintro ⟨⟨⟨⟨S0, S1, S2, S3⟩, Hr⟩, Hg⟩, Ho, ⟨%d0, H0⟩, ⟨%d1, H1⟩, ⟨%d2, H2⟩, ⟨%d3, H3⟩, ⟨%d4, H4⟩, ⟨%d5, H5⟩, ⟨%d6, H6⟩⟩
  iapply (attn_last c (grid2.coords t) _ _ _ _ _ _ _ _ _ _ _ _ _ _ _ _ _ _ _ _ _ _ (blk2 Vv 0 t) (blk2 Vv 1 t) (blk2 Vv 2 t) (blk2 Vv 3 t) (blk2 Vv 4 t) (blk2 Vv 5 t)
    (fun h => ht ((first2 t).mp h)) ((later2 t).mpr ht) ((last2 t).mpr hl) _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [S0]; · iexact S0
  isplitl [S1]; · iexact S1
  isplitl [S2]; · iexact S2
  isplitl [S3]; · iexact S3
  iintro HL
  iapply (left2_post c Vv t _ (left2_6 c Vv t hl))
  rw [attnAt_later Vv t ht]
  isplitl [HL]
  · dsimp only [left2, attnInit, attnStep, attnRes]; iexact HL
  isplitl [Hr]; · iexact Hr
  isplitl [Hg]; · iexact Hg
  iexact Ho

theorem row2 (t : Fin cfg2.N) : defs₀ (F := F) .tc cfg2.body (cfg2.bodyArgs t (cfg2.slots t)) = bodyAt2 t := by
  rfl

/-- The body's obligation at every point. -/
theorem obligation2 : BodyObligation (dat2 (F := F) c Vv) (defs₀ (F := F)) Variants.none none Set.univ := fun t => by
  rw [bigSep_W2, bigSep_W2, row2]
  by_cases ht : t.val = 0
  · exact triple_restated (body2_first c Vv t ht (by omega)) rfl .rfl fun _ => .rfl
  · by_cases hl : t.val = 199
    · exact triple_restated (body2_last c Vv t ht hl) rfl .rfl fun _ => .rfl
    · exact triple_restated (body2_mid c Vv t ht hl) rfl .rfl fun _ => .rfl

end Cert.Proof.GatherI

end
-- ==== Proof.BlocksI.lean ====
/-
  The blocks of the two pipelined calls read at their elements, and their results' arrays element by element: what the
  point whose block an element is in left there.
-/
module

public import proofs.«01_k».proof.Proof.ScanI
public import proofs.«01_k».proof.Proof.AttnI
public import Idealize.ShloMosaic.Lib.Pointwise
public import Idealize.ShloMosaic.Lib.Pipeline.ValueKit.Geometry

@[expose] public section

noncomputable section

namespace Cert.Proof.GatherI

open Cert.KernelIdeal Cert.KernelIdeal.Gen

open Idealize.ShloMosaic Idealize.ShloMosaic.TcCoe Idealize.ShloMosaic.Tactic
open Idealize.ShloMosaic.Pipeline (Dat Cfg Window)

variable {F : FTy → Type} [FloatOps F]
variable (c : Dev nD) (Vv : Valuation τ sig (Elt F))

/-! ## Where a point's blocks lie -/

theorem ind1_0 : ∀ t : Fin cfg1.N, win1_0.index t 0 = t.val ∧ win1_0.index t 1 = 0 ∧ win1_0.index t 2 = 0 :=
  (by decide +kernel : ∀ t : Fin grid1.N, win1_0.index t 0 = t.val ∧ win1_0.index t 1 = 0 ∧ win1_0.index t 2 = 0)
theorem ind1_1 : ∀ t : Fin cfg1.N, win1_1.index t 0 = 199 - t.val ∧ win1_1.index t 1 = 0 ∧ win1_1.index t 2 = 0 :=
  (by decide +kernel : ∀ t : Fin grid1.N, win1_1.index t 0 = 199 - t.val ∧ win1_1.index t 1 = 0 ∧ win1_1.index t 2 = 0)
theorem ind1_8 : ∀ t : Fin cfg1.N, win1_8.index t 0 = t.val ∧ win1_8.index t 1 = 0 ∧ win1_8.index t 2 = 0 :=
  (by decide +kernel : ∀ t : Fin grid1.N, win1_8.index t 0 = t.val ∧ win1_8.index t 1 = 0 ∧ win1_8.index t 2 = 0)
theorem ind1_9 : ∀ t : Fin cfg1.N, win1_9.index t 0 = 199 - t.val ∧ win1_9.index t 1 = 0 ∧ win1_9.index t 2 = 0 :=
  (by decide +kernel : ∀ t : Fin grid1.N, win1_9.index t 0 = 199 - t.val ∧ win1_9.index t 1 = 0 ∧ win1_9.index t 2 = 0)
theorem ind2_0 : ∀ t : Fin cfg2.N, win2_0.index t 0 = t.val ∧ win2_0.index t 1 = 0 ∧ win2_0.index t 2 = 0 :=
  (by decide +kernel : ∀ t : Fin grid2.N, win2_0.index t 0 = t.val ∧ win2_0.index t 1 = 0 ∧ win2_0.index t 2 = 0)
theorem ind2_1 : ∀ t : Fin cfg2.N, win2_1.index t 0 = t.val ∧ win2_1.index t 1 = 0 ∧ win2_1.index t 2 = 0 :=
  (by decide +kernel : ∀ t : Fin grid2.N, win2_1.index t 0 = t.val ∧ win2_1.index t 1 = 0 ∧ win2_1.index t 2 = 0)

theorem lt1 (t : Fin cfg1.N) : t.val < 200 := lt_of_lt_of_eq t.isLt (show cfg1.N = 200 from N_1)
theorem lt2 (t : Fin cfg2.N) : t.val < 200 := lt_of_lt_of_eq t.isLt (show cfg2.N = 200 from N_2)

/-! ## The blocks at an element -/

theorem blk1_0 (t : Fin cfg1.N) (r : Fin 1024) (k : Fin 128) :
    (blk1 Vv 0 t : Vec F S1x1024x128 .f32) (ix3 0 r k) = (Vv (Proc.devRef .tc main_v6) : Vec F S200x1024x128 .f32) (ix3 ⟨t.val, lt1 t⟩ r k) := by
  obtain ⟨h0, h1, h2⟩ := ind1_0 t
  blk_ext [blk1, h0, h1, h2]
theorem blk1_1 (t : Fin cfg1.N) (r : Fin 1024) (k : Fin 128) :
    (blk1 Vv 1 t : Vec F S1x1024x128 .f32) (ix3 0 r k) = (Vv (Proc.devRef .tc main_v6) : Vec F S200x1024x128 .f32) (ix3 ⟨199 - t.val, by omega⟩ r k) := by
  obtain ⟨h0, h1, h2⟩ := ind1_1 t
  blk_ext [blk1, h0, h1, h2]
theorem blk1_2 (t : Fin cfg1.N) (k : Fin 128) (j : Fin 512) :
    (blk1 Vv 2 t : Vec F S128x512 .f32) (ix2 k j) = (Vv (Proc.devRef .tc main_v3) : Vec F S128x512 .f32) (ix2 k j) := by
  have h0 : win1_2.index t 0 = 0 := rfl
  have h1 : win1_2.index t 1 = 0 := rfl
  blk_ext [blk1, h0, h1]
theorem blk1_3 (t : Fin cfg1.N) (k : Fin 128) (j : Fin 512) :
    (blk1 Vv 3 t : Vec F S128x512 .f32) (ix2 k j) = (Vv (Proc.devRef .tc main_arg3) : Vec F S128x512 .f32) (ix2 k j) := by
  have h0 : win1_3.index t 0 = 0 := rfl
  have h1 : win1_3.index t 1 = 0 := rfl
  blk_ext [blk1, h0, h1]
theorem blk1_4 (t : Fin cfg1.N) (k : Fin 1) (j : Fin 512) :
    (blk1 Vv 4 t : Vec F S1x512 .f32) (ix2 k j) = (Vv (Proc.devRef .tc main_v7) : Vec F S1x512 .f32) (ix2 k j) := by
  have h0 : win1_4.index t 0 = 0 := rfl
  have h1 : win1_4.index t 1 = 0 := rfl
  blk_ext [blk1, h0, h1]
theorem blk1_5 (t : Fin cfg1.N) (k : Fin 128) (j : Fin 512) :
    (blk1 Vv 5 t : Vec F S128x512 .f32) (ix2 k j) = (Vv (Proc.devRef .tc main_v4) : Vec F S128x512 .f32) (ix2 k j) := by
  have h0 : win1_5.index t 0 = 0 := rfl
  have h1 : win1_5.index t 1 = 0 := rfl
  blk_ext [blk1, h0, h1]
theorem blk1_6 (t : Fin cfg1.N) (k : Fin 128) (j : Fin 512) :
    (blk1 Vv 6 t : Vec F S128x512 .f32) (ix2 k j) = (Vv (Proc.devRef .tc main_arg6) : Vec F S128x512 .f32) (ix2 k j) := by
  have h0 : win1_6.index t 0 = 0 := rfl
  have h1 : win1_6.index t 1 = 0 := rfl
  blk_ext [blk1, h0, h1]
theorem blk1_7 (t : Fin cfg1.N) (k : Fin 1) (j : Fin 512) :
    (blk1 Vv 7 t : Vec F S1x512 .f32) (ix2 k j) = (Vv (Proc.devRef .tc main_v8) : Vec F S1x512 .f32) (ix2 k j) := by
  have h0 : win1_7.index t 0 = 0 := rfl
  have h1 : win1_7.index t 1 = 0 := rfl
  blk_ext [blk1, h0, h1]
theorem blk2_0 (t : Fin cfg2.N) (r : Fin 1024) (k : Fin 128) :
    (blk2 Vv 0 t : Vec F S1x1024x128 .f32) (ix3 0 r k) = (Vv (Proc.devRef .tc main_v9_0) : Vec F S200x1024x128 .f32) (ix3 ⟨t.val, lt2 t⟩ r k) := by
  obtain ⟨h0, h1, h2⟩ := ind2_0 t
  blk_ext [blk2, h0, h1, h2]
theorem blk2_1 (t : Fin cfg2.N) (r : Fin 1024) (k : Fin 128) :
    (blk2 Vv 1 t : Vec F S1x1024x128 .f32) (ix3 0 r k) = (Vv (Proc.devRef .tc main_v9_1) : Vec F S200x1024x128 .f32) (ix3 ⟨t.val, lt2 t⟩ r k) := by
  obtain ⟨h0, h1, h2⟩ := ind2_1 t
  blk_ext [blk2, h0, h1, h2]
theorem blk2_2 (t : Fin cfg2.N) (k : Fin 1024) (j : Fin 256) :
    (blk2 Vv 2 t : Vec F S1024x256 .f32) (ix2 k j) = (Vv (Proc.devRef .tc main_v9_2) : Vec F S1024x256 .f32) (ix2 k j) := by
  have h0 : win2_2.index t 0 = 0 := rfl
  have h1 : win2_2.index t 1 = 0 := rfl
  blk_ext [blk2, h0, h1]
theorem blk2_3 (t : Fin cfg2.N) (k : Fin 512) (j : Fin 128) :
    (blk2 Vv 3 t : Vec F S512x128 .f32) (ix2 k j) = (Vv (Proc.devRef .tc main_arg8) : Vec F S512x128 .f32) (ix2 k j) := by
  have h0 : win2_3.index t 0 = 0 := rfl
  have h1 : win2_3.index t 1 = 0 := rfl
  blk_ext [blk2, h0, h1]
theorem blk2_4 (t : Fin cfg2.N) (k : Fin 128) (j : Fin 2) :
    (blk2 Vv 4 t : Vec F S128x2 .f32) (ix2 k j) = (Vv (Proc.devRef .tc main_arg9) : Vec F S128x2 .f32) (ix2 k j) := by
  have h0 : win2_4.index t 0 = 0 := rfl
  have h1 : win2_4.index t 1 = 0 := rfl
  blk_ext [blk2, h0, h1]
theorem blk2_5 (t : Fin cfg2.N) (k : Fin 1) (j : Fin 2) :
    (blk2 Vv 5 t : Vec F S1x2 .f32) (ix2 k j) = (Vv (Proc.devRef .tc main_v10) : Vec F S1x2 .f32) (ix2 k j) := by
  have h0 : win2_5.index t 0 = 0 := rfl
  have h1 : win2_5.index t 1 = 0 := rfl
  blk_ext [blk2, h0, h1]

/-! ## The results' arrays at an element -/

theorem disjoint1_8 : ∀ t t' : Fin cfg1.N, (cfg1.win 8).flush t = true → (cfg1.win 8).flush t' = true → t ≠ t' →
    Disjoint ((cfg1.win 8).blk t).view.set ((cfg1.win 8).blk t').view.set :=
  fun t t' _ _ hne => (cfg1.win 8).disjoint_blk fun h => hne (Fin.ext (by
    have := congrFun h 0; rw [(ind1_8 t).1, (ind1_8 t').1] at this; exact this))
theorem disjoint1_9 : ∀ t t' : Fin cfg1.N, (cfg1.win 9).flush t = true → (cfg1.win 9).flush t' = true → t ≠ t' →
    Disjoint ((cfg1.win 9).blk t).view.set ((cfg1.win 9).blk t').view.set :=
  fun t t' _ _ hne => (cfg1.win 9).disjoint_blk fun h => hne (Fin.ext (by
    have := congrFun h 0; rw [(ind1_9 t).1, (ind1_9 t').1] at this; have := lt1 t; have := lt1 t'; omega))
theorem disjoint1_10 : ∀ t t' : Fin cfg1.N, (cfg1.win 10).flush t = true → (cfg1.win 10).flush t' = true → t ≠ t' →
    Disjoint ((cfg1.win 10).blk t).view.set ((cfg1.win 10).blk t').view.set :=
  fun t t' h h' hne => absurd (Fin.ext (by
    have := (flush1_10 t).mp h; have := (flush1_10 t').mp h'; have := lt1 t; have := lt1 t'; omega)) hne
theorem disjoint2_6 : ∀ t t' : Fin cfg2.N, (cfg2.win 6).flush t = true → (cfg2.win 6).flush t' = true → t ≠ t' →
    Disjoint ((cfg2.win 6).blk t).view.set ((cfg2.win 6).blk t').view.set :=
  fun t t' h h' hne => absurd (Fin.ext (by
    have := (flush2_6 t).mp h; have := (flush2_6 t').mp h'; have := lt2 t; have := lt2 t'; omega)) hne

/-- The forward states' array: step `t`'s at `t`. -/
theorem arr1_8 (t : Fin 200) (r : Fin 1024) (u : Fin 128) :
    ((dat1 c Vv).arrAt 8 cfg1.N : Vec F S200x1024x128 .f32) (ix3 t r u) = (scanAt Vv t.val (by rw [show cfg1.N = 200 from N_1]; exact t.isLt)).of (ix3 0 r u) := by
  have ht : t.val < cfg1.N := by rw [show cfg1.N = 200 from N_1]; exact t.isLt
  have h := congrFun ((dat1 c Vv).read_blk_arrAt_eq_flushed 8 disjoint1_8 cfg1.N ⟨t.val, ht⟩ ht (flush1_8 _)) (ix3 0 r u)
  refine Eq.trans ?_ h
  obtain ⟨h0, h1, h2⟩ := ind1_8 ⟨t.val, ht⟩
  blk_ext [h0, h1, h2]
/-- The backward states' array: step `199 - t`'s at `t`. -/
theorem arr1_9 (t : Fin 200) (r : Fin 1024) (u : Fin 128) :
    ((dat1 c Vv).arrAt 9 cfg1.N : Vec F S200x1024x128 .f32) (ix3 t r u) = (scanAt Vv (199 - t.val) (by rw [show cfg1.N = 200 from N_1]; omega)).ob (ix3 0 r u) := by
  have ht : 199 - t.val < cfg1.N := by rw [show cfg1.N = 200 from N_1]; omega
  have h := congrFun ((dat1 c Vv).read_blk_arrAt_eq_flushed 9 disjoint1_9 cfg1.N ⟨199 - t.val, ht⟩ ht (flush1_9 _)) (ix3 0 r u)
  refine Eq.trans ?_ h
  obtain ⟨h0, h1, h2⟩ := ind1_9 ⟨199 - t.val, ht⟩
  blk_ext [h0, h1, h2]
/-- The maxima's array: the last step's. -/
theorem arr1_10 (r : Fin 1024) (u : Fin 256) :
    ((dat1 c Vv).arrAt 10 cfg1.N : Vec F S1024x256 .f32) (ix2 r u) = (scanAt Vv 199 (by rw [show cfg1.N = 200 from N_1]; decide)).ht (ix2 r u) := by
  have ht : 199 < cfg1.N := by rw [show cfg1.N = 200 from N_1]; decide
  have h := congrFun ((dat1 c Vv).read_blk_arrAt_eq_flushed 10 disjoint1_10 cfg1.N ⟨199, ht⟩ ht ((flush1_10 _).mpr rfl)) (ix2 r u)
  refine Eq.trans ?_ h
  clear h
  generalize (⟨199, ht⟩ : Fin cfg1.N) = t
  have h0 : ∀ t : Fin cfg1.N, win1_10.index t 0 = 0 := fun _ => rfl
  have h1 : ∀ t : Fin cfg1.N, win1_10.index t 1 = 0 := fun _ => rfl
  blk_ext [h0, h1]
/-- The attention's result: the head over the last step's sums. -/
theorem arr2_6 (r : Fin 1024) (u : Fin 2) :
    ((dat2 c Vv).arrAt 6 cfg2.N : Vec F S1024x2 .f32) (ix2 r u)
      = attnRes Vv (attnAt Vv 199 (by rw [show cfg2.N = 200 from N_2]; decide)) ⟨199, by rw [show cfg2.N = 200 from N_2]; decide⟩ (ix2 r u) := by
  have ht : 199 < cfg2.N := by rw [show cfg2.N = 200 from N_2]; decide
  have h := congrFun ((dat2 c Vv).read_blk_arrAt_eq_flushed 6 disjoint2_6 cfg2.N ⟨199, ht⟩ ht ((flush2_6 _).mpr rfl)) (ix2 r u)
  refine Eq.trans ?_ h
  clear h
  generalize (⟨199, ht⟩ : Fin cfg2.N) = t
  have h0 : ∀ t : Fin cfg2.N, win2_6.index t 0 = 0 := fun _ => rfl
  have h1 : ∀ t : Fin cfg2.N, win2_6.index t 1 = 0 := fun _ => rfl
  blk_ext [h0, h1]

end Cert.Proof.GatherI

end
-- ==== Proof.ScanVal.lean ====
/-
  What the recurrences' call leaves, over the extended reals: each row's states after each step are the step's iterates,
  and the maxima the largest hidden states so far.
-/
module

public import proofs.«01_k».proof.Proof.Spec
public import proofs.«01_k».proof.Proof.BlocksI
public import Idealize.ShloMosaic.Lib.Pointwise

@[expose] public section

set_option maxRecDepth 16384

noncomputable section

namespace Cert.Proof.GatherI

open Cert.KernelIdeal Cert.KernelIdeal.Gen

open Idealize.ShloMosaic Idealize.ShloMosaic.TcCoe
open Cert.Proof.Spec

/-! ## The body's arithmetic at an element -/

section Payloads

variable (x : Vec Ideal S1x1024x128 .f32) (h c : Vec Ideal S1024x128 .f32) (W U : Vec Ideal S128x512 .f32) (b : Vec Ideal S1x512 .f32) (r : Fin 1024) (u : Fin 128)

/-- One row's gates' arguments off whole blocks. -/
def zOf (j : Fin 512) : EReal := gates (fun k => x (ix3 0 r k)) (fun k => h (ix2 r k)) (fun k j => W (ix2 k j)) (fun k j => U (ix2 k j)) (fun j => b (ix2 0 j)) j

theorem pay10_apply : k1_pay10 x h c W U b (ix2 r u) = cell (zOf x h W U b r) (fun u => c (ix2 r u)) u := by
  pointwise [k1_pay10, k1_pay9, cell, gates, zOf]
theorem pay11_apply : k1_pay11 x h c W U b (ix2 r u) = hid (zOf x h W U b r) (fun u => c (ix2 r u)) u := by
  pointwise [k1_pay11, k1_pay10, k1_pay9, hid, cell, gates, zOf]
theorem pay14_apply : k1_pay14 (k1_pay12 x) h c W U b (ix2 r u) = cell (zOf x h W U b r) (fun u => c (ix2 r u)) u := by
  pointwise [k1_pay14, k1_pay13, k1_pay12, cell, gates, zOf]
theorem pay15_apply : k1_pay15 (k1_pay12 x) h c W U b (ix2 r u) = hid (zOf x h W U b r) (fun u => c (ix2 r u)) u := by
  pointwise [k1_pay15, k1_pay14, k1_pay13, k1_pay12, hid, cell, gates, zOf]
theorem pay16_apply : k1_pay16 (F := Ideal) c (ix2 r u) = c (ix2 r u) := by pointwise [k1_pay16]
theorem pay17_apply : k1_pay17 (F := Ideal) c (ix2 r u) = c (ix2 r u) := by pointwise [k1_pay17]
theorem pay18_apply : k1_pay18 (k1_pay12 x) h c W U b (ix2 r u) = hid (zOf x h W U b r) (fun u => c (ix2 r u)) u := by
  rw [← pay15_apply]; pointwise [k1_pay18]
theorem pay19_apply : k1_pay19 (k1_pay12 x) h c W U b (ix2 r u) = cell (zOf x h W U b r) (fun u => c (ix2 r u)) u := by
  rw [← pay14_apply]; pointwise [k1_pay19]
theorem pay1_apply : k1_pay1 (F := Ideal) c (ix3 0 r u) = c (ix2 r u) := by pointwise [k1_pay1]
theorem pay2_apply : k1_pay2 (F := Ideal) c (ix3 0 r u) = c (ix2 r u) := by pointwise [k1_pay2]
theorem pay3_apply : k1_pay3 h c (ix2 r u) = max (c (ix2 r u)) (h (ix2 r u)) := by pointwise [k1_pay3]
theorem pay4_apply : k1_pay4 h c (ix2 r u) = max (c (ix2 r u)) (h (ix2 r u)) := by pointwise [k1_pay4]
theorem pay5_apply : (k1_pay5 : FVec Ideal S1024x128 .f32) (ix2 r u) = 0 := by pointwise [k1_pay5]
theorem pay6_apply : (k1_pay6 : FVec Ideal S1024x128 .f32) (ix2 r u) = 0 := by pointwise [k1_pay6]
theorem pay7_apply : (k1_pay7 : FVec Ideal S1024x128 .f32) (ix2 r u) = 0 := by pointwise [k1_pay7]
theorem pay8_apply : (k1_pay8 : FVec Ideal S1024x128 .f32) (ix2 r u) = 0 := by pointwise [k1_pay8]

theorem hL_apply (y : Vec Ideal S1024x256 .f32) : hL y (ix2 r u) = y (ix2 r ⟨u.val, by omega⟩) :=
  congrArg y (Shape.idx_ext₂ (show 0 + 1 * r.val = r.val by omega) (show 0 + 1 * u.val = u.val by omega))
theorem hR_apply (y : Vec Ideal S1024x256 .f32) : hR y (ix2 r u) = y (ix2 r ⟨128 + u.val, by omega⟩) :=
  congrArg y (Shape.idx_ext₂ (show 0 + 1 * r.val = r.val by omega) (show 128 + 1 * u.val = 128 + u.val by omega))
theorem hL_both (l m : Vec Ideal S1024x128 .f32) : hL (both l m) (ix2 r u) = l (ix2 r u) := by
  rw [hL_apply]; unfold both
  exact (dif_pos (show u.val < 128 from u.isLt)).trans (congrArg l (Shape.idx_ext₂ rfl rfl))
theorem hR_both (l m : Vec Ideal S1024x128 .f32) : hR (both l m) (ix2 r u) = m (ix2 r u) := by
  rw [hR_apply]; unfold both
  exact (dif_neg (show ¬ 128 + u.val < 128 by omega)).trans (congrArg m (Shape.idx_ext₂ rfl (Nat.add_sub_cancel_left _ _)))

end Payloads

/-! ## The points -/

variable (Vv : Valuation τ sig (Elt Ideal)) (r : Fin 1024)

/-- A row's inputs in the order the forward direction reads them, and the backward. -/
def xF (n : ℕ) (k : Fin 128) : EReal := (Vv (Proc.devRef .tc main_v6) : Vec Ideal S200x1024x128 .f32) (ix3 ⟨n % 200, Nat.mod_lt _ (by decide)⟩ r k)
def xB (n : ℕ) (k : Fin 128) : EReal := (Vv (Proc.devRef .tc main_v6) : Vec Ideal S200x1024x128 .f32) (ix3 ⟨199 - n, by omega⟩ r k)

/-- A row's states after `n` steps of the forward direction, and of the backward. -/
def kF (n : ℕ) : (Fin 128 → EReal) × (Fin 128 → EReal) :=
  lstm (xF Vv r) (fun k j => (Vv (Proc.devRef .tc main_v3) : Vec Ideal S128x512 .f32) (ix2 k j)) (fun k j => (Vv (Proc.devRef .tc main_arg3) : Vec Ideal S128x512 .f32) (ix2 k j))
    (fun j => (Vv (Proc.devRef .tc main_v7) : Vec Ideal S1x512 .f32) (ix2 0 j)) n
def kB (n : ℕ) : (Fin 128 → EReal) × (Fin 128 → EReal) :=
  lstm (xB Vv r) (fun k j => (Vv (Proc.devRef .tc main_v4) : Vec Ideal S128x512 .f32) (ix2 k j)) (fun k j => (Vv (Proc.devRef .tc main_arg6) : Vec Ideal S128x512 .f32) (ix2 k j))
    (fun j => (Vv (Proc.devRef .tc main_v8) : Vec Ideal S1x512 .f32) (ix2 0 j)) n

theorem zF (t : Fin cfg1.N) (h : Vec Ideal S1024x128 .f32) :
    zOf (blk1 Vv 0 t) h (blk1 Vv 2 t) (blk1 Vv 3 t) (blk1 Vv 4 t) r = gates (xF Vv r t.val) (fun k => h (ix2 r k)) (fun k j => (Vv (Proc.devRef .tc main_v3) : Vec Ideal S128x512 .f32) (ix2 k j)) (fun k j => (Vv (Proc.devRef .tc main_arg3) : Vec Ideal S128x512 .f32) (ix2 k j))
    (fun j => (Vv (Proc.devRef .tc main_v7) : Vec Ideal S1x512 .f32) (ix2 0 j)) := by
  funext j
  unfold zOf xF
  simp only [blk1_0, blk1_2, blk1_3, blk1_4, Nat.mod_eq_of_lt (lt1 t)]
theorem zB (t : Fin cfg1.N) (h : Vec Ideal S1024x128 .f32) :
    zOf (blk1 Vv 1 t) h (blk1 Vv 5 t) (blk1 Vv 6 t) (blk1 Vv 7 t) r = gates (xB Vv r t.val) (fun k => h (ix2 r k)) (fun k j => (Vv (Proc.devRef .tc main_v4) : Vec Ideal S128x512 .f32) (ix2 k j)) (fun k j => (Vv (Proc.devRef .tc main_arg6) : Vec Ideal S128x512 .f32) (ix2 k j))
    (fun j => (Vv (Proc.devRef .tc main_v8) : Vec Ideal S1x512 .f32) (ix2 0 j)) := by
  funext j
  unfold zOf xB
  simp only [blk1_1, blk1_5, blk1_6, blk1_7]

/-- What a point is to leave. -/
structure ScanOk (n : ℕ) (s : ScanSt Ideal) : Prop where
  hf : ∀ u, s.hf (ix2 r u) = (kF Vv r (n + 1)).1 u
  cf : ∀ u, s.cf (ix2 r u) = (kF Vv r (n + 1)).2 u
  hb : ∀ u, s.hb (ix2 r u) = (kB Vv r (n + 1)).1 u
  cb : ∀ u, s.cb (ix2 r u) = (kB Vv r (n + 1)).2 u
  of : ∀ u, s.of (ix3 0 r u) = (kF Vv r (n + 1)).1 u
  ob : ∀ u, s.ob (ix3 0 r u) = (kB Vv r (n + 1)).1 u
  hL : ∀ u, hL s.ht (ix2 r u) = peak (fun i => (kF Vv r (i + 1)).1 u) n
  hR : ∀ u, hR s.ht (ix2 r u) = peak (fun i => (kB Vv r (i + 1)).1 u) n

/-- A step from the iterates' states leaves the next ones. -/
theorem scanBlk_ok (up : Vec Ideal S1024x128 .f32 → Vec Ideal S1024x128 .f32 → Vec Ideal S1024x256 .f32) (hf cf hb cb : Vec Ideal S1024x128 .f32) (n : ℕ) (hn : n < cfg1.N)
    (h1 : (fun u => hf (ix2 r u)) = (kF Vv r n).1) (h2 : (fun u => cf (ix2 r u)) = (kF Vv r n).2)
    (h3 : (fun u => hb (ix2 r u)) = (kB Vv r n).1) (h4 : (fun u => cb (ix2 r u)) = (kB Vv r n).2)
    (hl : ∀ l m : Vec Ideal S1024x128 .f32, (∀ u, l (ix2 r u) = (kF Vv r (n + 1)).1 u) → ∀ u, hL (up l m) (ix2 r u) = peak (fun i => (kF Vv r (i + 1)).1 u) n)
    (hr : ∀ l m : Vec Ideal S1024x128 .f32, (∀ u, m (ix2 r u) = (kB Vv r (n + 1)).1 u) → ∀ u, hR (up l m) (ix2 r u) = peak (fun i => (kB Vv r (i + 1)).1 u) n) :
    ScanOk Vv r n (scanBlk Vv up hf cf hb cb ⟨n, hn⟩) := by
  have eF : ∀ u, hid (zOf (blk1 Vv 0 ⟨n, hn⟩) hf (blk1 Vv 2 ⟨n, hn⟩) (blk1 Vv 3 ⟨n, hn⟩) (blk1 Vv 4 ⟨n, hn⟩) r) (fun u => cf (ix2 r u)) u = (kF Vv r (n + 1)).1 u := fun u => by
    rw [zF, h1, h2]; rfl
  have eB : ∀ u, hid (zOf (blk1 Vv 1 ⟨n, hn⟩) hb (blk1 Vv 5 ⟨n, hn⟩) (blk1 Vv 6 ⟨n, hn⟩) (blk1 Vv 7 ⟨n, hn⟩) r) (fun u => cb (ix2 r u)) u = (kB Vv r (n + 1)).1 u := fun u => by
    rw [zB, h3, h4]; rfl
  exact {
    hf := fun u => by dsimp only [scanBlk, scanStep]; rw [pay16_apply, pay11_apply, eF]
    cf := fun u => by dsimp only [scanBlk, scanStep]; rw [pay17_apply, pay10_apply, zF, h1, h2]; rfl
    hb := fun u => by dsimp only [scanBlk, scanStep]; rw [pay18_apply, eB]
    cb := fun u => by dsimp only [scanBlk, scanStep]; rw [pay19_apply, zB, h3, h4]; rfl
    of := fun u => by dsimp only [scanBlk, scanStep]; rw [pay1_apply, pay11_apply, eF]
    ob := fun u => by dsimp only [scanBlk, scanStep]; rw [pay2_apply, pay15_apply, eB]
    hL := hl _ _ fun u => by rw [pay11_apply, eF]
    hR := hr _ _ fun u => by rw [pay15_apply, eB] }

/-- Every point leaves the iterates. -/
theorem scanAt_ok : ∀ (n : ℕ) (hn : n < cfg1.N), ScanOk Vv r n (scanAt Vv n hn)
  | 0, hn => scanBlk_ok Vv r _ _ _ _ _ 0 hn (funext fun u => pay5_apply r u) (funext fun u => pay6_apply r u) (funext fun u => pay7_apply r u) (funext fun u => pay8_apply r u)
      (fun l m h u => (hL_both r u l m).trans (h u)) (fun l m h u => (hR_both r u l m).trans (h u))
  | n + 1, hn => by
    have ih := scanAt_ok n (Nat.lt_of_succ_lt hn)
    refine scanBlk_ok Vv r _ _ _ _ _ (n + 1) hn (funext ih.hf) (funext ih.cf) (funext ih.hb) (funext ih.cb) (fun l m h u => ?_) (fun l m h u => ?_)
    · rw [hL_both, pay3_apply, ih.hL, h]; rfl
    · rw [hR_both, pay4_apply, ih.hR, h]; rfl

end Cert.Proof.GatherI

end
-- ==== Proof.AttnVal.lean ====
/-
  What the attention's call leaves, over the extended reals: with real hidden states and maxima, its running sums are
  the softmax's sums at a shifted exponent, and its result the head over their weighted means.
-/
module

public import proofs.«01_k».proof.Proof.ScanVal

@[expose] public section

set_option maxRecDepth 16384

noncomputable section

namespace Cert.Proof.GatherI

open Cert.KernelIdeal Cert.KernelIdeal.Gen

open Idealize.ShloMosaic Idealize.ShloMosaic.TcCoe
open Cert.Proof.Spec

/-! ## The body's arithmetic at an element -/

theorem ofBits_least : Ideal.ofBits .f32 0xFF800000#32 = ⊥ := by simp [Ideal.ofBits, Ideal.ieee]

section Payloads

variable (x0 x1 : Vec Ideal S1x1024x128 .f32) (l h : Vec Ideal S1024x128 .f32) (m s : Vec Ideal S1024x1 .f32) (f : Vec Ideal S1024x128 .f32) (r : Fin 1024) (u : Fin 128)

/-- One row's score off whole blocks. -/
def sOf : EReal := ∑ k : Fin 128, x0 (ix3 0 r k) * l (ix2 r k) + ∑ k : Fin 128, x1 (ix3 0 r k) * h (ix2 r k)

theorem apay6_apply : k2_pay6 x0 x1 l h (ix2 r 0) = sOf x0 x1 l h r := by
  pointwise [k2_pay6, k2_pay5, k2_pay4, k2_pay3, k2_pay2, k2_pay1, sOf]
theorem apay7_apply : (k2_pay7 : FVec Ideal S1024x1 .f32) (ix2 r 0) = 1 := by
  pointwise [k2_pay7]
theorem apay8_apply : k2_pay8 x0 (ix2 r u) = x0 (ix3 0 r u) := by pointwise [k2_pay8, k2_pay1]
theorem apay9_apply : k2_pay9 x0 (ix2 r u) = x0 (ix3 0 r u) := by pointwise [k2_pay9, k2_pay2]
theorem apay3_apply : k2_pay3 l (ix2 r u) = l (ix2 r u) := by pointwise [k2_pay3]
theorem apay4_apply : k2_pay4 l (ix2 r u) = l (ix2 r u) := by pointwise [k2_pay4]
theorem apay13_apply : k2_pay13 x0 x1 l h m (ix2 r 0) = max (m (ix2 r 0)) (sOf x0 x1 l h r) := by
  pointwise [k2_pay13, k2_pay10, k2_pay5, k2_pay4, k2_pay3, k2_pay2, k2_pay1, sOf]
theorem apay14_apply : k2_pay14 x0 x1 l h m s (ix2 r 0)
    = s (ix2 r 0) * Ideal.exp (m (ix2 r 0) - max (m (ix2 r 0)) (sOf x0 x1 l h r)) + Ideal.exp (sOf x0 x1 l h r - max (m (ix2 r 0)) (sOf x0 x1 l h r)) := by
  pointwise [k2_pay14, k2_pay12, k2_pay11, k2_pay10, k2_pay5, k2_pay4, k2_pay3, k2_pay2, k2_pay1, sOf]
theorem apay15_apply : k2_pay15 x0 x1 l h m f (ix2 r u)
    = f (ix2 r u) * Ideal.exp (m (ix2 r 0) - max (m (ix2 r 0)) (sOf x0 x1 l h r)) + Ideal.exp (sOf x0 x1 l h r - max (m (ix2 r 0)) (sOf x0 x1 l h r)) * x0 (ix3 0 r u) := by
  pointwise [k2_pay15, k2_pay12, k2_pay11, k2_pay10, k2_pay5, k2_pay4, k2_pay3, k2_pay2, k2_pay1, sOf]
theorem apay16_apply : k2_pay16 x0 x1 l h m f (ix2 r u)
    = f (ix2 r u) * Ideal.exp (m (ix2 r 0) - max (m (ix2 r 0)) (sOf x0 x1 l h r)) + Ideal.exp (sOf x0 x1 l h r - max (m (ix2 r 0)) (sOf x0 x1 l h r)) * x1 (ix3 0 r u) := by
  pointwise [k2_pay16, k2_pay12, k2_pay11, k2_pay10, k2_pay5, k2_pay4, k2_pay3, k2_pay2, k2_pay1, sOf]

variable (cf cb : Vec Ideal S1024x128 .f32) (A B C D : Vec Ideal S128x128 .f32) (wd : Vec Ideal S128x2 .f32) (bd : Vec Ideal S1x2 .f32)

/-- One row's squashed projection off whole blocks. -/
def zzOf (k : Fin 128) : EReal :=
  Ideal.tanh (∑ i : Fin 128, cf (ix2 r i) * Ideal.div 1 (s (ix2 r 0)) * A (ix2 i k) + ∑ i : Fin 128, cb (ix2 r i) * Ideal.div 1 (s (ix2 r 0)) * B (ix2 i k)
    + ∑ i : Fin 128, l (ix2 r i) * C (ix2 i k) + ∑ i : Fin 128, h (ix2 r i) * D (ix2 i k))

theorem apay18_apply (j : Fin 2) : k2_pay18 l h s cf cb A B C D wd bd (ix2 r j)
    = Ideal.exp (logits (zzOf l h s r cf cb A B C D) (fun k j => wd (ix2 k j)) (fun j => bd (ix2 0 j)) j
        - Finset.univ.fold max ⊥ (logits (zzOf l h s r cf cb A B C D) (fun k j => wd (ix2 k j)) (fun j => bd (ix2 0 j)))) := by
  rw [← ofBits_least]
  pointwise [k2_pay18, logits, zzOf]
theorem apay17_apply (j : Fin 2) : k2_pay17 (k2_pay18 l h s cf cb A B C D wd bd) (k2_pay19 l h s cf cb A B C D wd bd) (ix2 r j)
    = soft (logits (zzOf l h s r cf cb A B C D) (fun k j => wd (ix2 k j)) (fun j => bd (ix2 0 j))) j := by
  have e : k2_pay17 (k2_pay18 l h s cf cb A B C D wd bd) (k2_pay19 l h s cf cb A B C D wd bd) (ix2 r j)
      = Ideal.div (k2_pay18 l h s cf cb A B C D wd bd (ix2 r j)) (∑ k, k2_pay18 l h s cf cb A B C D wd bd (ix2 r k)) := by
    unfold k2_pay17 k2_pay19
    generalize k2_pay18 l h s cf cb A B C D wd bd = q
    pointwise
  rw [e]; simp only [apay18_apply]; rfl

theorem wv0_apply (y : Vec Ideal S512x128 .f32) (i k : Fin 128) : wv0 y (ix2 i k) = y (ix2 ⟨i, by omega⟩ k) :=
  congrArg y (Shape.idx_ext₂ (show 0 + 1 * i.val = i.val by omega) (show 0 + 1 * k.val = k.val by omega))
theorem wv1_apply (y : Vec Ideal S512x128 .f32) (i k : Fin 128) : wv1 y (ix2 i k) = y (ix2 ⟨128 + i, by omega⟩ k) :=
  congrArg y (Shape.idx_ext₂ (show 128 + 1 * i.val = 128 + i.val by omega) (show 0 + 1 * k.val = k.val by omega))
theorem wv2_apply (y : Vec Ideal S512x128 .f32) (i k : Fin 128) : wv2 y (ix2 i k) = y (ix2 ⟨256 + i, by omega⟩ k) :=
  congrArg y (Shape.idx_ext₂ (show 256 + 1 * i.val = 256 + i.val by omega) (show 0 + 1 * k.val = k.val by omega))
theorem wv3_apply (y : Vec Ideal S512x128 .f32) (i k : Fin 128) : wv3 y (ix2 i k) = y (ix2 ⟨384 + i, by omega⟩ k) :=
  congrArg y (Shape.idx_ext₂ (show 384 + 1 * i.val = 384 + i.val by omega) (show 0 + 1 * k.val = k.val by omega))

end Payloads

/-! ## The points -/

/-- A rescaled sum and the next term. -/
theorem rescale (s g : ℕ → ℝ) (n : ℕ) (m m' : ℝ) :
    ((∑ i ∈ Finset.range (n + 1), Real.exp (s i - m) * g i : ℝ) : EReal) * Ideal.exp ((m : EReal) - (m' : EReal)) + Ideal.exp ((s (n + 1) : EReal) - (m' : EReal)) * (g (n + 1) : EReal)
      = ((∑ i ∈ Finset.range (n + 1 + 1), Real.exp (s i - m') * g i : ℝ) : EReal) := by
  rw [← EReal.coe_sub, ← EReal.coe_sub, Ideal.exp_coe, Ideal.exp_coe, ← EReal.coe_mul, ← EReal.coe_mul, ← EReal.coe_add, Finset.sum_range_succ _ (n + 1), Finset.sum_mul]
  congr 2
  refine Finset.sum_congr rfl fun i _ => ?_
  rw [show s i - m' = (s i - m) + (m - m') by ring, Real.exp_add]; ring

variable (Vv : Valuation τ sig (Elt Ideal)) (r : Fin 1024) (hf hb : ℕ → Fin 128 → ℝ) (pf pb : Fin 128 → ℝ)

/-- A row of the call's operands is at given real hidden states and maxima. -/
structure AttnIn : Prop where
  f : ∀ (t : Fin 200) u, (Vv (Proc.devRef .tc main_v9_0) : Vec Ideal S200x1024x128 .f32) (ix3 t r u) = (hf t u : EReal)
  b : ∀ (t : Fin 200) u, (Vv (Proc.devRef .tc main_v9_1) : Vec Ideal S200x1024x128 .f32) (ix3 t r u) = (hb t u : EReal)
  l : ∀ u : Fin 128, (Vv (Proc.devRef .tc main_v9_2) : Vec Ideal S1024x256 .f32) (ix2 r ⟨u.val, by omega⟩) = (pf u : EReal)
  h : ∀ u : Fin 128, (Vv (Proc.devRef .tc main_v9_2) : Vec Ideal S1024x256 .f32) (ix2 r ⟨128 + u.val, by omega⟩) = (pb u : EReal)

/-- What a point is to leave: the sums at some shift, the shift in the place of the maximum. -/
def AttnOk (n : ℕ) (a : AttnSt Ideal) : Prop :=
  ∃ m : ℝ, a.m (ix2 r 0) = (m : EReal) ∧ a.s (ix2 r 0) = ((∑ i ∈ Finset.range (n + 1), Real.exp (score hf hb pf pb i - m) : ℝ) : EReal)
    ∧ (∀ u, a.f (ix2 r u) = ((∑ i ∈ Finset.range (n + 1), Real.exp (score hf hb pf pb i - m) * hf i u : ℝ) : EReal))
    ∧ ∀ u, a.b (ix2 r u) = ((∑ i ∈ Finset.range (n + 1), Real.exp (score hf hb pf pb i - m) * hb i u : ℝ) : EReal)

variable {Vv r hf hb pf pb} (hin : AttnIn Vv r hf hb pf pb)

include hin

theorem score_apply (t : Fin cfg2.N) : sOf (blk2 Vv 0 t) (blk2 Vv 1 t) (hL (blk2 Vv 2 t)) (hR (blk2 Vv 2 t)) r = (score hf hb pf pb t : EReal) := by
  unfold sOf score
  simp only [blk2_0, blk2_1, hL_apply, hR_apply, blk2_2, hin.f, hin.b, hin.l, hin.h]
  rw [EReal.coe_add, ← coe_sum, ← coe_sum]
  simp only [EReal.coe_mul]

theorem attnAt_ok : ∀ (n : ℕ) (hn : n < cfg2.N), AttnOk r hf hb pf pb n (attnAt Vv n hn)
  | 0, hn => by
    refine ⟨score hf hb pf pb 0, ?_, ?_, fun u => ?_, fun u => ?_⟩
    · exact (apay6_apply _ _ _ _ r).trans (score_apply hin ⟨0, hn⟩)
    · refine (apay7_apply r).trans ?_; simp
    · refine (apay8_apply _ r u).trans ((blk2_0 Vv ⟨0, hn⟩ r u).trans ((hin.f ⟨0, by decide⟩ u).trans ?_)); simp
    · refine (apay9_apply _ r u).trans ((blk2_1 Vv ⟨0, hn⟩ r u).trans ((hin.b ⟨0, by decide⟩ u).trans ?_)); simp
  | n + 1, hn => by
    obtain ⟨m, h1, h2, h3, h4⟩ := attnAt_ok n (Nat.lt_of_succ_lt hn)
    have hs := score_apply hin ⟨n + 1, hn⟩
    have hm : max (m : EReal) (score hf hb pf pb (n + 1) : EReal) = ((max m (score hf hb pf pb (n + 1)) : ℝ) : EReal) := (EReal.coe_strictMono.monotone.map_max).symm
    refine ⟨max m (score hf hb pf pb (n + 1)), ?_, ?_, fun u => ?_, fun u => ?_⟩
    · refine (apay13_apply _ _ _ _ _ r).trans ?_
      rw [hs, h1, hm]
    · refine (apay14_apply _ _ _ _ _ _ r).trans ?_
      rw [hs, h1, hm, h2]
      simpa using rescale (score hf hb pf pb) (fun _ => 1) n m (max m (score hf hb pf pb (n + 1)))
    · refine (apay15_apply _ _ _ _ _ _ r u).trans ?_
      rw [hs, h1, hm, h3, blk2_0, hin.f]
      exact rescale (score hf hb pf pb) (fun i => hf i u) n m _
    · refine (apay16_apply _ _ _ _ _ _ r u).trans ?_
      rw [hs, h1, hm, h4, blk2_1, hin.b]
      exact rescale (score hf hb pf pb) (fun i => hb i u) n m _

/-- A row's squashed projection off what a point leaves. -/
theorem zz_apply (n : ℕ) (a : AttnSt Ideal) (ok : AttnOk r hf hb pf pb n a) (t : Fin cfg2.N) :
    zzOf (k2_pay3 (hL (blk2 Vv 2 t))) (k2_pay4 (hR (blk2 Vv 2 t))) a.s r a.f a.b (wv0 (blk2 Vv 3 t)) (wv1 (blk2 Vv 3 t)) (wv2 (blk2 Vv 3 t)) (wv3 (blk2 Vv 3 t))
      = headZ (fun u => (wmean (score hf hb pf pb) (fun t => hf t u) (n + 1) : EReal)) (fun u => (wmean (score hf hb pf pb) (fun t => hb t u) (n + 1) : EReal)) (fun u => (pf u : EReal)) (fun u => (pb u : EReal))
          (fun k j => (Vv (Proc.devRef .tc main_arg8) : Vec Ideal S512x128 .f32) (ix2 k j)) := by
  obtain ⟨m, h1, h2, h3, h4⟩ := ok
  funext k
  unfold zzOf headZ
  simp only [h2, h3, h4, mean_of_sums, apay3_apply, apay4_apply, hL_apply, hR_apply, blk2_2, hin.l, hin.h, wv0_apply, wv1_apply, wv2_apply, wv3_apply, blk2_3]

/-- The result's row. -/
theorem attnRes_apply (a : AttnSt Ideal) (ok : AttnOk r hf hb pf pb 199 a) (t : Fin cfg2.N) (j : Fin 2) :
    attnRes Vv a t (ix2 r j)
      = rowOut hf hb pf pb (fun k j => (Vv (Proc.devRef .tc main_arg8) : Vec Ideal S512x128 .f32) (ix2 k j)) (fun k j => (Vv (Proc.devRef .tc main_arg9) : Vec Ideal S128x2 .f32) (ix2 k j))
          (fun j => (Vv (Proc.devRef .tc main_v10) : Vec Ideal S1x2 .f32) (ix2 0 j)) j := by
  unfold attnRes headOut
  rw [apay17_apply, zz_apply hin 199 a ok]
  simp only [blk2_4, blk2_5]
  rfl

end Cert.Proof.GatherI

end
-- ==== Proof.RegionsI.lean ====
/-
  The two pipelined calls as segments of @main: entered with every array at some contents and nothing owed, left with
  the call's results at what its points wrote and every other array as it was.
-/
module

public import proofs.«01_k».proof.Proof.AttnI
public import Idealize.ShloMosaic.Lib.Pipeline.FrameTail
public import Idealize.ShloMosaic.Lib.Pipeline.RegionArrays

@[expose] public section

noncomputable section

namespace Cert.Proof.GatherI

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore (T)
open Idealize.ShloMosaic.Pipeline (Dat Cfg Window BodyObligation cellOf)

variable {F : FTy → Type} [FloatOps F]

local notation "𝕄" => MT nD τ sig (HIx 1) (Elt F) ℕ UU ℕ

/-- The pipelines have no prefetched tables. -/
def adm : (p : Fin 2) → (pcfgs (F := F) p).Adm := fun p => (cfgs p).toPCfg_adm

/-- The two pipelines' proof data, over the arrays at `V` for the first and at `V'` for the second. -/
def dats (V V' : Dev nD → Valuation τ sig (Elt F)) : (p : Fin 2) → (c : Dev nD) → Dat τ (Elt F) (HIx 1) ℕ UU ℕ (Pipeline.pin pcfgs (adm (F := F)) p) c
  | ⟨0, _⟩, c => dat1 c (V c)
  | ⟨1, _⟩, c => dat2 c (V' c)

/-- A thread state of @main after the SparseCore call: every array at `V`, the generator's register at some state,
    nothing owed and the waits so far at or below the call's level. -/
def St (V : Dev nD → Valuation τ sig (Elt F)) (c : Dev nD) : sProp 𝕄 :=
  iprop(StableHlo.held (T c) (Pipeline.ucRefs τ sig) (V c) ∗ (∃ r, prngReg c r) ∗ ∃ W, ⌜(K (F := F)).WBelow (T c) W 8⌝ ∗ owes (T c) 0 W)

omit [FloatOps F] in
/-- Every array held is the windows' arrays and the rest. -/
theorem held_split (p : Fin 2) (c : Dev nD) (hun : ∀ w, (Pipeline.arrRef (Pipeline.pin pcfgs (adm (F := F)) p).spec w).isScoped = false) (V : Valuation τ sig (Elt F)) :
    (StableHlo.held (T c) (Pipeline.ucRefs τ sig) V : sProp 𝕄)
      = iprop(Pipeline.arrBufs (Pipeline.pin pcfgs (adm (F := F)) p).spec c (fun b => V (Proc.devRef .tc b)) ∗ Pipeline.unscopedRest (Pipeline.pin pcfgs (adm (F := F)) p).spec c (fun b => V (Proc.devRef .tc b))) := by
  have h := Pipeline.unscopedBufs_held (τ := τ) (sig := sig) (Val := Elt F) (Ix := HIx 1) (Name := ℕ) (U := UU) (Lvl := ℕ) c V
  refine (show _ = unscopedBufs c (fun b => V (Proc.devRef .tc b)) from h.symm).trans ?_
  exact Pipeline.unscopedBufs_split₀ (Pipeline.pin pcfgs (adm (F := F))) p hun c (fun b => V (Proc.devRef .tc b))

/-- A pipelined call as a segment. -/
def region (p : Fin 2) (V V' Vin Vout : Dev nD → Valuation τ sig (Elt F))
    (hwin : Pipeline.WinFacts₀ (Pipeline.pin pcfgs (adm (F := F)) p).spec) (hsh : Pipeline.SharedIn (Pipeline.pin pcfgs (adm (F := F)) p).spec)
    (hpos : ∀ w : Fin (Pipeline.pin pcfgs (adm (F := F)) p).W, 0 < ((Pipeline.pin pcfgs (adm (F := F)) p).spec w).block.numel)
    (harr : ∀ w, ((Pipeline.pin pcfgs (adm (F := F)) p).spec w).arr.IsWhole)
    (hstage : ∀ w s, (((Pipeline.pin pcfgs (adm (F := F)) p).spec w).stage s).IsWhole)
    (hbody : ∀ c, BodyObligation (dats V V' p c) (defs₀ (F := F)) Variants.none none Set.univ)
    (howed : ∀ c t, (dats V V' p c).owed t = 0) (hrec : ∀ c t, (dats V V' p c).recorded t = recd (F := F) c)
    (hq : ∀ c w, (dats V V' p c).q w = Pipeline.shareOf (Pipeline.pin pcfgs (adm (F := F)) p).spec w)
    (hA : ∀ c w, (dats V V' p c).A w = Vin c (Proc.devRef .tc (Pipeline.arrRef (Pipeline.pin pcfgs (adm (F := F)) p).spec w)))
    (hout : ∀ c w, (dats V V' p c).arrAt w (Pipeline.pin pcfgs (adm (F := F)) p).N = Vout c (Proc.devRef .tc (Pipeline.arrRef (Pipeline.pin pcfgs (adm (F := F)) p).spec w)))
    (hrest : ∀ c (b : Ref sig .tc), (∀ w, b ≠ Pipeline.arrRef (Pipeline.pin pcfgs (adm (F := F)) p).spec w) → Vout c (Proc.devRef .tc b) = Vin c (Proc.devRef .tc b))
    (hΦ0 : ∀ c, iprop((∃ r, prngReg c r) ∗ Pipeline.scopedRest (Pipeline.pin pcfgs (adm (F := F)) p).spec c) ⊢ (dats V V' p c).Φ 0)
    (hΦN : ∀ c, (dats V V' p c).Φ (Fin.last _) ⊢ iprop((∃ r, prngReg c r) ∗ Pipeline.scopedRest (Pipeline.pin pcfgs (adm (F := F)) p).spec c)) :
    Pipeline.RegionSeg (pcfgs (F := F)) adm (dats V V') none (defs₀ (F := F)) Variants.none (K (F := F)).L (K (F := F)).lev p where
  win := hwin
  block_pos := hpos
  stage_whole := hstage
  K := PEmpty
  osem k := k.elim
  ho := Pipeline.OwnSemFacts.none _
  hbody c := (hbody c).loose
  hwaits c := Pipeline.cellsWaits_of_cut (Pipeline.pin pcfgs (adm (F := F))) (dats V V') none p c (L := (K (F := F)).L) (lev := (K (F := F)).lev) 0 0 (howed c)
    (fun _ _ => Finset.mem_univ _) (fun _ _ => le_rfl) (fun g i h => absurd h (lt_irrefl _))
  pre := St Vin
  post := St Vout
  X c := iprop(∃ r, prngReg c r)
  Y c := iprop(∃ r, prngReg c r)
  Z c := Pipeline.unscopedRest (Pipeline.pin pcfgs (adm (F := F)) p).spec c (fun b => Vin c (Proc.devRef .tc b))
  hentry c := by
    rw [Pipeline.ownSems0_none, Pipeline.prefHeld_of_none _ rfl]
    unfold St
    rw [held_split p c hwin.arr_unscoped (Vin c),
      (dats V V' p c).arrBufs_eq_arrays hsh harr (fun w _ => hq c w) (fun b => Vin c (Proc.devRef .tc b)) ((dats V V' p c).arrAt · 0) (fun w => hA c w)]
    iintro ⟨⟨⟨Ha, HZ⟩, HX, ⟨%W, %hW, HO⟩⟩, -, -⟩
    imodintro
    isplitl [Ha]; · iexact Ha
    isplitr; · iempintro
    isplitl [HO]
    · unfold Dat.owesAt Pipeline.owesWithin Dat.bound
      rw [howed c 0, hrec c 0]
      iexists W; isplitr; · ipureintro; exact fun q hq => Or.inl (hW q hq)
      iexact HO
    isplitl [HX]; · iexact HX
    iexact HZ
  hin c := by
    rw [Pipeline.prefHeld_of_none _ rfl]
    exact (show _ ⊢ iprop((∃ r, prngReg c r) ∗ Pipeline.scopedRest (Pipeline.pin pcfgs (adm (F := F)) p).spec c) from by
      iintro ⟨HX, -, Hr⟩
      isplitl [HX]; · iexact HX
      iexact Hr).trans (hΦ0 c)
  hout c := (hΦN c).trans (by
    rw [Pipeline.ownSems0_none]
    iintro ⟨HY, Hr⟩
    isplitl [HY]; · iexact HY
    isplitr; · iempintro
    iexact Hr)
  hexit c := by
    unfold St
    rw [held_split p c hwin.arr_unscoped (Vout c),
      (dats V V' p c).arrBufs_eq_arrays hsh harr (fun w _ => hq c w) (fun b => Vout c (Proc.devRef .tc b)) ((dats V V' p c).arrAt · _) (fun w => hout c w)]
    iintro ⟨Ha, HO, HY, HZ⟩
    imodintro
    isplitl [Ha HZ]
    · isplitl [Ha]; · iexact Ha
      iapply (Entails.of_eq (show (Pipeline.unscopedRest (Pipeline.pin pcfgs (adm (F := F)) p).spec c (fun b => Vin c (Proc.devRef .tc b)) : sProp 𝕄)
          = Pipeline.unscopedRest (Pipeline.pin pcfgs (adm (F := F)) p).spec c (fun b => Vout c (Proc.devRef .tc b)) from by
        unfold Pipeline.unscopedRest
        refine bigSep_congr fun b hb => ?_
        dsimp only
        rw [hrest c b fun w e => (Finset.mem_sdiff.mp hb).2 (Finset.mem_image.mpr ⟨w, Finset.mem_univ _, e.symm⟩)]))
      iexact HZ
    isplitl [HY]; · iexact HY
    unfold Dat.owesAt Pipeline.owesWithin Dat.bound
    rw [howed c _, hrec c _]
    icases HO with ⟨%W, %hW, HO⟩
    iexists W; isplitr
    · ipureintro; intro q hq
      rcases hW hq with h | ⟨w, s, h⟩
      · exact h
      · rw [h]; exact Nat.zero_le 8
    iexact HO

/-! ## The two calls -/

/-- Every array after the recurrences' call. -/
def after1 (c : Dev nD) (Vv : Valuation τ sig (Elt F)) : Valuation τ sig (Elt F) :=
  Function.update (Function.update (Function.update Vv (Proc.devRef .tc main_v9_0) ((dat1 c Vv).arrAt 8 cfg1.N))
    (Proc.devRef .tc main_v9_1) ((dat1 c Vv).arrAt 9 cfg1.N)) (Proc.devRef .tc main_v9_2) ((dat1 c Vv).arrAt 10 cfg1.N)

/-- Every array after the attention's call. -/
def after2 (c : Dev nD) (Vv : Valuation τ sig (Elt F)) : Valuation τ sig (Elt F) :=
  Function.update Vv (Proc.devRef .tc main_v11) ((dat2 c Vv).arrAt 6 cfg2.N)

theorem after1_ne (c : Dev nD) (Vv : Valuation τ sig (Elt F)) {b : DevRef τ sig} (h0 : b ≠ Proc.devRef .tc main_v9_0) (h1 : b ≠ Proc.devRef .tc main_v9_1)
    (h2 : b ≠ Proc.devRef .tc main_v9_2) : after1 c Vv b = Vv b := by
  unfold after1; rw [Function.update_of_ne h2, Function.update_of_ne h1, Function.update_of_ne h0]
theorem after1_0 (c : Dev nD) (Vv : Valuation τ sig (Elt F)) : after1 c Vv (Proc.devRef .tc main_v9_0) = (dat1 c Vv).arrAt 8 cfg1.N := by
  unfold after1; rw [Function.update_of_ne (by decide), Function.update_of_ne (by decide), Function.update_self]
theorem after1_1 (c : Dev nD) (Vv : Valuation τ sig (Elt F)) : after1 c Vv (Proc.devRef .tc main_v9_1) = (dat1 c Vv).arrAt 9 cfg1.N := by
  unfold after1; rw [Function.update_of_ne (by decide), Function.update_self]
theorem after1_2 (c : Dev nD) (Vv : Valuation τ sig (Elt F)) : after1 c Vv (Proc.devRef .tc main_v9_2) = (dat1 c Vv).arrAt 10 cfg1.N := by
  unfold after1; rw [Function.update_self]
theorem after2_ne (c : Dev nD) (Vv : Valuation τ sig (Elt F)) {b : DevRef τ sig} (h : b ≠ Proc.devRef .tc main_v11) : after2 c Vv b = Vv b := Function.update_of_ne h ..
theorem after2_0 (c : Dev nD) (Vv : Valuation τ sig (Elt F)) : after2 c Vv (Proc.devRef .tc main_v11) = (dat2 c Vv).arrAt 6 cfg2.N := Function.update_self ..

theorem arrAt1_in (c : Dev nD) (Vv : Valuation τ sig (Elt F)) (w : Fin cfg1.W) (h : (cfg1.win w).isOut = false) (n : ℕ) :
    (dat1 c Vv).arrAt w n = Vv (Proc.devRef .tc (Pipeline.arrRef spec1 w)) := (dat1 c Vv).arrAt_in w h n
theorem arrAt2_in (c : Dev nD) (Vv : Valuation τ sig (Elt F)) (w : Fin cfg2.W) (h : (cfg2.win w).isOut = false) (n : ℕ) :
    (dat2 c Vv).arrAt w n = Vv (Proc.devRef .tc (Pipeline.arrRef spec2 w)) := (dat2 c Vv).arrAt_in w h n

/-- Each window's array after the recurrences' call. -/
theorem arrs1 (c : Dev nD) (Vv : Valuation τ sig (Elt F)) : ∀ w : Fin cfg1.W, (dat1 c Vv).arrAt w cfg1.N = after1 c Vv (Proc.devRef .tc (Pipeline.arrRef spec1 w))
  | ⟨0, _⟩ => (arrAt1_in c Vv 0 rfl _).trans (after1_ne c Vv (by decide) (by decide) (by decide)).symm
  | ⟨1, _⟩ => (arrAt1_in c Vv 1 rfl _).trans (after1_ne c Vv (by decide) (by decide) (by decide)).symm
  | ⟨2, _⟩ => (arrAt1_in c Vv 2 rfl _).trans (after1_ne c Vv (by decide) (by decide) (by decide)).symm
  | ⟨3, _⟩ => (arrAt1_in c Vv 3 rfl _).trans (after1_ne c Vv (by decide) (by decide) (by decide)).symm
  | ⟨4, _⟩ => (arrAt1_in c Vv 4 rfl _).trans (after1_ne c Vv (by decide) (by decide) (by decide)).symm
  | ⟨5, _⟩ => (arrAt1_in c Vv 5 rfl _).trans (after1_ne c Vv (by decide) (by decide) (by decide)).symm
  | ⟨6, _⟩ => (arrAt1_in c Vv 6 rfl _).trans (after1_ne c Vv (by decide) (by decide) (by decide)).symm
  | ⟨7, _⟩ => (arrAt1_in c Vv 7 rfl _).trans (after1_ne c Vv (by decide) (by decide) (by decide)).symm
  | ⟨8, _⟩ => (after1_0 c Vv).symm
  | ⟨9, _⟩ => (after1_1 c Vv).symm
  | ⟨10, _⟩ => (after1_2 c Vv).symm

/-- Each window's array after the attention's call. -/
theorem arrs2 (c : Dev nD) (Vv : Valuation τ sig (Elt F)) : ∀ w : Fin cfg2.W, (dat2 c Vv).arrAt w cfg2.N = after2 c Vv (Proc.devRef .tc (Pipeline.arrRef spec2 w))
  | ⟨0, _⟩ => (arrAt2_in c Vv 0 rfl _).trans (after2_ne c Vv (by decide)).symm
  | ⟨1, _⟩ => (arrAt2_in c Vv 1 rfl _).trans (after2_ne c Vv (by decide)).symm
  | ⟨2, _⟩ => (arrAt2_in c Vv 2 rfl _).trans (after2_ne c Vv (by decide)).symm
  | ⟨3, _⟩ => (arrAt2_in c Vv 3 rfl _).trans (after2_ne c Vv (by decide)).symm
  | ⟨4, _⟩ => (arrAt2_in c Vv 4 rfl _).trans (after2_ne c Vv (by decide)).symm
  | ⟨5, _⟩ => (arrAt2_in c Vv 5 rfl _).trans (after2_ne c Vv (by decide)).symm
  | ⟨6, _⟩ => (after2_0 c Vv).symm

theorem sharedIn2 : Pipeline.SharedIn spec2 := by decide

theorem enter1 (c : Dev nD) (Vv : Valuation τ sig (Elt F)) : iprop((∃ r, prngReg c r) ∗ Pipeline.scopedRest spec1 c) ⊢ (dat1 c Vv).Φ 0 := by
  refine (sep_mono .rfl (scoped1_states c).1).trans ?_
  iintro ⟨Hg, Hs⟩
  iapply (show iprop((anyStates1 c ∗ rest1 (F := F) c) ∗ ∃ r, prngReg c r) ⊢ (dat1 c Vv).Φ 0 from .rfl)
  isplitl [Hs] <;> iassumption
theorem leave1 (c : Dev nD) (Vv : Valuation τ sig (Elt F)) : (dat1 c Vv).Φ (Fin.last cfg1.N) ⊢ iprop((∃ r, prngReg c r) ∗ Pipeline.scopedRest spec1 c) := by
  refine (show (dat1 c Vv).Φ (Fin.last cfg1.N) ⊢ _ from Phi1_any c Vv cfg1.N le_rfl).trans ?_
  iintro ⟨Hs, Hg⟩
  isplitl [Hg]; · iexact Hg
  iapply (scoped1_states c).2
  iexact Hs

/-- The recurrences' call as a segment. -/
def region1 (V V' : Dev nD → Valuation τ sig (Elt F)) : Pipeline.RegionSeg (pcfgs (F := F)) adm (dats V V') none (defs₀ (F := F)) Variants.none (K (F := F)).L (K (F := F)).lev 0 :=
  region 0 V V' V (fun c => after1 c (V c)) launch₀1.win launch₀1.sharedIn launch₀1.block_pos launch₀1.arr_whole launch₀1.stage_whole
    (fun c => obligation1 c (V c)) (fun _ _ => rfl) (fun _ _ => rfl) (fun _ _ => rfl) (fun _ _ => rfl) (fun c w => arrs1 c (V c) w)
    (fun c b h => after1_ne c (V c) (fun e => h 8 (Proc.devRef_injective _ e)) (fun e => h 9 (Proc.devRef_injective _ e)) (fun e => h 10 (Proc.devRef_injective _ e)))
    (fun c => enter1 c (V c)) (fun c => leave1 c (V c))

theorem enter2 (c : Dev nD) (Vv : Valuation τ sig (Elt F)) : iprop((∃ r, prngReg c r) ∗ Pipeline.scopedRest spec2 c) ⊢ (dat2 c Vv).Φ 0 := by
  refine (sep_mono .rfl (scoped2_states c).1).trans ?_
  iintro ⟨Hg, Hs⟩
  iapply (show iprop((anyStates2 c ∗ rest2 (F := F) c) ∗ ∃ r, prngReg c r) ⊢ (dat2 c Vv).Φ 0 from .rfl)
  isplitl [Hs] <;> iassumption
theorem leave2 (c : Dev nD) (Vv : Valuation τ sig (Elt F)) : (dat2 c Vv).Φ (Fin.last cfg2.N) ⊢ iprop((∃ r, prngReg c r) ∗ Pipeline.scopedRest spec2 c) := by
  refine (show (dat2 c Vv).Φ (Fin.last cfg2.N) ⊢ _ from Phi2_any c Vv cfg2.N le_rfl).trans ?_
  iintro ⟨Hs, Hg⟩
  isplitl [Hg]; · iexact Hg
  iapply (scoped2_states c).2
  iexact Hs

/-- The attention's call as a segment. -/
def region2 (V V' : Dev nD → Valuation τ sig (Elt F)) : Pipeline.RegionSeg (pcfgs (F := F)) adm (dats V V') none (defs₀ (F := F)) Variants.none (K (F := F)).L (K (F := F)).lev 1 :=
  region 1 V V' V' (fun c => after2 c (V' c)) launch2.win.to₀ sharedIn2 launch2.block_pos launch2.arr_whole launch2.stage_whole
    (fun c => obligation2 c (V' c)) (fun _ _ => rfl) (fun _ _ => rfl) (fun _ _ => rfl) (fun _ _ => rfl) (fun c w => arrs2 c (V' c) w)
    (fun c b h => after2_ne c (V' c) (fun e => h 6 (Proc.devRef_injective _ e)))
    (fun c => enter2 c (V' c)) (fun c => leave2 c (V' c))

end Cert.Proof.GatherI

end
-- ==== Proof.LaunchI.lean ====
/-
  The whole program's run: the host code's index array, padded table and padded weights, the SparseCore call on them, the
  recurrences' call, the attention's, and what the program's arrays hold at its end.
-/
module

public import proofs.«01_k».proof.Proof.RegionsI
public import Idealize.ShloMosaic.Lib.Pipeline.Frame
public import Idealize.ShloMosaic.Lib.StableHlo.RunRead
public import Idealize.ShloMosaic.PureOps.Reduce
public import proofs.«01_k».proof.Proof.Gen.Pre_in_range

@[expose] public section

noncomputable section

namespace Cert.Proof.GatherI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "iV" => (Memref.whole Cert.KernelIdeal.main_v1_scv : Memref Cert.KernelIdeal.sig Kind.scVector Space.hbm Cert.KernelIdeal.S204800 EltTy.i32)
local notation "xV" => (Memref.whole Cert.KernelIdeal.main_v2_scv : Memref Cert.KernelIdeal.sig Kind.scVector Space.hbm Cert.KernelIdeal.S20000x128 EltTy.f32)
local notation "oV" => (Memref.whole Cert.KernelIdeal.main_v5_scv : Memref Cert.KernelIdeal.sig Kind.scVector Space.hbm Cert.KernelIdeal.S204800x128 EltTy.f32)
local notation "sV" => (Memref.whole Cert.KernelIdeal.cc0_scratch0 : Memref Cert.KernelIdeal.sig Kind.scVector Space.vmem Cert.KernelIdeal.S6400 EltTy.i32)
local notation "aV" => (Memref.whole Cert.KernelIdeal.cc0_scratch1 : Memref Cert.KernelIdeal.sig Kind.scVector Space.vmem Cert.KernelIdeal.S400x128 EltTy.f32)
local notation "bV" => (Memref.whole Cert.KernelIdeal.cc0_scratch2 : Memref Cert.KernelIdeal.sig Kind.scVector Space.vmem Cert.KernelIdeal.S400x128 EltTy.f32)

section Call

variable (ic : (d : Dev nD) → Buf (Elt F) (iLoc d)) (xc : (d : Dev nD) → Buf (Elt F) (xLoc d)) (oc : (d : Dev nD) → Buf (Elt F) (oLoc d))

/-! ## The call's obligation -/

/-- The grid point of subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s) xV (Memref.isWhole_whole _) iV (Memref.isWhole_whole _) oV (Memref.isWhole_whole _)
            sV (Memref.isWhole_whole _) aV (Memref.isWhole_whole _) bV (Memref.isWhole_whole _) cc0_scratch3 cc0_scratch4
            cc0_scoped0 cc0_scoped1 cc0_scoped2 cc0_scoped3 cc0_scoped4 cc0_scoped5 cc0_scoped6 cc0_scoped7 cc0_scoped8
            cc0_scoped9 cc0_scoped10 cc0_scoped11 cc0_scoped12 cc0_scoped13 cc0_scoped14 cc0_scoped15 cc0_scoped16) ⟨⟩ c s := rfl

omit [FloatOps F] in
/-- A task's postcondition, weakened to the form the call's obligation asks for. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every task of the call runs from what it is handed to what it hands back. -/
theorem tileObl (hF : (K (F := F)).Facts) (hpre : PreOK ic) : (K (F := F)).TileObl (D (F := F)) 𝒱 (P ic xc oc) v₀ 0 := by
  intro d c i O W hO _ _
  simp only [show (P ic xc oc).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body ic xc oc d (coordsV ⟨_, hci.1⟩ ⟨_, hci.2⟩) hF hpre O W hO).trans (wp_mono frame _ _ fun _ => obl_post)

/-! ## The arrays dealt to the tasks and collected from them -/

omit [FloatOps F] in
theorem iRowSet_eq (w : Fin 32) : iRowSet w = (irow w).set := by
  show ((View.whole (main_v1_scv : Ref sig .scVector)).slice (irow w)).set = _
  rw [View.set_slice]; exact Finset.map_refl
omit [FloatOps F] in
theorem oRowSet_eq (k : Fin 512) : oRowSet k = (orow k).set := by
  show ((View.whole (main_v5_scv : Ref sig .scVector)).slice (orow k)).set = _
  rw [View.set_slice]; exact Finset.map_refl

/-- The tasks, by SparseCore and subcore. -/
def widE : Fin 2 × Fin 16 ≃ Fin 32 where
  toFun x := wid x.1 x.2
  invFun w := (⟨w.val % 2, by omega⟩, ⟨w.val / 2, by omega⟩)
  left_inv x := by
    refine Prod.ext (Fin.ext ?_) (Fin.ext ?_)
    · show (2 * x.2.val + x.1.val) % 2 = x.1.val; omega
    · show (2 * x.2.val + x.1.val) / 2 = x.2.val; omega
  right_inv w := Fin.ext (show 2 * (w.val / 2) + w.val % 2 = w.val by omega)

/-- The chunks of the result, by task and number in the task. -/
def chkE : Fin 32 × Fin 16 ≃ Fin 512 where
  toFun x := chk x.1 x.2
  invFun k := (⟨k.val / 16, by omega⟩, ⟨k.val % 16, by omega⟩)
  left_inv x := by
    refine Prod.ext (Fin.ext ?_) (Fin.ext ?_)
    · show (16 * x.1.val + x.2.val) / 16 = x.1.val; omega
    · show (16 * x.1.val + x.2.val) % 16 = x.2.val; omega
  right_inv k := Fin.ext (show 16 * (k.val / 16) + k.val % 16 = k.val by omega)

/-- The tasks of the two SparseCores are the thirty-two tasks. -/
theorem bigSep_wid (Φ : Fin 32 → sProp 𝕄) :
    (bigSep Finset.univ fun c : Fin ((K (F := F)).nCore 0) => bigSep Finset.univ fun i : Fin 16 => Φ (wid (Fin.cast nCore_zero c) i)) = bigSep Finset.univ Φ := by
  rw [bigSep_univ_equiv widE Φ, bigSep_univ_prod]
  exact bigSep_congr fun _ _ => rfl

omit [FloatOps F] in
/-- The index array whole is its thirty-two blocks. -/
theorem iPts_rows (d : Dev nD) (f : Buf (Elt F) (iLoc d)) :
    (iLoc d ↦{fullShare} f : sProp 𝕄) = bigSep Finset.univ fun w : Fin 32 => iLoc d ↦[iRowSet w]{fullShare} f := by
  rw [← pointsTo_biUnion Finset.univ (ℓ := iLoc d) iRowSet (fun i _ j _ h => by rw [iRowSet_eq, iRowSet_eq]; exact Rect.part_disjoint idiv h),
    show (Finset.univ : Finset (Fin 32)).biUnion iRowSet = Finset.univ from (Finset.biUnion_congr rfl fun i _ => iRowSet_eq i).trans (Rect.biUnion_part idiv)]
  try rfl

omit [FloatOps F] in
/-- The result whole is the sixteen chunks of every task. -/
theorem oPts_rows (d : Dev nD) (f : Buf (Elt F) (oLoc d)) :
    (oLoc d ↦{fullShare} f : sProp 𝕄) = bigSep Finset.univ fun w : Fin 32 => bigSep Finset.univ fun r : Fin 16 => oLoc d ↦[oRowSet (chk w r)]{fullShare} f := by
  rw [show (bigSep Finset.univ fun w : Fin 32 => bigSep Finset.univ fun r : Fin 16 => (oLoc d ↦[oRowSet (chk w r)]{fullShare} f : sProp 𝕄))
      = bigSep Finset.univ fun k : Fin 512 => (oLoc d ↦[oRowSet k]{fullShare} f : sProp 𝕄) by
    rw [bigSep_univ_equiv chkE (fun k : Fin 512 => (oLoc d ↦[oRowSet k]{fullShare} f : sProp 𝕄)), bigSep_univ_prod]; rfl]
  rw [← pointsTo_biUnion Finset.univ (ℓ := oLoc d) oRowSet (fun i _ j _ h => by rw [oRowSet_eq, oRowSet_eq]; exact Rect.part_disjoint odiv h),
    show (Finset.univ : Finset (Fin 512)).biUnion oRowSet = Finset.univ from (Finset.biUnion_congr rfl fun i _ => oRowSet_eq i).trans (Rect.biUnion_part odiv)]
  try rfl

omit [FloatOps F] in
/-- The table whole is the tasks' shares of it. -/
theorem xPts_shares (d : Dev nD) (f : Buf (Elt F) (xLoc d)) :
    (xLoc d ↦{fullShare} f : sProp 𝕄) = bigSep Finset.univ fun w : Fin 32 => xLoc d ↦{xq w} f :=
  pointsTo_piecesOf Finset.univ f (by decide) fullShare

/-- What the call takes: the three arrays whole. -/
theorem st0_eq (d : Dev nD) : (bigSep Finset.univ fun c : Fin ((K (F := F)).nCore 0) => (P ic xc oc).st 0 d c)
    = iprop((iLoc d ↦{fullShare} ic d) ∗ (xLoc d ↦{fullShare} xc d) ∗ (oLoc d ↦{fullShare} oc d)) := by
  show (bigSep Finset.univ fun c : Fin ((K (F := F)).nCore 0) => bigSep Finset.univ fun i : Fin 16 => goPts ic xc oc d (wid (Fin.cast nCore_zero c) i)) = _
  rw [bigSep_wid (fun w => goPts ic xc oc d w), bigSep_sep', bigSep_sep', iPts_rows, xPts_shares, oPts_rows]

/-- What the call brings back: the three arrays whole, the result at the gathered rows. -/
theorem dn0_eq (d : Dev nD) : (bigSep Finset.univ fun c : Fin ((K (F := F)).nCore 0) => (P ic xc oc).dn 0 d c)
    = iprop((iLoc d ↦{fullShare} ic d) ∗ (xLoc d ↦{fullShare} xc d) ∗ (oLoc d ↦{fullShare} gat ic xc d)) := by
  show (bigSep Finset.univ fun c : Fin ((K (F := F)).nCore 0) => bigSep Finset.univ fun i : Fin 16 => tdPts ic xc d (wid (Fin.cast nCore_zero c) i)) = _
  rw [bigSep_wid (fun w => tdPts ic xc d w), bigSep_sep', bigSep_sep', iPts_rows, xPts_shares, oPts_rows]

/-! ## The launch element of the ghost state -/

/-- The pipelines' ghost state lands in the second part. -/
abbrev EP : Emb UP 𝕄 := (Emb.inl : Emb UP (UP × Counters)).trans embR

theorem phinj : Function.Injective (Pipeline.cellOf (nD := nD) (τ := τ) (Pipeline.pin pcfgs (adm (F := F)))) := cellOf_inj

omit [FloatOps F] in
theorem bigSep_two (Φ : Fin 2 → sProp 𝕄) : bigSep Finset.univ Φ = iprop(Φ 0 ∗ Φ 1) := BI.bigSep_fin_two Φ

/-- What the two pipelines start from, on one device. -/
def G (d : Dev nD) : sProp 𝕄 :=
  iprop((bigSep Finset.univ fun p => Pipeline.cellsGhost (Pipeline.pin pcfgs (adm (F := F))) EP p d) ∗ bigSep Finset.univ fun p => Pipeline.toksInit (Pipeline.pin pcfgs (adm (F := F))) EP p d)

def u₀ : UU := (initOf (K (F := F)).hsCells (K (F := F)).hsToks,
  (initOf (Pipeline.cells (Pipeline.pin pcfgs (adm (F := F))) phinj) (Pipeline.launchToks (Pipeline.pin pcfgs (adm (F := F))) phinj), 1))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P ic xc oc).x q thr) := by
  unfold u₀
  iintro Hu
  ihave H := (ownU_pair (initOf (K (F := F)).hsCells (K (F := F)).hsToks)
    (initOf (Pipeline.cells (Pipeline.pin pcfgs (adm (F := F))) phinj) (Pipeline.launchToks (Pipeline.pin pcfgs (adm (F := F))) phinj), (1 : Counters))) $$ Hu
  icases H with ⟨HH, HR⟩
  ihave HR := (own_pair_emb embR (initOf (Pipeline.cells (Pipeline.pin pcfgs (adm (F := F))) phinj) (Pipeline.launchToks (Pipeline.pin pcfgs (adm (F := F))) phinj)) (1 : Counters)) $$ HR
  icases HR with ⟨HP, -⟩
  imod (Pipeline.fund_ghost (Pipeline.pin pcfgs (adm (F := F))) EP phinj) $$ HP with ⟨Hg, Ht⟩
  imodintro
  isplitl [HH]; · iexact HH
  isplitl [Hg Ht]
  · unfold G; rw [bigSep_sep']; isplitl [Hg] <;> iassumption
  rw [show (bigSep Finset.univ fun thr : Thread nD τ => bigSep Finset.univ fun q : Fin 1 => (P ic xc oc).x q thr) = bigSep Finset.univ fun _ => iprop(emp) from
    bigSep_congr fun _ _ => bigSep_univ_of_subsingleton (0 : Fin 1), bigSep_emp']
  iempintro

end Call

/-! ## @main on the TensorCore -/

/-- The host operations before the SparseCore call: the indices transposed and flattened, the table and two of the weights padded. -/
def ops₀ : List (HloOp τ sig (Elt F)) :=
  [StableHlo.unary main_arg0 main_v0 ((transpose S200x1024 [1, 0] · transposes_S1024x200_S200x1024_1_0) : (⟨S1024x200, .i32⟩ : BufTy).Contents (Elt F) → (⟨S200x1024, .i32⟩ : BufTy).Contents (Elt F)),
   StableHlo.reshape main_v0 main_v1 (rfl : (.i32 : EltTy) = .i32) shapeCasts_S200x1024_S204800,
   StableHlo.nullary main_c (constantI S_ 32 0#32),
   StableHlo.TRef.unary (.of main_c : StableHlo.TRef sig ⟨S_, .i32⟩) main_call0.v0 (sitofp .f32),
   StableHlo.TRef.binary (.of main_arg1 : StableHlo.TRef sig ⟨S20000x64, .f32⟩) main_call0.v0 main_call0.v1 (fun x v => pad S20000x128 ![0, 0] ![0, 64] ![0, 0] x v pads_S20000x64_S20000x128_000_0640 h_S_),
   StableHlo.nullary main_c_0 (constantI S_ 32 0#32),
   StableHlo.TRef.unary (.of main_c_0 : StableHlo.TRef sig ⟨S_, .i32⟩) main_call1.v0 (sitofp .f32),
   StableHlo.TRef.binary (.of main_arg2 : StableHlo.TRef sig ⟨S64x512, .f32⟩) main_call1.v0 main_call1.v1 (fun x v => pad S128x512 ![0, 0] ![64, 0] ![0, 0] x v pads_S64x512_S128x512_0640_000 h_S_),
   StableHlo.nullary main_c_1 (constantI S_ 32 0#32),
   StableHlo.TRef.unary (.of main_c_1 : StableHlo.TRef sig ⟨S_, .i32⟩) main_call2.v0 (sitofp .f32),
   StableHlo.TRef.binary (.of main_arg5 : StableHlo.TRef sig ⟨S64x512, .f32⟩) main_call2.v0 main_call2.v1 (fun x v => pad S128x512 ![0, 0] ![64, 0] ![0, 0] x v pads_S64x512_S128x512_0640_000 h_S_)]

/-- Those between it and the recurrences' call. -/
def ops₁ : List (HloOp τ sig (Elt F)) :=
  [StableHlo.reshape main_v5 main_v6 (rfl : (.f32 : EltTy) = .f32) shapeCasts_S204800x128_S200x1024x128,
   StableHlo.reshape main_arg4 main_v7 (rfl : (.f32 : EltTy) = .f32) shapeCasts_S512_S1x512,
   StableHlo.reshape main_arg7 main_v8 (rfl : (.f32 : EltTy) = .f32) shapeCasts_S512_S1x512]

/-- The one between the two pipelined calls. -/
def ops₂ : List (HloOp τ sig (Elt F)) := [StableHlo.reshape main_arg10 main_v10 (rfl : (.f32 : EltTy) = .f32) shapeCasts_S2_S1x2]

theorem ops₀_sub : ∀ op ∈ (ops₀ : List (HloOp τ sig (Elt F))), op.bufs ⊆ Pipeline.ucRefs τ sig := fun op ho => Pipeline.sub_ucRefs op (by
  revert op
  refine List.forall_iff_forall_mem.mp ?_
  exact ⟨StableHlo.unary_bufs_sub .., StableHlo.reshape_bufs_sub .., StableHlo.nullary_bufs_sub .., StableHlo.unary_bufs_sub .., StableHlo.binary_bufs_sub ..,
    StableHlo.nullary_bufs_sub .., StableHlo.unary_bufs_sub .., StableHlo.binary_bufs_sub .., StableHlo.nullary_bufs_sub .., StableHlo.unary_bufs_sub .., StableHlo.binary_bufs_sub ..⟩)
theorem ops₀_fresh : ∀ op ∈ (ops₀ : List (HloOp τ sig (Elt F))), op.fresh = ∅ :=
  List.forall_iff_forall_mem.mp ⟨rfl, rfl, rfl, rfl, rfl, rfl, rfl, rfl, rfl, rfl, rfl⟩
theorem ops₁_sub : ∀ op ∈ (ops₁ : List (HloOp τ sig (Elt F))), op.bufs ⊆ Pipeline.ucRefs τ sig := fun op ho => Pipeline.sub_ucRefs op (by
  revert op
  refine List.forall_iff_forall_mem.mp ?_
  exact ⟨StableHlo.reshape_bufs_sub .., StableHlo.reshape_bufs_sub .., StableHlo.reshape_bufs_sub ..⟩)
theorem ops₁_fresh : ∀ op ∈ (ops₁ : List (HloOp τ sig (Elt F))), op.fresh = ∅ := List.forall_iff_forall_mem.mp ⟨rfl, rfl, rfl⟩
theorem ops₂_sub : ∀ op ∈ (ops₂ : List (HloOp τ sig (Elt F))), op.bufs ⊆ Pipeline.ucRefs τ sig := fun op ho => Pipeline.sub_ucRefs op (by
  rw [List.mem_singleton.mp ho]; exact StableHlo.reshape_bufs_sub ..)
theorem ops₂_fresh : ∀ op ∈ (ops₂ : List (HloOp τ sig (Elt F))), op.fresh = ∅ := fun op ho => by rw [List.mem_singleton.mp ho]; rfl

/-- A pipelined call in @main. -/
def callP (p : Fin 2) : Prog (TpuEff nD τ sig (Elt F) (SparseCore.Sig (Pipeline.Sig Λ₀ (Fin 2) fun p => (pcfgs (F := F) p).Adm) 1) .tc) PUnit :=
  Prog.lift (.customCall (SparseCore.inner (Pipeline.entry p)) ())

/-- @main is host operations, the SparseCore call, host operations, the recurrences' call, a host operation and the attention's call. -/
theorem main_eq (d : Dev nD) : main (F := F) d = StableHlo.seq ops₀ >>= fun _ => (K (F := F)).run d 0 >>= fun _ => StableHlo.seq ops₁ >>= fun _ =>
    callP 0 >>= fun _ => StableHlo.seq ops₂ >>= fun _ => callP 1 >>= fun _ => pure ⟨⟩ := by
  simp only [main, fn_pad.body, fn_pad_0.body, ops₀, ops₁, ops₂, callP, StableHlo.seq, bind_assoc, pure_bind]

variable (m : (ℓ : Loc nD τ sig) → Buf (Elt F) ℓ) (ρ : Dev nD → PrngReg)

/-- What the arrays hold when the SparseCore call begins. -/
def V₀ (d : Dev nD) : Valuation τ sig (Elt F) := StableHlo.after ops₀ (fun b => m (d, b))
def ic (d : Dev nD) : Buf (Elt F) (iLoc d) := V₀ m d (Proc.devRef .tc main_v1)
def xc (d : Dev nD) : Buf (Elt F) (xLoc d) := V₀ m d (Proc.devRef .tc main_v2)
def oc (d : Dev nD) : Buf (Elt F) (oLoc d) := V₀ m d (Proc.devRef .tc main_v5)
/-- What they hold at its end: the result at the gathered rows. -/
def V₁ (d : Dev nD) : Valuation τ sig (Elt F) := Function.update (V₀ m d) (Proc.devRef .tc main_v5) (gat (ic m) (xc m) d)
/-- Before the recurrences' call and after it, before the attention's and after it. -/
def V₂ (d : Dev nD) : Valuation τ sig (Elt F) := StableHlo.after ops₁ (V₁ m d)
def V₃ (d : Dev nD) : Valuation τ sig (Elt F) := after1 d (V₂ m d)
def V₄ (d : Dev nD) : Valuation τ sig (Elt F) := StableHlo.after ops₂ (V₃ m d)
def V₅ (d : Dev nD) : Valuation τ sig (Elt F) := after2 d (V₄ m d)

theorem V₁_same (d : Dev nD) : V₁ m d (Proc.devRef .tc main_v5) = gat (ic m) (xc m) d := Function.update_self ..
theorem V₁_ne (d : Dev nD) {b : DevRef τ sig} (h : b ≠ Proc.devRef .tc main_v5) : V₁ m d b = V₀ m d b := Function.update_of_ne h ..

/-- The three arrays the SparseCore call works on. -/
def callRefs : Finset (DevRef τ sig) := {Proc.devRef .tc main_v1, Proc.devRef .tc main_v2, Proc.devRef .tc main_v5}

theorem held_callRefs (d : Dev nD) (V : Valuation τ sig (Elt F)) : (StableHlo.held (T d) callRefs V : sProp 𝕄)
    = iprop((iLoc d ↦{fullShare} V (Proc.devRef .tc main_v1)) ∗ (xLoc d ↦{fullShare} V (Proc.devRef .tc main_v2)) ∗ (oLoc d ↦{fullShare} V (Proc.devRef .tc main_v5))) := by
  unfold StableHlo.held callRefs
  rw [SparseCore.bigSep_insert' (by decide), SparseCore.bigSep_insert' (by decide), bigSep_singleton]

theorem callRefs_sub : callRefs ⊆ Pipeline.ucRefs τ sig := by decide

abbrev FIN (d : Dev nD) : sProp 𝕄 := StableHlo.held (T d) (Pipeline.ucRefs τ sig) (V₅ m d)

/-- The other arrays are after the SparseCore call as they are when it begins. -/
theorem held_rest (d : Dev nD) : (StableHlo.held (T d) (Pipeline.ucRefs τ sig \ callRefs) (V₀ m d) : sProp 𝕄) = StableHlo.held (T d) (Pipeline.ucRefs τ sig \ callRefs) (V₁ m d) :=
  StableHlo.held_congr (T d) fun b hb => (V₁_ne m d fun e => by
    subst e; exact (Finset.mem_sdiff.mp hb).2 (by decide)).symm

/-- What @main is handed of the arrays, as one holding. -/
theorem launch_held (d : Dev nD) : (unscopedBufs d (fun b => m ((T d : Thread nD τ).loc b)) : sProp 𝕄) = StableHlo.held (T d) (Pipeline.ucRefs τ sig) (fun b => m (d, b)) := by
  have h := Pipeline.unscopedBufs_held (τ := τ) (sig := sig) (Val := Elt F) (Ix := HIx 1) (Name := ℕ) (U := UU) (Lvl := ℕ) d (fun b => m (d, b))
  exact h

/-- The handshake's part of the thread's state after the SparseCore call. -/
def tcTail (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some ((inferInstance : SparseCore.Cfg.Blocks 1 1).last q)) 1)))

/-- After the SparseCore call nothing is owed, and the waits so far are at or below the call's level. -/
theorem tcSt_end (d : Dev nD) : ((K (F := F)).tcSt EH d 1 : sProp 𝕄) = iprop((∃ W, ⌜(K (F := F)).WBelow (T d) W 8⌝ ∗ owes (T d) 0 W) ∗ tcTail d) := by
  unfold SparseCore.Cfg.tcSt tcTail
  rw [(K (F := F)).Otc_end d le_rfl]
  rfl

/-- A pipelined call runs from its segment's entry state to its exit state. -/
theorem wp_callP (p : Fin 2) (dts : (p : Fin 2) → (c : Dev nD) → Pipeline.Dat τ (Elt F) (HIx 1) ℕ UU ℕ (Pipeline.pin pcfgs (adm (F := F)) p) c)
    (R : Pipeline.RegionSeg (pcfgs (F := F)) adm dts none (defs₀ (F := F)) Variants.none (K (F := F)).L (K (F := F)).lev p) (d : Dev nD) (Φ : PUnit → sProp 𝕄) :
    iprop((iprop(boundary (T d) ∗ R.post d) -∗ Φ ⟨⟩) ∗ boundary (T d) ∗ R.pre d ∗ levAts (K (F := F)).L (K (F := F)).lev
        ∗ Pipeline.cellsGhost (Pipeline.pin pcfgs (adm (F := F))) EP p d ∗ Pipeline.toksInit (Pipeline.pin pcfgs (adm (F := F))) EP p d)
      ⊢ wp frame (wpE ((K (F := F)).defs (D (F := F))) 𝒱 (T d) none) Set.univ (callP p) Φ := by
  have h := Pipeline.RegionSeg.wp pcfgs adm dts none phinj EP (defs₀ (F := F)) Variants.none (K (F := F)).L (K (F := F)).lev R d none (fun _ h => nomatch h) (fun _ => .ret ⟨⟩) Φ
  refine BIBase.Entails.trans ?_ (BIBase.Entails.trans h ((K (F := F)).wp_liftProg (D (F := F)) 𝒱 (T d) Set.univ none (Prog.lift (.customCall (Pipeline.entry p) ())) Φ))
  rw [wp_ret]
  iintro ⟨Hk, Hr⟩
  isplitl [Hk]
  · iintro H
    imodintro
    iapply Hk; iexact H
  iexact Hr

/-- @main on device `d`'s TensorCore: every array is kept, at `V₅`. -/
theorem hmain (κ : GSem nD τ sig → ℕ) (d : Dev nD) :
    iprop((K (F := F)).ctx EH (P (ic m) (xc m) (oc m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd G
  rw [main_eq, launch_held, bigSep_two, bigSep_two]
  iintro ⟨#Hctx, Hst, ⟨Hb, Hh, Hts, Hg⟩, ⟨Hc0, Hc1⟩, Ht0, Ht1⟩
  ihave #Hlev := ((K (F := F)).ctx_levAts κ) $$ Hctx
  iapply (StableHlo.wp_seq 𝒱 none Set.univ d (Pipeline.ucRefs τ sig) _ ops₀ ops₀_sub ops₀_fresh (fun b => m (d, b))) $$ [Hb Hh]
  · isplitl [Hb] <;> iassumption
  iintro ⟨Hb, Hh⟩
  rw [wp_bind]
  ihave Hh := (Entails.of_eq (show (StableHlo.held (d.tc : Thread nD τ) (Pipeline.ucRefs τ sig) (StableHlo.after ops₀ (fun b => m (d, b))) : sProp 𝕄)
    = StableHlo.held (T d) (Pipeline.ucRefs τ sig) (V₀ m d) from rfl)) $$ Hh
  ihave Hh := (Entails.of_eq (StableHlo.held_sub_split (T d) callRefs_sub (V₀ m d))) $$ Hh
  icases Hh with ⟨Hc, Hr⟩
  ihave Hc := (Entails.of_eq (held_callRefs d (V₀ m d))) $$ Hc
  iapply ((K (F := F)).wp_run (D (F := F)) 𝒱 (EH := EH) (P := P (ic m) (xc m) (oc m)) κ d 0) $$ [Hst Hc Hr Hb Hts Hg Hc0 Hc1 Ht0 Ht1]
  isplitr; · iexact Hctx
  isplitl [Hst]; · iexact Hst
  isplitl [Hc]
  · rw [st0_eq]; iexact Hc
  iintro ⟨Hst, Hdn⟩
  ihave Hdn := (Entails.of_eq (dn0_eq (ic m) (xc m) (oc m) d)) $$ Hdn
  ihave Hst := (Entails.of_eq (show ((K (F := F)).tcSt EH d ((0 : Fin 1).val + 1) : sProp 𝕄) = _ from tcSt_end d)) $$ Hst
  icases Hst with ⟨HO, Htl⟩
  ihave Hh := (Entails.of_eq (show iprop(iprop((iLoc d ↦{fullShare} ic m d) ∗ (xLoc d ↦{fullShare} xc m d) ∗ (oLoc d ↦{fullShare} gat (ic m) (xc m) d))
      ∗ StableHlo.held (T d) (Pipeline.ucRefs τ sig \ callRefs) (V₀ m d)) = (StableHlo.held (T d) (Pipeline.ucRefs τ sig) (V₁ m d) : sProp 𝕄) from by
    rw [StableHlo.held_sub_split (T d) callRefs_sub (V₁ m d), held_callRefs, held_rest, V₁_same, V₁_ne m d (by decide), V₁_ne m d (by decide)]; rfl)) $$ [Hdn Hr]
  · isplitl [Hdn] <;> iassumption
  iapply (StableHlo.wp_seq 𝒱 none Set.univ d (Pipeline.ucRefs τ sig) _ ops₁ ops₁_sub ops₁_fresh (V₁ m d)) $$ [Hb Hh]
  · isplitl [Hb] <;> iassumption
  iintro ⟨Hb, Hh⟩
  rw [wp_bind]
  iapply (wp_callP 0 _ (region1 (V₂ m) (V₄ m)) d _)
  isplitr [Hb Hh HO Hg Hc0 Ht0]
  swap
  · isplitl [Hb]; · iexact Hb
    isplitl [Hh HO Hg]
    · iapply (show iprop(StableHlo.held (T d) (Pipeline.ucRefs τ sig) (V₂ m d) ∗ (∃ r, prngReg d r) ∗ ∃ W, ⌜(K (F := F)).WBelow (T d) W 8⌝ ∗ owes (T d) 0 W)
          ⊢ (region1 (V₂ m) (V₄ m)).pre d from .rfl)
      isplitl [Hh]; · iexact Hh
      isplitl [Hg]; · iexists _; iexact Hg
      iexact HO
    isplitr; · iexact Hlev
    isplitl [Hc0] <;> iassumption
  iintro ⟨Hb, Hp⟩
  ihave Hp := (show (region1 (V₂ m) (V₄ m)).post d ⊢ iprop(StableHlo.held (T d) (Pipeline.ucRefs τ sig) (V₃ m d) ∗ (∃ r, prngReg d r) ∗ ∃ W, ⌜(K (F := F)).WBelow (T d) W 8⌝ ∗ owes (T d) 0 W) from .rfl) $$ Hp
  icases Hp with ⟨Hh, Hg, HO⟩
  iapply (StableHlo.wp_seq 𝒱 none Set.univ d (Pipeline.ucRefs τ sig) _ ops₂ ops₂_sub ops₂_fresh (V₃ m d)) $$ [Hb Hh]
  · isplitl [Hb] <;> iassumption
  iintro ⟨Hb, Hh⟩
  rw [wp_bind]
  iapply (wp_callP 1 _ (region2 (V₂ m) (V₄ m)) d _)
  isplitr [Hb Hh HO Hg Hc1 Ht1]
  swap
  · isplitl [Hb]; · iexact Hb
    isplitl [Hh HO Hg]
    · iapply (show iprop(StableHlo.held (T d) (Pipeline.ucRefs τ sig) (V₄ m d) ∗ (∃ r, prngReg d r) ∗ ∃ W, ⌜(K (F := F)).WBelow (T d) W 8⌝ ∗ owes (T d) 0 W)
          ⊢ (region2 (V₂ m) (V₄ m)).pre d from .rfl)
      isplitl [Hh]; · iexact Hh
      isplitl [Hg]; · iexact Hg
      iexact HO
    isplitr; · iexact Hlev
    isplitl [Hc1] <;> iassumption
  iintro ⟨Hb, Hp⟩
  ihave Hp := (show (region2 (V₂ m) (V₄ m)).post d ⊢ iprop(StableHlo.held (T d) (Pipeline.ucRefs τ sig) (V₅ m d) ∗ (∃ r, prngReg d r) ∗ ∃ W, ⌜(K (F := F)).WBelow (T d) W 8⌝ ∗ owes (T d) 0 W) from .rfl) $$ Hp
  icases Hp with ⟨Hh, -, HO⟩
  rw [wp_pure]
  imodintro
  isplitl [HO Htl]
  · rw [tcSt_end]; isplitl [HO] <;> iassumption
  isplitl [Hh]; · iexact Hh
  isplitl [Hb] <;> iassumption

/-! ## The program's run -/

/-- What the arrays hold at the end, on one device. -/
def fq (d : Dev nD) (s' : Phys nD τ sig (Elt F)) : Prop := ∀ b ∈ Pipeline.ucRefs τ sig, s'.mem.mem (d, b) = V₅ m d b

theorem hfin (d : Dev nD) (s' : Phys nD τ sig (Elt F)) : iprop(FIN m d ∗ SI s') ⊢ (⌜fq m d s'⌝ : sProp 𝕄) := by
  iintro ⟨Hh, HSI⟩
  unfold FIN StableHlo.held
  ihave %h := (SI_pointsTo_bufs_agree (qs := fun _ => fullShare) (Pipeline.ucRefs τ sig)) $$ [HSI Hh]
  · isplitl [HSI]; · iexact HSI
    iexact Hh
  ipureintro; exact h

/-- Where a run ends: every array at `V₅`, every counter at zero. -/
def QC : PUnit × MemSt nD τ sig (Elt F) → Prop := fun r => (∀ d : Dev nD, ∀ b ∈ Pipeline.ucRefs τ sig, r.2.mem (d, b) = V₅ m d b) ∧ r.2.sem = fun _ => 0

/-- The program runs, and ends with every array at `V₅`. -/
theorem run_main [∀ e, Nonempty (Elt F e)] (hpre : PreOK (ic m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (ic m) (xc m) (oc m)) (A := ∅) facts v₀
    (fun q hq => match q with | 0 => nomatch hq)
    (fun q _ => match q with | 0 => tileObl (ic m) (xc m) (oc m) facts hpre)
    (fun q _ => match q with | 0 => SparseCore.Cfg.VecSplit.of_plain (vecSplit (ic m) (xc m) (oc m)))
    m ρ main (fun d => G d) (FIN m) (u₀ (F := F)) (sep_elim_left.trans (hu₀ (ic m) (xc m) (oc m))) (hmain m ρ) (fq m) (hfin m) (QC m) (fun _ h hz => ⟨h, hz⟩)

/-! ## The arrays at the call, as the host code computes them -/

/-- The index array at the call: the indices transposed and flattened. -/
theorem ic_eq (d : Dev nD) : ic m d = shapeCast S204800 (transpose S200x1024 [1, 0] (m ((T d : Thread nD τ).loc main_arg0)) transposes_S1024x200_S200x1024_1_0) shapeCasts_S200x1024_S204800 := by
  unfold ic V₀
  after_reads_simp
  rfl

/-- The table at the call: the table padded with zeros. -/
theorem xc_eq (d : Dev nD) : xc m d = pad S20000x128 ![0, 0] ![0, 64] ![0, 0] (m ((T d : Thread nD τ).loc main_arg1)) (sitofp .f32 (constantI S_ 32 0#32)) pads_S20000x64_S20000x128_000_0640 h_S_ := by
  unfold xc V₀
  after_reads_simp
  rfl

/-! ## The precondition, and the claims -/

theorem andi_one {p q : BitVec 1} (h : IntOp.andi p q = 1#1) : p = 1#1 ∧ q = 1#1 := by
  revert p q; decide

/-- A conjunction over a list that comes out one started at one and met ones only. -/
theorem foldl_andi_one (l : List (BitVec 1)) : ∀ v : BitVec 1, l.foldl IntOp.andi v = 1#1 → v = 1#1 ∧ ∀ x ∈ l, x = 1#1 := by
  induction l with
  | nil => intro v h; exact ⟨h, fun x hx => absurd hx (List.not_mem_nil)⟩
  | cons a l ih =>
    intro v h
    obtain ⟨h1, h2⟩ := ih _ h
    obtain ⟨h3, h4⟩ := andi_one h1
    exact ⟨h3, fun x hx => (List.mem_cons.mp hx).elim (fun e => e ▸ h4) (h2 x)⟩

/-- Where both comparisons hold of a word read as signed, its value is below the bound. -/
theorem lt_of_compares {v : BitVec 32} (h : IntOp.andi (IntOp.cmpi .sge v 0#32) (IntOp.cmpi .slt v 20000#32) = 1#1) : v.toNat < 20000 := by
  obtain ⟨h1, h2⟩ := andi_one h
  have e (p : Bool) : (BitVec.ofBool p = 1#1) ↔ p = true := by cases p <;> decide
  simp only [IntOp.cmpi, e, BitVec.sle_eq_decide, BitVec.slt_eq_decide, decide_eq_true_eq, BitVec.toInt_eq_toNat_cond,
    BitVec.toNat_ofNat, Nat.reducePow, Nat.reduceMod] at h1 h2
  omega

/-- The precondition says of each index that it is below the table's height. -/
theorem lt_of_pre (x : IVec S1024x200 32) (a1 : FVec F S20000x64 .f32) (a2 : FVec F S64x512 .f32) (a3 : FVec F S128x512 .f32) (a4 : FVec F S512 .f32) (a5 : FVec F S64x512 .f32) (a6 : FVec F S128x512 .f32) (a7 : FVec F S512 .f32) (a8 : FVec F S512x128 .f32) (a9 : FVec F S128x2 .f32) (a10 : FVec F S2 .f32)
    (h : Cert.Pre_in_range.fn (F := F) x a1 a2 a3 a4 a5 a6 a7 a8 a9 a10 = fun _ => 1#1)
    (i : S1024x200.Idx) : (x i).toNat < 20000 := by
  have e := congrFun h (Shape.Idx.first Cert.Pre_in_range.Facts.h_S_)
  unfold Cert.Pre_in_range.fn at e
  dsimp only at e
  rw [Host.reduce_eq_foldl, ← List.foldl_map] at e
  have hm := (foldl_andi_one _ _ e).2 _ (List.mem_map_of_mem (List.mem_filter.mpr
    ⟨List.mem_map_of_mem (a := S1024x200.rowMajor i) (List.mem_finRange _), decide_eq_true (funext fun b => b.elim0)⟩))
  rw [Equiv.symm_apply_apply] at hm
  exact lt_of_compares hm

/-- Under the precondition every index the call is handed is below the table's height. -/
theorem preOK (h : ∀ d, Cert.Pre_in_range.fn (F := F) (m ((T d : Thread nD τ).loc main_arg0)) (m ((T d : Thread nD τ).loc main_arg1)) (m ((T d : Thread nD τ).loc main_arg2)) (m ((T d : Thread nD τ).loc main_arg3)) (m ((T d : Thread nD τ).loc main_arg4)) (m ((T d : Thread nD τ).loc main_arg5)) (m ((T d : Thread nD τ).loc main_arg6)) (m ((T d : Thread nD τ).loc main_arg7)) (m ((T d : Thread nD τ).loc main_arg8)) (m ((T d : Thread nD τ).loc main_arg9)) (m ((T d : Thread nD τ).loc main_arg10)) = fun _ => 1#1) :
    PreOK (ic m) := fun d j => by
  rw [ic_eq]
  exact lt_of_pre _ _ _ _ _ _ _ _ _ _ _ (h d) _

/-- An array no operation writes is at the end as it was at the start. -/
theorem kept (d : Dev nD) (b : Ref sig .tc) (h5 : Proc.devRef .tc b ≠ (Proc.devRef .tc main_v11 : DevRef τ sig)) (h4 : StableHlo.after ops₂ (V₃ m d) (Proc.devRef .tc b) = V₃ m d (Proc.devRef .tc b))
    (h30 : Proc.devRef .tc b ≠ (Proc.devRef .tc main_v9_0 : DevRef τ sig)) (h31 : Proc.devRef .tc b ≠ (Proc.devRef .tc main_v9_1 : DevRef τ sig)) (h32 : Proc.devRef .tc b ≠ (Proc.devRef .tc main_v9_2 : DevRef τ sig))
    (h2 : StableHlo.after ops₁ (V₁ m d) (Proc.devRef .tc b) = V₁ m d (Proc.devRef .tc b)) (h1 : Proc.devRef .tc b ≠ (Proc.devRef .tc main_v5 : DevRef τ sig))
    (h0 : StableHlo.after ops₀ (fun b => m (d, b)) (Proc.devRef .tc b) = m ((T d : Thread nD τ).loc b)) : V₅ m d (Proc.devRef .tc b) = m ((T d : Thread nD τ).loc b) :=
  (after2_ne d _ h5).trans (h4.trans ((after1_ne d _ h30 h31 h32).trans (h2.trans ((V₁_ne m d h1).trans h0))))

theorem arg0_kept (d : Dev nD) : V₅ m d (Proc.devRef .tc main_arg0) = m ((T d : Thread nD τ).loc main_arg0) :=
  kept m d main_arg0 (by decide) (by unfold ops₂; after_reads_simp) (by decide) (by decide) (by decide) (by unfold ops₁; after_reads_simp) (by decide) (by unfold ops₀; after_reads_simp)
theorem arg1_kept (d : Dev nD) : V₅ m d (Proc.devRef .tc main_arg1) = m ((T d : Thread nD τ).loc main_arg1) :=
  kept m d main_arg1 (by decide) (by unfold ops₂; after_reads_simp) (by decide) (by decide) (by decide) (by unfold ops₁; after_reads_simp) (by decide) (by unfold ops₀; after_reads_simp)
theorem arg2_kept (d : Dev nD) : V₅ m d (Proc.devRef .tc main_arg2) = m ((T d : Thread nD τ).loc main_arg2) :=
  kept m d main_arg2 (by decide) (by unfold ops₂; after_reads_simp) (by decide) (by decide) (by decide) (by unfold ops₁; after_reads_simp) (by decide) (by unfold ops₀; after_reads_simp)
theorem arg3_kept (d : Dev nD) : V₅ m d (Proc.devRef .tc main_arg3) = m ((T d : Thread nD τ).loc main_arg3) :=
  kept m d main_arg3 (by decide) (by unfold ops₂; after_reads_simp) (by decide) (by decide) (by decide) (by unfold ops₁; after_reads_simp) (by decide) (by unfold ops₀; after_reads_simp)
theorem arg4_kept (d : Dev nD) : V₅ m d (Proc.devRef .tc main_arg4) = m ((T d : Thread nD τ).loc main_arg4) :=
  kept m d main_arg4 (by decide) (by unfold ops₂; after_reads_simp) (by decide) (by decide) (by decide) (by unfold ops₁; after_reads_simp) (by decide) (by unfold ops₀; after_reads_simp)
theorem arg5_kept (d : Dev nD) : V₅ m d (Proc.devRef .tc main_arg5) = m ((T d : Thread nD τ).loc main_arg5) :=
  kept m d main_arg5 (by decide) (by unfold ops₂; after_reads_simp) (by decide) (by decide) (by decide) (by unfold ops₁; after_reads_simp) (by decide) (by unfold ops₀; after_reads_simp)
theorem arg6_kept (d : Dev nD) : V₅ m d (Proc.devRef .tc main_arg6) = m ((T d : Thread nD τ).loc main_arg6) :=
  kept m d main_arg6 (by decide) (by unfold ops₂; after_reads_simp) (by decide) (by decide) (by decide) (by unfold ops₁; after_reads_simp) (by decide) (by unfold ops₀; after_reads_simp)
theorem arg7_kept (d : Dev nD) : V₅ m d (Proc.devRef .tc main_arg7) = m ((T d : Thread nD τ).loc main_arg7) :=
  kept m d main_arg7 (by decide) (by unfold ops₂; after_reads_simp) (by decide) (by decide) (by decide) (by unfold ops₁; after_reads_simp) (by decide) (by unfold ops₀; after_reads_simp)
theorem arg8_kept (d : Dev nD) : V₅ m d (Proc.devRef .tc main_arg8) = m ((T d : Thread nD τ).loc main_arg8) :=
  kept m d main_arg8 (by decide) (by unfold ops₂; after_reads_simp) (by decide) (by decide) (by decide) (by unfold ops₁; after_reads_simp) (by decide) (by unfold ops₀; after_reads_simp)
theorem arg9_kept (d : Dev nD) : V₅ m d (Proc.devRef .tc main_arg9) = m ((T d : Thread nD τ).loc main_arg9) :=
  kept m d main_arg9 (by decide) (by unfold ops₂; after_reads_simp) (by decide) (by decide) (by decide) (by unfold ops₁; after_reads_simp) (by decide) (by unfold ops₀; after_reads_simp)
theorem arg10_kept (d : Dev nD) : V₅ m d (Proc.devRef .tc main_arg10) = m ((T d : Thread nD τ).loc main_arg10) :=
  kept m d main_arg10 (by decide) (by unfold ops₂; after_reads_simp) (by decide) (by decide) (by decide) (by unfold ops₁; after_reads_simp) (by decide) (by unfold ops₀; after_reads_simp)

/-- The kernel runs, its result what the attention's call leaves, its arguments kept, every counter back at zero. -/
theorem run_value [∀ e, Nonempty (Elt F e)]
    (h : ∀ d, Cert.Pre_in_range.fn (F := F) (m ((T d : Thread nD τ).loc main_arg0)) (m ((T d : Thread nD τ).loc main_arg1)) (m ((T d : Thread nD τ).loc main_arg2)) (m ((T d : Thread nD τ).loc main_arg3)) (m ((T d : Thread nD τ).loc main_arg4)) (m ((T d : Thread nD τ).loc main_arg5)) (m ((T d : Thread nD τ).loc main_arg6)) (m ((T d : Thread nD τ).loc main_arg7)) (m ((T d : Thread nD τ).loc main_arg8)) (m ((T d : Thread nD τ).loc main_arg9)) (m ((T d : Thread nD τ).loc main_arg10)) = fun _ => 1#1) :
    θ_run (Cert.KernelIdeal.defs (F := F)) (Cert.KernelIdeal.threads (F := F)) ⟨m, fun _ => 0, ρ⟩ (fun r => (∀ d : Dev nD,
      r.2.mem ((T d : Thread nD τ).loc main_v11) = (dat2 d (V₄ m d)).arrAt 6 cfg2.N
      ∧ r.2.mem ((T d : Thread nD τ).loc main_arg0) = m ((T d : Thread nD τ).loc main_arg0)
      ∧ r.2.mem ((T d : Thread nD τ).loc main_arg1) = m ((T d : Thread nD τ).loc main_arg1)
      ∧ r.2.mem ((T d : Thread nD τ).loc main_arg2) = m ((T d : Thread nD τ).loc main_arg2)
      ∧ r.2.mem ((T d : Thread nD τ).loc main_arg3) = m ((T d : Thread nD τ).loc main_arg3)
      ∧ r.2.mem ((T d : Thread nD τ).loc main_arg4) = m ((T d : Thread nD τ).loc main_arg4)
      ∧ r.2.mem ((T d : Thread nD τ).loc main_arg5) = m ((T d : Thread nD τ).loc main_arg5)
      ∧ r.2.mem ((T d : Thread nD τ).loc main_arg6) = m ((T d : Thread nD τ).loc main_arg6)
      ∧ r.2.mem ((T d : Thread nD τ).loc main_arg7) = m ((T d : Thread nD τ).loc main_arg7)
      ∧ r.2.mem ((T d : Thread nD τ).loc main_arg8) = m ((T d : Thread nD τ).loc main_arg8)
      ∧ r.2.mem ((T d : Thread nD τ).loc main_arg9) = m ((T d : Thread nD τ).loc main_arg9)
      ∧ r.2.mem ((T d : Thread nD τ).loc main_arg10) = m ((T d : Thread nD τ).loc main_arg10)) ∧ r.2.sem = fun _ => 0) :=
  (θ_run Cert.KernelIdeal.defs _ _).mono (fun r hr => ⟨fun d =>
    ⟨(hr.1 d (Proc.devRef .tc main_v11) (by decide)).trans (after2_0 d (V₄ m d)),
      (hr.1 d (Proc.devRef .tc main_arg0) (by decide)).trans (arg0_kept m d),
      (hr.1 d (Proc.devRef .tc main_arg1) (by decide)).trans (arg1_kept m d),
      (hr.1 d (Proc.devRef .tc main_arg2) (by decide)).trans (arg2_kept m d),
      (hr.1 d (Proc.devRef .tc main_arg3) (by decide)).trans (arg3_kept m d),
      (hr.1 d (Proc.devRef .tc main_arg4) (by decide)).trans (arg4_kept m d),
      (hr.1 d (Proc.devRef .tc main_arg5) (by decide)).trans (arg5_kept m d),
      (hr.1 d (Proc.devRef .tc main_arg6) (by decide)).trans (arg6_kept m d),
      (hr.1 d (Proc.devRef .tc main_arg7) (by decide)).trans (arg7_kept m d),
      (hr.1 d (Proc.devRef .tc main_arg8) (by decide)).trans (arg8_kept m d),
      (hr.1 d (Proc.devRef .tc main_arg9) (by decide)).trans (arg9_kept m d),
      (hr.1 d (Proc.devRef .tc main_arg10) (by decide)).trans (arg10_kept m d)⟩, hr.2⟩) (run_main m ρ (preOK m h))

end Cert.Proof.GatherI

end
-- ==== Proof.KerVal.lean ====
/-
  What the kernel's two pipelined calls begin at, over the extended reals: the gathered rows and the padded weights are
  the reference's with zeros beside them, so each row's states are the reference's, and the attention's call begins at them.
-/
module

public import proofs.«01_k».proof.Proof.Take
public import proofs.«01_k».proof.Proof.AttnVal
public import proofs.«01_k».proof.Proof.LaunchI
public import proofs.«01_k».proof.Proof.BlocksI

@[expose] public section

set_option maxRecDepth 16384

noncomputable section

namespace Cert.Proof.GatherI

open Cert.KernelIdeal Cert.KernelIdeal.Gen

open Idealize.ShloMosaic Idealize.ShloMosaic.TcCoe Idealize.SL.Sem
open Cert.Proof.Spec

variable (m : (ℓ : Loc nD τ sig) → Buf (Elt Ideal) ℓ) (d : Dev nD)

/-! ## The arguments by name -/

abbrev aIx : IVec S1024x200 32 := m ((SparseCore.T d : Thread nD τ).loc main_arg0)
abbrev aTab : FVec Ideal S20000x64 .f32 := m ((SparseCore.T d : Thread nD τ).loc main_arg1)
abbrev aWf : FVec Ideal S64x512 .f32 := m ((SparseCore.T d : Thread nD τ).loc main_arg2)
abbrev aUf : FVec Ideal S128x512 .f32 := m ((SparseCore.T d : Thread nD τ).loc main_arg3)
abbrev aBf : FVec Ideal S512 .f32 := m ((SparseCore.T d : Thread nD τ).loc main_arg4)
abbrev aWb : FVec Ideal S64x512 .f32 := m ((SparseCore.T d : Thread nD τ).loc main_arg5)
abbrev aUb : FVec Ideal S128x512 .f32 := m ((SparseCore.T d : Thread nD τ).loc main_arg6)
abbrev aBb : FVec Ideal S512 .f32 := m ((SparseCore.T d : Thread nD τ).loc main_arg7)
abbrev aWv : FVec Ideal S512x128 .f32 := m ((SparseCore.T d : Thread nD τ).loc main_arg8)
abbrev aWd : FVec Ideal S128x2 .f32 := m ((SparseCore.T d : Thread nD τ).loc main_arg9)
abbrev aBd : FVec Ideal S2 .f32 := m ((SparseCore.T d : Thread nD τ).loc main_arg10)

/-! ## The host operations' results -/

/-- The padding's value is zero. -/
theorem zero_apply : (sitofp .f32 (constantI S_ 32 0#32) : FVec Ideal S_ .f32) (Shape.Idx.first h_S_) = 0 := by
  show (((0#32 : BitVec 32).toInt : ℝ) : EReal) = 0
  simp

/-- A weight padded below with zeros, read at one place. -/
theorem padW_apply (w : FVec Ideal S64x512 .f32) (k : Fin 128) (j : Fin 512) :
    pad S128x512 ![0, 0] ![64, 0] ![0, 0] w (sitofp .f32 (constantI S_ 32 0#32)) pads_S64x512_S128x512_0640_000 h_S_ (ix2 k j)
      = if h : k.val < 64 then w (ix2 ⟨k.val, h⟩ j) else 0 := by
  rw [← zero_apply]
  unfold pad
  by_cases hk : k.val < 64
  · rw [dif_pos hk, dif_pos (fun a => by
      match a with
      | ⟨0, _⟩ => exact ⟨Nat.zero_le _, Nat.mod_one _, by show (k.val - 0) / 1 < 64; omega⟩
      | ⟨1, _⟩ => exact ⟨Nat.zero_le _, Nat.mod_one _, by show (j.val - 0) / 1 < 512; omega⟩)]
    exact congrArg w (Shape.idx_ext₂ (show (k.val - 0) / 1 = k.val by omega) (show (j.val - 0) / 1 = j.val by omega))
  · rw [dif_neg hk, dif_neg (fun h => hk (by
      have h1 : (k.val - 0) / 1 < 64 := (h 0).2.2
      omega))]

/-- The padded table read at the row a word names. -/
theorem xc_apply (w w' : BitVec 32) (e : w = w') (hw : w'.toNat < 20000) (c : Fin 128) :
    (xc m d : FVec Ideal S20000x128 .f32) (fun | 0 => Fin.ofNat 20000 w.toNat | 1 => c)
      = if hk : c.val < 64 then aTab m d (ix2 ⟨w'.toNat, hw⟩ ⟨c.val, hk⟩) else 0 := by
  subst e
  rw [xc_eq, ← zero_apply]
  unfold pad
  by_cases hk : c.val < 64
  · rw [dif_pos hk, dif_pos (fun a => by
      match a with
      | ⟨0, _⟩ => exact ⟨Nat.zero_le _, Nat.mod_one _, by show ((w.toNat % 20000) - 0) / 1 < 20000; omega⟩
      | ⟨1, _⟩ => exact ⟨Nat.zero_le _, Nat.mod_one _, by show (c.val - 0) / 1 < 64; omega⟩)]
    exact congrArg (aTab m d) (Shape.idx_ext₂ (show ((w.toNat % 20000) - 0) / 1 = w.toNat by omega) (show (c.val - 0) / 1 = c.val by omega))
  · rw [dif_neg hk, dif_neg (fun h => hk (by
      have h1 : (c.val - 0) / 1 < 64 := (h 1).2.2
      omega))]

/-- The indices at the call, step after step. -/
theorem ic_apply (t : Fin 200) (r : Fin 1024) (j : Fin 204800) (hj : j.val = t.val * 1024 + r.val) :
    (ic m d : IVec S204800 32) (fun | 0 => j) = aIx m d (ix2 r t) := by
  rw [ic_eq, shapeCast_apply _ _ _ (k := (ix2 t r : S200x1024.Idx)) ?_, transpose_apply _ _ _ _ (ix2 r t) ?_]
  · intro b
    match b with
    | ⟨0, _⟩ => rfl
    | ⟨1, _⟩ => rfl
  · rw [Shape.rowMajor_val_two, Shape.rowMajor_val_one]
    exact hj.symm

theorem V₂_x : V₂ m d (Proc.devRef .tc main_v6) = shapeCast S200x1024x128 (gat (ic m) (xc m) d) shapeCasts_S204800x128_S200x1024x128 := by
  rw [← V₁_same]
  unfold V₂ ops₁
  after_reads_simp
  rfl

/-- The recurrences' inputs: the rows the reference looks up, zeros beside them. -/
theorem x_apply (hx : ∀ i, (aIx m d i).toNat < 20000) (t : Fin 200) (r : Fin 1024) (k : Fin 128) :
    (V₂ m d (Proc.devRef .tc main_v6) : Vec Ideal S200x1024x128 .f32) (ix3 t r k)
      = if h : k.val < 64 then Ref.steps (aIx m d) (aTab m d) (ix3 t r ⟨k.val, h⟩) else 0 := by
  have ht : t.val * 1024 + r.val < 204800 := by omega
  rw [V₂_x, shapeCast_apply _ _ _ (k := (ix2 ⟨t.val * 1024 + r.val, ht⟩ k : S204800x128.Idx)) ?_]
  · unfold gat
    refine (xc_apply m d _ _ (ic_apply m d t r ⟨t.val * 1024 + r.val, ht⟩ rfl) (hx _) k).trans ?_
    by_cases hk : k.val < 64
    · rw [dif_pos hk, dif_pos hk, Ref.steps_apply _ hx]
    · rw [dif_neg hk, dif_neg hk]
  · rw [Shape.rowMajor_val_two, Shape.rowMajor_val_three]
    rfl

theorem V₂_Wf : V₂ m d (Proc.devRef .tc main_v3) = pad S128x512 ![0, 0] ![64, 0] ![0, 0] (aWf m d) (sitofp .f32 (constantI S_ 32 0#32)) pads_S64x512_S128x512_0640_000 h_S_ := by
  refine Eq.trans (b := V₁ m d (Proc.devRef .tc main_v3)) (by unfold V₂ ops₁; after_reads_simp) ((V₁_ne m d (by decide)).trans ?_)
  unfold V₀
  after_reads_simp
  rfl
theorem V₂_Wb : V₂ m d (Proc.devRef .tc main_v4) = pad S128x512 ![0, 0] ![64, 0] ![0, 0] (aWb m d) (sitofp .f32 (constantI S_ 32 0#32)) pads_S64x512_S128x512_0640_000 h_S_ := by
  refine Eq.trans (b := V₁ m d (Proc.devRef .tc main_v4)) (by unfold V₂ ops₁; after_reads_simp) ((V₁_ne m d (by decide)).trans ?_)
  unfold V₀
  after_reads_simp
  rfl

/-- An argument the first two calls' host operations leave. -/
theorem V₁_arg (b : Ref sig .tc) (h1 : Proc.devRef .tc b ≠ (Proc.devRef .tc main_v5 : DevRef τ sig)) (h0 : StableHlo.after ops₀ (fun b => m (d, b)) (Proc.devRef .tc b) = m ((SparseCore.T d : Thread nD τ).loc b)) :
    V₁ m d (Proc.devRef .tc b) = m ((SparseCore.T d : Thread nD τ).loc b) := (V₁_ne m d h1).trans h0

theorem V₂_Uf : V₂ m d (Proc.devRef .tc main_arg3) = aUf m d :=
  Eq.trans (b := V₁ m d (Proc.devRef .tc main_arg3)) (by unfold V₂ ops₁; after_reads_simp) (V₁_arg m d main_arg3 (by decide) (by unfold ops₀; after_reads_simp))
theorem V₂_Ub : V₂ m d (Proc.devRef .tc main_arg6) = aUb m d :=
  Eq.trans (b := V₁ m d (Proc.devRef .tc main_arg6)) (by unfold V₂ ops₁; after_reads_simp) (V₁_arg m d main_arg6 (by decide) (by unfold ops₀; after_reads_simp))
theorem V₂_bf : V₂ m d (Proc.devRef .tc main_v7) = shapeCast S1x512 (aBf m d) shapeCasts_S512_S1x512 := by
  have e := V₁_arg m d main_arg4 (by decide) (by unfold ops₀; after_reads_simp)
  unfold aBf
  rw [← e]
  unfold V₂ ops₁
  after_reads_simp
  rfl
theorem V₂_bb : V₂ m d (Proc.devRef .tc main_v8) = shapeCast S1x512 (aBb m d) shapeCasts_S512_S1x512 := by
  have e := V₁_arg m d main_arg7 (by decide) (by unfold ops₀; after_reads_simp)
  unfold aBb
  rw [← e]
  unfold V₂ ops₁
  after_reads_simp
  rfl

theorem flat512_apply (b : FVec Ideal S512 .f32) (j : Fin 512) : shapeCast S1x512 b shapeCasts_S512_S1x512 (ix2 0 j) = b (ix1 j) := by
  rw [shapeCast_apply _ _ _ (k := (ix1 j : S512.Idx)) ?_]
  rw [Shape.rowMajor_val_two, Shape.rowMajor_val_one]
  show j.val = 0 * 512 + j.val
  omega
theorem flat2_apply (b : FVec Ideal S2 .f32) (j : Fin 2) : shapeCast S1x2 b shapeCasts_S2_S1x2 (ix2 0 j) = b (ix1 j) := by
  rw [shapeCast_apply _ _ _ (k := (ix1 j : S2.Idx)) ?_]
  rw [Shape.rowMajor_val_two, Shape.rowMajor_val_one]
  show j.val = 0 * 2 + j.val
  omega

/-! ## The states -/

variable (hx : ∀ i, (aIx m d i).toNat < 20000) (r : Fin 1024)
include hx

/-- A row's forward states are the reference's. -/
theorem kF_rows (n : ℕ) (hn : n ≤ 200) : kF (V₂ m d) r n = Ref.rows r (Ref.steps (aIx m d) (aTab m d)) (aWf m d) (aUf m d) (aBf m d) n := by
  unfold kF Ref.rows
  rw [V₂_Uf, V₂_bf, show (fun j => (shapeCast S1x512 (aBf m d) shapeCasts_S512_S1x512 : Vec Ideal S1x512 .f32) (ix2 0 j)) = fun j => aBf m d (ix1 j) from funext fun j => flat512_apply _ j]
  refine lstm_pad _ _ _ _ _ _ 200 (fun n h k => ?_) (fun k j => ?_) n hn
  · unfold xF
    exact x_apply m d hx _ r k
  · rw [V₂_Wf]
    exact padW_apply _ k j
/-- A row's backward states are the reference's. -/
theorem kB_rows (n : ℕ) (hn : n ≤ 200) : kB (V₂ m d) r n = Ref.rows r (Host.reverse [0] (Ref.steps (aIx m d) (aTab m d))) (aWb m d) (aUb m d) (aBb m d) n := by
  unfold kB Ref.rows
  rw [V₂_Ub, V₂_bb, show (fun j => (shapeCast S1x512 (aBb m d) shapeCasts_S512_S1x512 : Vec Ideal S1x512 .f32) (ix2 0 j)) = fun j => aBb m d (ix1 j) from funext fun j => flat512_apply _ j]
  refine lstm_pad _ _ _ _ _ _ 200 (fun n h k => ?_) (fun k j => ?_) n hn
  · unfold xB
    rw [x_apply m d hx _ r k]
    by_cases hk : k.val < 64
    · rw [dif_pos hk, dif_pos hk, Ref.reversed_apply]
      exact congrArg (fun t => Ref.steps (aIx m d) (aTab m d) (ix3 t r ⟨k.val, hk⟩)) (Fin.ext (show 199 - n = 199 - n % 200 by rw [Nat.mod_eq_of_lt h]))
    · rw [dif_neg hk, dif_neg hk]
  · rw [V₂_Wb]
    exact padW_apply _ k j
omit hx

/-! ## What the attention's call begins at -/

theorem V₄_f : V₄ m d (Proc.devRef .tc main_v9_0) = (dat1 d (V₂ m d)).arrAt 8 cfg1.N :=
  Eq.trans (b := V₃ m d (Proc.devRef .tc main_v9_0)) (by unfold V₄ ops₂; after_reads_simp) (after1_0 d (V₂ m d))
theorem V₄_b : V₄ m d (Proc.devRef .tc main_v9_1) = (dat1 d (V₂ m d)).arrAt 9 cfg1.N :=
  Eq.trans (b := V₃ m d (Proc.devRef .tc main_v9_1)) (by unfold V₄ ops₂; after_reads_simp) (after1_1 d (V₂ m d))
theorem V₄_h : V₄ m d (Proc.devRef .tc main_v9_2) = (dat1 d (V₂ m d)).arrAt 10 cfg1.N :=
  Eq.trans (b := V₃ m d (Proc.devRef .tc main_v9_2)) (by unfold V₄ ops₂; after_reads_simp) (after1_2 d (V₂ m d))

/-- An argument the recurrences' call leaves. -/
theorem V₃_arg (b : Ref sig .tc) (h30 : Proc.devRef .tc b ≠ (Proc.devRef .tc main_v9_0 : DevRef τ sig)) (h31 : Proc.devRef .tc b ≠ (Proc.devRef .tc main_v9_1 : DevRef τ sig)) (h32 : Proc.devRef .tc b ≠ (Proc.devRef .tc main_v9_2 : DevRef τ sig))
    (h2 : StableHlo.after ops₁ (V₁ m d) (Proc.devRef .tc b) = V₁ m d (Proc.devRef .tc b)) (h1 : Proc.devRef .tc b ≠ (Proc.devRef .tc main_v5 : DevRef τ sig))
    (h0 : StableHlo.after ops₀ (fun b => m (d, b)) (Proc.devRef .tc b) = m ((SparseCore.T d : Thread nD τ).loc b)) : V₃ m d (Proc.devRef .tc b) = m ((SparseCore.T d : Thread nD τ).loc b) :=
  (after1_ne d _ h30 h31 h32).trans (h2.trans (V₁_arg m d b h1 h0))
theorem V₄_Wv : V₄ m d (Proc.devRef .tc main_arg8) = aWv m d :=
  Eq.trans (b := V₃ m d (Proc.devRef .tc main_arg8)) (by unfold V₄ ops₂; after_reads_simp)
    (V₃_arg m d main_arg8 (by decide) (by decide) (by decide) (by unfold ops₁; after_reads_simp) (by decide) (by unfold ops₀; after_reads_simp))
theorem V₄_Wd : V₄ m d (Proc.devRef .tc main_arg9) = aWd m d :=
  Eq.trans (b := V₃ m d (Proc.devRef .tc main_arg9)) (by unfold V₄ ops₂; after_reads_simp)
    (V₃_arg m d main_arg9 (by decide) (by decide) (by decide) (by unfold ops₁; after_reads_simp) (by decide) (by unfold ops₀; after_reads_simp))
theorem V₄_bd : V₄ m d (Proc.devRef .tc main_v10) = shapeCast S1x2 (aBd m d) shapeCasts_S2_S1x2 := by
  have e := V₃_arg m d main_arg10 (by decide) (by decide) (by decide) (by unfold ops₁; after_reads_simp) (by decide) (by unfold ops₀; after_reads_simp)
  unfold aBd
  rw [← e]
  unfold V₄ ops₂
  after_reads_simp
  rfl

theorem scan_bound {n : ℕ} (h : n < 200) : n < cfg1.N := by rw [show cfg1.N = 200 from N_1]; exact h

/-- The forward direction's hidden states, the backward's, and the maxima over the steps, as the attention's call finds them. -/
theorem f_apply (t : Fin 200) (u : Fin 128) : (V₄ m d (Proc.devRef .tc main_v9_0) : Vec Ideal S200x1024x128 .f32) (ix3 t r u) = (kF (V₂ m d) r (t.val + 1)).1 u := by
  rw [V₄_f]
  exact (arr1_8 d (V₂ m d) t r u).trans ((scanAt_ok (V₂ m d) r t.val (scan_bound t.isLt)).of u)
theorem b_apply (t : Fin 200) (u : Fin 128) : (V₄ m d (Proc.devRef .tc main_v9_1) : Vec Ideal S200x1024x128 .f32) (ix3 t r u) = (kB (V₂ m d) r (199 - t.val + 1)).1 u := by
  rw [V₄_b]
  exact (arr1_9 d (V₂ m d) t r u).trans ((scanAt_ok (V₂ m d) r (199 - t.val) (scan_bound (by omega))).ob u)
theorem l_apply (u : Fin 128) : (V₄ m d (Proc.devRef .tc main_v9_2) : Vec Ideal S1024x256 .f32) (ix2 r ⟨u.val, by omega⟩) = peak (fun i => (kF (V₂ m d) r (i + 1)).1 u) 199 := by
  rw [V₄_h]
  exact (arr1_10 d (V₂ m d) r _).trans ((hL_apply r u _).symm.trans ((scanAt_ok (V₂ m d) r 199 (scan_bound (by decide))).hL u))
theorem h_apply (u : Fin 128) : (V₄ m d (Proc.devRef .tc main_v9_2) : Vec Ideal S1024x256 .f32) (ix2 r ⟨128 + u.val, by omega⟩) = peak (fun i => (kB (V₂ m d) r (i + 1)).1 u) 199 := by
  rw [V₄_h]
  exact (arr1_10 d (V₂ m d) r _).trans ((hR_apply r u _).symm.trans ((scanAt_ok (V₂ m d) r 199 (scan_bound (by decide))).hR u))

end Cert.Proof.GatherI

end
-- ==== Proof.Value.lean ====
/-
  The kernel's result is the reference's: each row's hidden states and maxima are real and the same in both, and both
  results are the head over them.
-/
module

public import proofs.«01_k».proof.Proof.KerVal

@[expose] public section

set_option maxRecDepth 16384

noncomputable section

namespace Cert.Proof.Value

open Idealize.ShloMosaic Idealize.ShloMosaic.TcCoe Idealize.SL.Sem
open Cert.Proof.Spec
open Cert.ReferenceIdeal (S200x1024x128 S1024x2)
open Cert.Proof.GatherI (aIx aTab aWf aUf aBf aWb aUb aBb aWv aWd aBd V₂ V₄)

theorem peak_congr {f g : ℕ → EReal} {n : ℕ} (h : ∀ i ≤ n, f i = g i) : peak f n = peak g n :=
  eq_of_forall_ge_iff fun x => by
    rw [peak_le_iff, peak_le_iff]
    exact ⟨fun k i hi => h i hi ▸ k i hi, fun k i hi => (h i hi).symm ▸ k i hi⟩
/-- A maximum over the steps taken from the last to the first. -/
theorem peak_rev (g : ℕ → EReal) (n : ℕ) : peak (fun i => g (n - i)) n = peak g n :=
  eq_of_forall_ge_iff fun x => by
    rw [peak_le_iff, peak_le_iff]
    exact ⟨fun h i hi => by have e := h (n - i) (Nat.sub_le _ _); rwa [Nat.sub_sub_self hi] at e, fun h i _ => h _ (Nat.sub_le _ _)⟩

variable (m : (ℓ : Loc Cert.KernelIdeal.nD Cert.KernelIdeal.τ Cert.KernelIdeal.sig) → Buf (Elt Ideal) ℓ)
  (d : Dev Cert.KernelIdeal.nD) (hx : ∀ i, (aIx m d i).toNat < 20000)
include hx

/-- A row's real states and maxima: the kernel's arrays hold them, and so do the reference's stacks. -/
theorem row_reals (f b : FVec Ideal S200x1024x128 .f32) (r : Fin 1024)
    (hf : ∀ (t : Fin 200) u, f (ix3 t r u) = (Ref.rows r (Ref.steps (aIx m d) (aTab m d)) (aWf m d) (aUf m d) (aBf m d) (t.val + 1)).1 u)
    (hb : ∀ (t : Fin 200) u, b (ix3 t r u) = (Ref.rows r (Host.reverse [0] (Ref.steps (aIx m d) (aTab m d))) (aWb m d) (aUb m d) (aBb m d) (t.val + 1)).1 u) :
    ∃ (gf gb : ℕ → Fin 128 → ℝ) (pf pb : Fin 128 → ℝ), GatherI.AttnIn (V₄ m d) r gf gb pf pb ∧ Ref.RefIn f b r gf gb pf pb := by
  obtain ⟨gf, hgf⟩ := lstm_real (fun n k => Ref.steps (aIx m d) (aTab m d) (ix3 ⟨n % 200, Nat.mod_lt _ (by decide)⟩ r k)) (fun k j => aWf m d (ix2 k j)) (fun k j => aUf m d (ix2 k j)) (fun j => aBf m d (ix1 j))
  obtain ⟨gb, hgb⟩ := lstm_real (fun n k => Host.reverse [0] (Ref.steps (aIx m d) (aTab m d)) (ix3 ⟨n % 200, Nat.mod_lt _ (by decide)⟩ r k)) (fun k j => aWb m d (ix2 k j)) (fun k j => aUb m d (ix2 k j)) (fun j => aBb m d (ix1 j))
  have hpf : ∀ u, ∃ p : ℝ, peak (fun i => (gf i u : EReal)) 199 = p := fun u => peak_real (fun i => gf i u) 199
  have hpb : ∀ u, ∃ p : ℝ, peak (fun i => (gb i u : EReal)) 199 = p := fun u => peak_real (fun i => gb i u) 199
  choose pf hpf using hpf
  choose pb hpb using hpb
  have kF : ∀ n u, n < 200 → (GatherI.kF (V₂ m d) r (n + 1)).1 u = gf n u := fun n u hn => by
    rw [GatherI.kF_rows m d hx r (n + 1) hn]; exact hgf n u
  have kB : ∀ n u, n < 200 → (GatherI.kB (V₂ m d) r (n + 1)).1 u = gb n u := fun n u hn => by
    rw [GatherI.kB_rows m d hx r (n + 1) hn]; exact hgb n u
  refine ⟨gf, fun t => gb (199 - t), pf, pb, ⟨fun t u => ?_, fun t u => ?_, fun u => ?_, fun u => ?_⟩, ⟨fun t u => ?_, fun t u => ?_, fun u => hpf u, fun u => ?_⟩⟩
  · exact (GatherI.f_apply m d r t u).trans (kF _ u t.isLt)
  · exact (GatherI.b_apply m d r t u).trans (kB _ u (by omega))
  · exact (GatherI.l_apply m d r u).trans ((peak_congr fun i hi => kF i u (by omega)).trans (hpf u))
  · exact (GatherI.h_apply m d r u).trans ((peak_congr fun i hi => kB i u (by omega)).trans (hpb u))
  · exact (hf t u).trans (hgf _ u)
  · exact (hb _ u).trans (hgb _ u)
  · exact (peak_rev (fun i => (gb i u : EReal)) 199).trans (hpb u)

/-- The kernel's result is the head over the reference's stacks. -/
theorem result_eq (f b : FVec Ideal S200x1024x128 .f32)
    (hf : ∀ r (t : Fin 200) u, f (ix3 t r u) = (Ref.rows r (Ref.steps (aIx m d) (aTab m d)) (aWf m d) (aUf m d) (aBf m d) (t.val + 1)).1 u)
    (hb : ∀ r (t : Fin 200) u, b (ix3 t r u) = (Ref.rows r (Host.reverse [0] (Ref.steps (aIx m d) (aTab m d))) (aWb m d) (aUb m d) (aBb m d) (t.val + 1)).1 u) :
    ((GatherI.dat2 d (V₄ m d)).arrAt 6 Cert.KernelIdeal.cfg2.N : FVec Ideal S1024x2 .f32)
      = Ref.norm2 (Ref.exps2 (Ref.log2 (Ref.sq2 (Ref.pre2 (Ref.ctx2 f b) (Ref.top2 f b)) (aWv m d)) (aWd m d) (aBd m d))) := by
  funext i
  obtain ⟨r, j, rfl⟩ : ∃ r j, i = ix2 r j := ⟨i 0, i 1, eq_ix2 i⟩
  obtain ⟨gf, gb, pf, pb, hk, hr⟩ := row_reals m d hx f b r (hf r) (hb r)
  refine (GatherI.arr2_6 d (V₄ m d) r j).trans ((GatherI.attnRes_apply hk _ (GatherI.attnAt_ok hk 199 _) _ j).trans ?_)
  rw [Ref.out_apply hr, GatherI.V₄_Wv, GatherI.V₄_Wd, GatherI.V₄_bd]
  refine congrArg (fun q => rowOut gf gb pf pb _ _ q j) (funext fun j => ?_)
  exact GatherI.flat2_apply _ j

/-- The reference's result, from arguments that are the kernel's. -/
theorem reference_eq (m' : (ℓ : Loc Cert.ReferenceIdeal.nD Cert.ReferenceIdeal.τ Cert.ReferenceIdeal.sig) → Buf (Elt Ideal) ℓ) (c : Dev Cert.ReferenceIdeal.nD)
    (e0 : m' ((c.tc : Thread Cert.ReferenceIdeal.nD Cert.ReferenceIdeal.τ).loc Cert.ReferenceIdeal.main_arg0) = aIx m d)
    (e1 : m' ((c.tc : Thread Cert.ReferenceIdeal.nD Cert.ReferenceIdeal.τ).loc Cert.ReferenceIdeal.main_arg1) = aTab m d)
    (e2 : m' ((c.tc : Thread Cert.ReferenceIdeal.nD Cert.ReferenceIdeal.τ).loc Cert.ReferenceIdeal.main_arg2) = aWf m d)
    (e3 : m' ((c.tc : Thread Cert.ReferenceIdeal.nD Cert.ReferenceIdeal.τ).loc Cert.ReferenceIdeal.main_arg3) = aUf m d)
    (e4 : m' ((c.tc : Thread Cert.ReferenceIdeal.nD Cert.ReferenceIdeal.τ).loc Cert.ReferenceIdeal.main_arg4) = aBf m d)
    (e5 : m' ((c.tc : Thread Cert.ReferenceIdeal.nD Cert.ReferenceIdeal.τ).loc Cert.ReferenceIdeal.main_arg5) = aWb m d)
    (e6 : m' ((c.tc : Thread Cert.ReferenceIdeal.nD Cert.ReferenceIdeal.τ).loc Cert.ReferenceIdeal.main_arg6) = aUb m d)
    (e7 : m' ((c.tc : Thread Cert.ReferenceIdeal.nD Cert.ReferenceIdeal.τ).loc Cert.ReferenceIdeal.main_arg7) = aBb m d)
    (e8 : m' ((c.tc : Thread Cert.ReferenceIdeal.nD Cert.ReferenceIdeal.τ).loc Cert.ReferenceIdeal.main_arg8) = aWv m d)
    (e9 : m' ((c.tc : Thread Cert.ReferenceIdeal.nD Cert.ReferenceIdeal.τ).loc Cert.ReferenceIdeal.main_arg9) = aWd m d)
    (e10 : m' ((c.tc : Thread Cert.ReferenceIdeal.nD Cert.ReferenceIdeal.τ).loc Cert.ReferenceIdeal.main_arg10) = aBd m d) :
    Cert.ReferenceIdeal.Value.out_main_v45 (F := Ideal) (Cert.ReferenceIdeal.Value.STEP^[200] (StableHlo.entryContents Cert.ReferenceIdeal.Value.preI m' c))
      = (GatherI.dat2 d (V₄ m d)).arrAt 6 Cert.KernelIdeal.cfg2.N := by
  have ok := fun r => Ref.loop_ok (Ref.entry_ok m' c r) 200 le_rfl
  rw [e0, e1, e2, e3, e4, e5, e6, e7] at ok
  rw [Ref.out_eq, Cert.ReferenceIdeal.Value.iter_main_arg8, Cert.ReferenceIdeal.Value.iter_main_arg9, Cert.ReferenceIdeal.Value.iter_main_arg10, e8, e9, e10]
  exact (result_eq m d hx _ _ (fun r t u => (ok r).sf t u t.isLt) (fun r t u => (ok r).sb t u t.isLt)).symm

end Cert.Proof.Value

end
-- ==== Proof.lean ====
/-
  The claims of the whole kernel: it runs, at the machine's floats and at the ideal ones, and keeps its arguments; so does
  the reference; and from the same arguments the kernel's result is the reference's.
-/
module

public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_in_range
public import proofs.«01_k».proof.Proof.LaunchB
public import proofs.«01_k».proof.Proof.Value

@[expose] public section

noncomputable section

namespace Cert.Proof

open Idealize.ShloMosaic Idealize.SL.Sem

/-- The kernel runs at the machine's floats, keeps its arguments and leaves every counter at zero. -/
theorem frame_p : Cert.quiescent_Kernel := fun m ρ hpre =>
  (θ_run Cert.Kernel.defs _ _).mono (fun _ h => ⟨fun c => (h.1 c).2, h.2⟩) (GatherB.run_value (F := Bits) m ρ hpre)

/-- And so at the ideal ones. -/
theorem frame_pi : Cert.quiescent_KernelIdeal := fun m ρ hpre =>
  (θ_run Cert.KernelIdeal.defs _ _).mono (fun _ h => ⟨fun c => (h.1 c).2, h.2⟩) (GatherI.run_value (F := Ideal) m ρ hpre)

/-- The reference runs, keeps its arguments and leaves every counter at zero. -/
theorem frame_ri : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

/-- The same where the indices are in range. -/
theorem frame_ri_pre : Cert.quiescent_ReferenceIdeal_pre_in_range := fun m ρ _ =>
  (θ_run Cert.ReferenceIdeal.defs _ _).mono (fun r h => ⟨fun c => (h c).2, sem_eq_zero_of_no_sems (by decide) r.2⟩) (Cert.ReferenceIdeal.Value.run (F := Ideal) m ρ)

/-- From the same arguments the kernel's result is the reference's. -/
theorem value : Cert.algebraic_KernelIdeal_ReferenceIdeal := by
  intro m ρ m' ρ' hpre hargs
  refine ⟨fun d => (GatherI.dat2 d (GatherI.V₄ m d)).arrAt 6 Cert.KernelIdeal.cfg2.N,
    (θ_run Cert.KernelIdeal.defs _ _).mono (fun _ h => h.1) (GatherI.run_value (F := Ideal) m ρ hpre),
    (θ_run Cert.ReferenceIdeal.defs _ _).mono (fun _ h c => ⟨(h c).1.trans ?_, (h c).2⟩) (Cert.ReferenceIdeal.Value.run (F := Ideal) m' ρ')⟩
  obtain ⟨e0, e1, e2, e3, e4, e5, e6, e7, e8, e9, e10⟩ := hargs c
  exact Value.reference_eq m c (GatherI.lt_of_pre _ _ _ _ _ _ _ _ _ _ _ (hpre c)) m' c e0 e1 e2 e3 e4 e5 e6 e7 e8 e9 e10

theorem claim : Cert.Claim := ⟨Cert.Kernel.Gen.facts, Cert.KernelIdeal.Gen.facts, Cert.ReferenceIdeal.Gen.facts, Cert.Pre_in_range.Gen.facts,
  frame_p, frame_pi, frame_ri, frame_ri_pre, trivial, value⟩

end Cert.Proof

end
